-- ==== Defs.lean ====
def Pre_Hist (m : (ℓ : Loc Cert.Hist.nD Cert.Hist.τ Cert.Hist.sig) → Buf (Elt Bits) ℓ) : Prop :=
  True

def Pre_HistIdeal (m : (ℓ : Loc Cert.HistIdeal.nD Cert.HistIdeal.τ Cert.HistIdeal.sig) → Buf (Elt Ideal) ℓ) : Prop :=
  True

def Pre_HistRefIdeal (m : (ℓ : Loc Cert.HistRefIdeal.nD Cert.HistRefIdeal.τ Cert.HistRefIdeal.sig) → Buf (Elt Ideal) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsRefIdeal (m : (ℓ : Loc Cert.GradsRefIdeal.nD Cert.GradsRefIdeal.τ Cert.GradsRefIdeal.sig) → Buf (Elt Ideal) ℓ) : Prop :=
  True

def quiescent_Hist [hHist : Cert.Hist.Facts] : Prop :=
  ∀ (m : (ℓ : Loc Cert.Hist.nD Cert.Hist.τ Cert.Hist.sig) → Buf (Elt Bits) ℓ) (g : Dev Cert.Hist.nD → PrngReg), Pre_Hist m →
    θ_run (Cert.Hist.defs (F := Bits)) (Cert.Hist.threads (F := Bits)) ⟨m, fun _ => 0, g⟩ (fun r => (∀ c : Dev Cert.Hist.nD,
      r.2.mem ((c.tc : Thread Cert.Hist.nD Cert.Hist.τ).loc Cert.Hist.main_arg0) = m ((c.tc : Thread Cert.Hist.nD Cert.Hist.τ).loc Cert.Hist.main_arg0)
      ∧ r.2.mem ((c.tc : Thread Cert.Hist.nD Cert.Hist.τ).loc Cert.Hist.main_arg1) = m ((c.tc : Thread Cert.Hist.nD Cert.Hist.τ).loc Cert.Hist.main_arg1))
      ∧ r.2.sem = fun _ => 0)

def quiescent_HistIdeal [hHistIdeal : Cert.HistIdeal.Facts] : Prop :=
  ∀ (m : (ℓ : Loc Cert.HistIdeal.nD Cert.HistIdeal.τ Cert.HistIdeal.sig) → Buf (Elt Ideal) ℓ) (g : Dev Cert.HistIdeal.nD → PrngReg), Pre_HistIdeal m →
    θ_run (Cert.HistIdeal.defs (F := Ideal)) (Cert.HistIdeal.threads (F := Ideal)) ⟨m, fun _ => 0, g⟩ (fun r => (∀ c : Dev Cert.HistIdeal.nD,
      r.2.mem ((c.tc : Thread Cert.HistIdeal.nD Cert.HistIdeal.τ).loc Cert.HistIdeal.main_arg0) = m ((c.tc : Thread Cert.HistIdeal.nD Cert.HistIdeal.τ).loc Cert.HistIdeal.main_arg0)
      ∧ r.2.mem ((c.tc : Thread Cert.HistIdeal.nD Cert.HistIdeal.τ).loc Cert.HistIdeal.main_arg1) = m ((c.tc : Thread Cert.HistIdeal.nD Cert.HistIdeal.τ).loc Cert.HistIdeal.main_arg1))
      ∧ r.2.sem = fun _ => 0)

def quiescent_HistRefIdeal [hHistRefIdeal : Cert.HistRefIdeal.Facts] : Prop :=
  ∀ (m : (ℓ : Loc Cert.HistRefIdeal.nD Cert.HistRefIdeal.τ Cert.HistRefIdeal.sig) → Buf (Elt Ideal) ℓ) (g : Dev Cert.HistRefIdeal.nD → PrngReg), Pre_HistRefIdeal m →
    θ_run (Cert.HistRefIdeal.defs (F := Ideal)) (onTc (τ := Cert.HistRefIdeal.τ) (Cert.HistRefIdeal.main (F := Ideal))) ⟨m, fun _ => 0, g⟩ (fun r => (∀ c : Dev Cert.HistRefIdeal.nD,
      r.2.mem ((c.tc : Thread Cert.HistRefIdeal.nD Cert.HistRefIdeal.τ).loc Cert.HistRefIdeal.main_arg0) = m ((c.tc : Thread Cert.HistRefIdeal.nD Cert.HistRefIdeal.τ).loc Cert.HistRefIdeal.main_arg0)
      ∧ r.2.mem ((c.tc : Thread Cert.HistRefIdeal.nD Cert.HistRefIdeal.τ).loc Cert.HistRefIdeal.main_arg1) = m ((c.tc : Thread Cert.HistRefIdeal.nD Cert.HistRefIdeal.τ).loc Cert.HistRefIdeal.main_arg1))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0)
      ∧ r.2.mem ((c.tc : Thread Cert.Grads.nD Cert.Grads.τ).loc Cert.Grads.main_arg1) = m ((c.tc : Thread Cert.Grads.nD Cert.Grads.τ).loc Cert.Grads.main_arg1)
      ∧ r.2.mem ((c.tc : Thread Cert.Grads.nD Cert.Grads.τ).loc Cert.Grads.main_arg2) = m ((c.tc : Thread Cert.Grads.nD Cert.Grads.τ).loc Cert.Grads.main_arg2))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
      ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
      ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2))
      ∧ r.2.sem = fun _ => 0)

def quiescent_GradsRefIdeal [hGradsRefIdeal : Cert.GradsRefIdeal.Facts] : Prop :=
  ∀ (m : (ℓ : Loc Cert.GradsRefIdeal.nD Cert.GradsRefIdeal.τ Cert.GradsRefIdeal.sig) → Buf (Elt Ideal) ℓ) (g : Dev Cert.GradsRefIdeal.nD → PrngReg), Pre_GradsRefIdeal m →
    θ_run (Cert.GradsRefIdeal.defs (F := Ideal)) (onTc (τ := Cert.GradsRefIdeal.τ) (Cert.GradsRefIdeal.main (F := Ideal))) ⟨m, fun _ => 0, g⟩ (fun r => (∀ c : Dev Cert.GradsRefIdeal.nD,
      r.2.mem ((c.tc : Thread Cert.GradsRefIdeal.nD Cert.GradsRefIdeal.τ).loc Cert.GradsRefIdeal.main_arg0) = m ((c.tc : Thread Cert.GradsRefIdeal.nD Cert.GradsRefIdeal.τ).loc Cert.GradsRefIdeal.main_arg0)
      ∧ r.2.mem ((c.tc : Thread Cert.GradsRefIdeal.nD Cert.GradsRefIdeal.τ).loc Cert.GradsRefIdeal.main_arg1) = m ((c.tc : Thread Cert.GradsRefIdeal.nD Cert.GradsRefIdeal.τ).loc Cert.GradsRefIdeal.main_arg1)
      ∧ r.2.mem ((c.tc : Thread Cert.GradsRefIdeal.nD Cert.GradsRefIdeal.τ).loc Cert.GradsRefIdeal.main_arg2) = m ((c.tc : Thread Cert.GradsRefIdeal.nD Cert.GradsRefIdeal.τ).loc Cert.GradsRefIdeal.main_arg2))
      ∧ r.2.sem = fun _ => 0)

def preserves_Hist_HistIdeal : Prop :=
  True

def algebraic_HistIdeal_HistRefIdeal [hHistIdeal : Cert.HistIdeal.Facts] [hHistRefIdeal : Cert.HistRefIdeal.Facts] : Prop :=
  ∀ (m : (ℓ : Loc Cert.HistIdeal.nD Cert.HistIdeal.τ Cert.HistIdeal.sig) → Buf (Elt Ideal) ℓ) (g : Dev Cert.HistIdeal.nD → PrngReg)
    (m' : (ℓ : Loc Cert.HistRefIdeal.nD Cert.HistRefIdeal.τ Cert.HistRefIdeal.sig) → Buf (Elt Ideal) ℓ) (g' : Dev Cert.HistRefIdeal.nD → PrngReg), Pre_HistIdeal m →
    (∀ c : Dev Cert.HistIdeal.nD,
      m' ((c.tc : Thread Cert.HistRefIdeal.nD Cert.HistRefIdeal.τ).loc Cert.HistRefIdeal.main_arg0) = m ((c.tc : Thread Cert.HistIdeal.nD Cert.HistIdeal.τ).loc Cert.HistIdeal.main_arg0)
      ∧ m' ((c.tc : Thread Cert.HistRefIdeal.nD Cert.HistRefIdeal.τ).loc Cert.HistRefIdeal.main_arg1) = m ((c.tc : Thread Cert.HistIdeal.nD Cert.HistIdeal.τ).loc Cert.HistIdeal.main_arg1)) →
    ∃ (v0 : (c : Dev Cert.HistIdeal.nD) → Buf (Elt Ideal) ((c.tc : Thread Cert.HistIdeal.nD Cert.HistIdeal.τ).loc Cert.HistIdeal.main_v7)),
      θ_run (Cert.HistIdeal.defs (F := Ideal)) (Cert.HistIdeal.threads (F := Ideal)) ⟨m, fun _ => 0, g⟩ (fun r => ∀ c : Dev Cert.HistIdeal.nD,
          r.2.mem ((c.tc : Thread Cert.HistIdeal.nD Cert.HistIdeal.τ).loc Cert.HistIdeal.main_v7) = v0 c
          ∧ r.2.mem ((c.tc : Thread Cert.HistIdeal.nD Cert.HistIdeal.τ).loc Cert.HistIdeal.main_arg0) = m ((c.tc : Thread Cert.HistIdeal.nD Cert.HistIdeal.τ).loc Cert.HistIdeal.main_arg0)
          ∧ r.2.mem ((c.tc : Thread Cert.HistIdeal.nD Cert.HistIdeal.τ).loc Cert.HistIdeal.main_arg1) = m ((c.tc : Thread Cert.HistIdeal.nD Cert.HistIdeal.τ).loc Cert.HistIdeal.main_arg1))
      ∧ θ_run (Cert.HistRefIdeal.defs (F := Ideal)) (onTc (τ := Cert.HistRefIdeal.τ) (Cert.HistRefIdeal.main (F := Ideal))) ⟨m', fun _ => 0, g'⟩ (fun r => ∀ c : Dev Cert.HistRefIdeal.nD,
          r.2.mem ((c.tc : Thread Cert.HistRefIdeal.nD Cert.HistRefIdeal.τ).loc Cert.HistRefIdeal.main_v33) = v0 c
          ∧ r.2.mem ((c.tc : Thread Cert.HistRefIdeal.nD Cert.HistRefIdeal.τ).loc Cert.HistRefIdeal.main_arg0) = m' ((c.tc : Thread Cert.HistRefIdeal.nD Cert.HistRefIdeal.τ).loc Cert.HistRefIdeal.main_arg0)
          ∧ r.2.mem ((c.tc : Thread Cert.HistRefIdeal.nD Cert.HistRefIdeal.τ).loc Cert.HistRefIdeal.main_arg1) = m' ((c.tc : Thread Cert.HistRefIdeal.nD Cert.HistRefIdeal.τ).loc Cert.HistRefIdeal.main_arg1))

def preserves_Grads_GradsIdeal : Prop :=
  True

def algebraic_GradsIdeal_GradsRefIdeal [hGradsIdeal : Cert.GradsIdeal.Facts] [hGradsRefIdeal : Cert.GradsRefIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsRefIdeal.nD Cert.GradsRefIdeal.τ Cert.GradsRefIdeal.sig) → Buf (Elt Ideal) ℓ) (g' : Dev Cert.GradsRefIdeal.nD → PrngReg), Pre_GradsIdeal m →
    (∀ c : Dev Cert.GradsIdeal.nD,
      m' ((c.tc : Thread Cert.GradsRefIdeal.nD Cert.GradsRefIdeal.τ).loc Cert.GradsRefIdeal.main_arg0) = m ((c.tc : Thread Cert.GradsIdeal.nD Cert.GradsIdeal.τ).loc Cert.GradsIdeal.main_arg0)
      ∧ m' ((c.tc : Thread Cert.GradsRefIdeal.nD Cert.GradsRefIdeal.τ).loc Cert.GradsRefIdeal.main_arg1) = m ((c.tc : Thread Cert.GradsIdeal.nD Cert.GradsIdeal.τ).loc Cert.GradsIdeal.main_arg1)
      ∧ m' ((c.tc : Thread Cert.GradsRefIdeal.nD Cert.GradsRefIdeal.τ).loc Cert.GradsRefIdeal.main_arg2) = m ((c.tc : Thread Cert.GradsIdeal.nD Cert.GradsIdeal.τ).loc Cert.GradsIdeal.main_arg2)) →
    ∃ (v0 : (c : Dev Cert.GradsIdeal.nD) → Buf (Elt Ideal) ((c.tc : Thread Cert.GradsIdeal.nD Cert.GradsIdeal.τ).loc Cert.GradsIdeal.main_v9)) (v1 : (c : Dev Cert.GradsIdeal.nD) → Buf (Elt Ideal) ((c.tc : Thread Cert.GradsIdeal.nD Cert.GradsIdeal.τ).loc Cert.GradsIdeal.main_v10)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v9) = v0 c
          ∧ r.2.mem ((c.tc : Thread Cert.GradsIdeal.nD Cert.GradsIdeal.τ).loc Cert.GradsIdeal.main_v10) = v1 c
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
          ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
          ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2))
      ∧ θ_run (Cert.GradsRefIdeal.defs (F := Ideal)) (onTc (τ := Cert.GradsRefIdeal.τ) (Cert.GradsRefIdeal.main (F := Ideal))) ⟨m', fun _ => 0, g'⟩ (fun r => ∀ c : Dev Cert.GradsRefIdeal.nD,
          r.2.mem ((c.tc : Thread Cert.GradsRefIdeal.nD Cert.GradsRefIdeal.τ).loc Cert.GradsRefIdeal.main_v13) = v0 c
          ∧ r.2.mem ((c.tc : Thread Cert.GradsRefIdeal.nD Cert.GradsRefIdeal.τ).loc Cert.GradsRefIdeal.main_v20) = v1 c
          ∧ r.2.mem ((c.tc : Thread Cert.GradsRefIdeal.nD Cert.GradsRefIdeal.τ).loc Cert.GradsRefIdeal.main_arg0) = m' ((c.tc : Thread Cert.GradsRefIdeal.nD Cert.GradsRefIdeal.τ).loc Cert.GradsRefIdeal.main_arg0)
          ∧ r.2.mem ((c.tc : Thread Cert.GradsRefIdeal.nD Cert.GradsRefIdeal.τ).loc Cert.GradsRefIdeal.main_arg1) = m' ((c.tc : Thread Cert.GradsRefIdeal.nD Cert.GradsRefIdeal.τ).loc Cert.GradsRefIdeal.main_arg1)
          ∧ r.2.mem ((c.tc : Thread Cert.GradsRefIdeal.nD Cert.GradsRefIdeal.τ).loc Cert.GradsRefIdeal.main_arg2) = m' ((c.tc : Thread Cert.GradsRefIdeal.nD Cert.GradsRefIdeal.τ).loc Cert.GradsRefIdeal.main_arg2))

def Claim : Prop :=
  ∃ (hHist : Cert.Hist.Facts) (hHistIdeal : Cert.HistIdeal.Facts) (hHistRefIdeal : Cert.HistRefIdeal.Facts) (hGrads : Cert.Grads.Facts) (hGradsIdeal : Cert.GradsIdeal.Facts) (hGradsRefIdeal : Cert.GradsRefIdeal.Facts),
    quiescent_Hist (hHist := hHist)
    ∧ quiescent_HistIdeal (hHistIdeal := hHistIdeal)
    ∧ quiescent_HistRefIdeal (hHistRefIdeal := hHistRefIdeal)
    ∧ quiescent_Grads (hGrads := hGrads)
    ∧ quiescent_GradsIdeal (hGradsIdeal := hGradsIdeal)
    ∧ quiescent_GradsRefIdeal (hGradsRefIdeal := hGradsRefIdeal)
    ∧ preserves_Hist_HistIdeal
    ∧ algebraic_HistIdeal_HistRefIdeal (hHistIdeal := hHistIdeal) (hHistRefIdeal := hHistRefIdeal)
    ∧ preserves_Grads_GradsIdeal
    ∧ algebraic_GradsIdeal_GradsRefIdeal (hGradsIdeal := hGradsIdeal) (hGradsRefIdeal := hGradsRefIdeal)
-- ==== Hist.lean ====
abbrev S2097152x64 : Shape := ⟨2, ![2097152, 64]⟩
abbrev S10x2097152 : Shape := ⟨2, ![10, 2097152]⟩
abbrev S64x2097152 : Shape := ⟨2, ![64, 2097152]⟩
abbrev S16x4x2097152 : Shape := ⟨3, ![16, 4, 2097152]⟩
abbrev S16x2097152x4 : Shape := ⟨3, ![16, 2097152, 4]⟩
abbrev S16x2097152 : Shape := ⟨2, ![16, 2097152]⟩
abbrev S5x2x2097152 : Shape := ⟨3, ![5, 2, 2097152]⟩
abbrev S5x2097152x2 : Shape := ⟨3, ![5, 2097152, 2]⟩
abbrev S5x2097152 : Shape := ⟨2, ![5, 2097152]⟩
abbrev S10x64x256 : Shape := ⟨3, ![10, 64, 256]⟩
abbrev S8192 : Shape := ⟨1, ![8192]⟩
abbrev S24576 : Shape := ⟨1, ![24576]⟩
abbrev S81920 : Shape := ⟨1, ![81920]⟩
abbrev S256 : Shape := ⟨1, ![256]⟩
abbrev S2 : Shape := ⟨1, ![2]⟩
abbrev S16 : Shape := ⟨1, ![16]⟩
abbrev S4096 : Shape := ⟨1, ![4096]⟩
abbrev S1x4096 : Shape := ⟨2, ![1, 4096]⟩
abbrev S1 : Shape := ⟨1, ![1]⟩
abbrev S_ : Shape := ⟨0, ![]⟩
abbrev S1x1x256 : Shape := ⟨3, ![1, 1, 256]⟩

abbrev nBuf : Table → Nat
  | .hbm => 10
  | .local .scVector .vmem => 4
  | _ => 0

abbrev bufTy : (tb : Table) → Fin (nBuf tb) → BufTy
  | .hbm, ⟨0, _⟩ => ⟨S2097152x64, .i8⟩
  | .hbm, ⟨1, _⟩ => ⟨S10x2097152, .i16⟩
  | .hbm, ⟨2, _⟩ => ⟨S64x2097152, .i8⟩
  | .hbm, ⟨3, _⟩ => ⟨S16x4x2097152, .i8⟩
  | .hbm, ⟨4, _⟩ => ⟨S16x2097152x4, .i8⟩
  | .hbm, ⟨5, _⟩ => ⟨S16x2097152, .i32⟩
  | .hbm, ⟨6, _⟩ => ⟨S5x2x2097152, .i16⟩
  | .hbm, ⟨7, _⟩ => ⟨S5x2097152x2, .i16⟩
  | .hbm, ⟨8, _⟩ => ⟨S5x2097152, .i32⟩
  | .hbm, ⟨9, _⟩ => ⟨S10x64x256, .f32⟩
  | .local .scVector .vmem, ⟨0, _⟩ => ⟨S8192, .i32⟩
  | .local .scVector .vmem, ⟨1, _⟩ => ⟨S24576, .i32⟩
  | .local .scVector .vmem, ⟨2, _⟩ => ⟨S81920, .f32⟩
  | .local .scVector .vmem, ⟨3, _⟩ => ⟨S256, .f32⟩
  | _, _ => ⟨S2097152x64, .i8⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v3_scv : Ref sig .scVector := ⟨.hbm, 5, rfl⟩
abbrev main_v6_scv : Ref sig .scVector := ⟨.hbm, 8, rfl⟩
abbrev main_v7_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_11 : BitVec 32 := 0#32
  let c5120_i32 : BitVec 32 := 5120#32
  let v30 : BitVec 32 := Scalar.addi c0_i32_11 c5120_i32
  let c1_i32_12 : BitVec 32 := 1#32
  ⟨c0_i32_11, v30, c1_i32_12⟩
def k0_off1 (k0_t1 : Fin k0_t1_loop.trips) : Fin 1 → Nat :=
  let c0_i32_198 : BitVec 32 := 0#32
  let c0_i32_11 : BitVec 32 := 0#32
  let c1_i32_12 : BitVec 32 := 1#32
  let arg11 : BitVec 32 := Scf.iv c0_i32_11 c1_i32_12 k0_t1
  let c16_i32_197 : BitVec 32 := 16#32
  let v170 : BitVec 32 := Scalar.muli arg11 c16_i32_197
  let v171 : BitVec 32 := Scalar.addi c0_i32_198 v170
  let v173 : Index := Scalar.indexCast v171
  ![v173.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_22 : BitVec 32 := 0#32
  ![v18.toNat, 0]
def k0_off3 (i : grid0.Coords) (c0_i32_15 : BitVec 32) : Fin 2 → Nat :=
  let c2_i32_14 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v31 : BitVec 32 := Scalar.muli c2_i32_14 v28
  let v32 : BitVec 32 := Scalar.addi v31 c0_i32_15
  let c0_i32_27 : BitVec 32 := 0#32
  ![v32.toNat, 0]
@[reducible] def k0_t2_loop : Scf.Loop 32 :=
  let c0_i32_38 : BitVec 32 := 0#32
  let c256_i32 : BitVec 32 := 256#32
  let v69 : BitVec 32 := Scalar.addi c0_i32_38 c256_i32
  let c1_i32_39 : BitVec 32 := 1#32
  ⟨c0_i32_38, v69, c1_i32_39⟩
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_198 : BitVec 32 := 0#32
  let c0_i32_38 : BitVec 32 := 0#32
  let c1_i32_39 : BitVec 32 := 1#32
  let arg11 : BitVec 32 := Scf.iv c0_i32_38 c1_i32_39 k0_t2
  let c2_i32_197 : BitVec 32 := 2#32
  let v170 : BitVec 32 := Scalar.muli arg11 c2_i32_197
  let v171 : BitVec 32 := Scalar.addi c0_i32_198 v170
  let c1_i32_199 : BitVec 32 := 1#32
  let v172 : BitVec 32 := Scalar.addi v171 c1_i32_199
  let c4096_i32_200 : BitVec 32 := 4096#32
  let v173 : BitVec 32 := Scalar.muli v172 c4096_i32_200
  ![v18.toNat, v173.toNat]
def k0_off5 (i : grid0.Coords) (k0_t2 : Fin k0_t2_loop.trips) (c0_i32_202 : BitVec 32) : Fin 2 → Nat :=
  let c2_i32_201 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v174 : BitVec 32 := Scalar.muli c2_i32_201 v28
  let v175 : BitVec 32 := Scalar.addi v174 c0_i32_202
  let c0_i32_198 : BitVec 32 := 0#32
  let c0_i32_38 : BitVec 32 := 0#32
  let c1_i32_39 : BitVec 32 := 1#32
  let arg11 : BitVec 32 := Scf.iv c0_i32_38 c1_i32_39 k0_t2
  let c2_i32_197 : BitVec 32 := 2#32
  let v170 : BitVec 32 := Scalar.muli arg11 c2_i32_197
  let v171 : BitVec 32 := Scalar.addi c0_i32_198 v170
  let c1_i32_199 : BitVec 32 := 1#32
  let v172 : BitVec 32 := Scalar.addi v171 c1_i32_199
  let c4096_i32_200 : BitVec 32 := 4096#32
  let v173 : BitVec 32 := Scalar.muli v172 c4096_i32_200
  ![v175.toNat, v173.toNat]
def k0_off6 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_198 : BitVec 32 := 0#32
  let c0_i32_38 : BitVec 32 := 0#32
  let c1_i32_39 : BitVec 32 := 1#32
  let arg11 : BitVec 32 := Scf.iv c0_i32_38 c1_i32_39 k0_t2
  let c2_i32_197 : BitVec 32 := 2#32
  let v170 : BitVec 32 := Scalar.muli arg11 c2_i32_197
  let v171 : BitVec 32 := Scalar.addi c0_i32_198 v170
  let c4096_i32_216 : BitVec 32 := 4096#32
  let v212 : BitVec 32 := Scalar.muli v171 c4096_i32_216
  ![v18.toNat, v212.toNat]
def k0_off7 (i : grid0.Coords) (k0_t2 : Fin k0_t2_loop.trips) (c0_i32_218 : BitVec 32) : Fin 2 → Nat :=
  let c2_i32_217 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v213 : BitVec 32 := Scalar.muli c2_i32_217 v28
  let v214 : BitVec 32 := Scalar.addi v213 c0_i32_218
  let c0_i32_198 : BitVec 32 := 0#32
  let c0_i32_38 : BitVec 32 := 0#32
  let c1_i32_39 : BitVec 32 := 1#32
  let arg11 : BitVec 32 := Scf.iv c0_i32_38 c1_i32_39 k0_t2
  let c2_i32_197 : BitVec 32 := 2#32
  let v170 : BitVec 32 := Scalar.muli arg11 c2_i32_197
  let v171 : BitVec 32 := Scalar.addi c0_i32_198 v170
  let c4096_i32_216 : BitVec 32 := 4096#32
  let v212 : BitVec 32 := Scalar.muli v171 c4096_i32_216
  ![v214.toNat, v212.toNat]
@[reducible] def k0_t3_loop : Scf.Loop 32 :=
  let c0_i32_235 : BitVec 32 := 0#32
  let c256_i32_236 : BitVec 32 := 256#32
  let v251 : BitVec 32 := Scalar.addi c0_i32_235 c256_i32_236
  let c1_i32_237 : BitVec 32 := 1#32
  ⟨c0_i32_235, v251, c1_i32_237⟩
def k0_off8 (k0_t3 : Fin k0_t3_loop.trips) : Fin 1 → Nat :=
  let c0_i32_267 : BitVec 32 := 0#32
  let c0_i32_266 : BitVec 32 := 0#32
  let c0_i32_235 : BitVec 32 := 0#32
  let c1_i32_237 : BitVec 32 := 1#32
  let arg12 : BitVec 32 := Scf.iv c0_i32_235 c1_i32_237 k0_t3
  let c16_i32_265 : BitVec 32 := 16#32
  let v297 : BitVec 32 := Scalar.muli arg12 c16_i32_265
  let v298 : BitVec 32 := Scalar.addi c0_i32_266 v297
  let v299 : BitVec 32 := Scalar.addi c0_i32_267 v298
  let v300 : Index := Scalar.indexCast v299
  ![v300.toNat]
def k0_off9 (k0_t3 : Fin k0_t3_loop.trips) (c0_i32_268 : BitVec 32) : Fin 1 → Nat :=
  let c0_i32_266 : BitVec 32 := 0#32
  let c0_i32_235 : BitVec 32 := 0#32
  let c1_i32_237 : BitVec 32 := 1#32
  let arg12 : BitVec 32 := Scf.iv c0_i32_235 c1_i32_237 k0_t3
  let c16_i32_265 : BitVec 32 := 16#32
  let v297 : BitVec 32 := Scalar.muli arg12 c16_i32_265
  let v298 : BitVec 32 := Scalar.addi c0_i32_266 v297
  let v302 : BitVec 32 := Scalar.addi c0_i32_268 v298
  let v303 : Index := Scalar.indexCast v302
  ![v303.toNat]

def k0_chk1 (v343 : IVec S16 32) : Prop :=
  (∀ a x, ((![v343] : Fin 1 → IVec S16 32) a x).toNat < S4096.size a) ∧
  (∀ a x, ((![v343] : Fin 1 → IVec S16 32) a x).toNat < S4096.size a) ∧
  (∀ a x, ((![v343] : Fin 1 → IVec S16 32) a x).toNat < S4096.size a) ∧
  (∀ a x, ((![v343] : Fin 1 → IVec S16 32) a x).toNat < S4096.size a) ∧
  (∀ a x, ((![v343] : Fin 1 → IVec S16 32) a x).toNat < S4096.size a)
theorem k0_idx1_inb : ∀ (v343 : IVec S16 32) (k0_hw1 : k0_chk1 v343), ∀ a x, ((![v343] : Fin 1 → IVec S16 32) a x).toNat < S4096.size a := fun v343 k0_hw1 => k0_hw1.1
theorem k0_idx2_inb : ∀ (v343 : IVec S16 32) (k0_hw1 : k0_chk1 v343), ∀ a x, ((![v343] : Fin 1 → IVec S16 32) a x).toNat < S4096.size a := fun v343 k0_hw1 => k0_hw1.2.1
theorem k0_idx3_inb : ∀ (v343 : IVec S16 32) (k0_hw1 : k0_chk1 v343), ∀ a x, ((![v343] : Fin 1 → IVec S16 32) a x).toNat < S4096.size a := fun v343 k0_hw1 => k0_hw1.2.2.1
theorem k0_idx4_inb : ∀ (v343 : IVec S16 32) (k0_hw1 : k0_chk1 v343), ∀ a x, ((![v343] : Fin 1 → IVec S16 32) a x).toNat < S4096.size a := fun v343 k0_hw1 => k0_hw1.2.2.2.1
theorem k0_idx5_inb : ∀ (v343 : IVec S16 32) (k0_hw1 : k0_chk1 v343), ∀ a x, ((![v343] : Fin 1 → IVec S16 32) a x).toNat < S4096.size a := fun v343 k0_hw1 => k0_hw1.2.2.2.2

def k0_chk2 (v353 : IVec S16 32) : Prop :=
  (∀ a x, ((![v353] : Fin 1 → IVec S16 32) a x).toNat < S4096.size a) ∧
  (∀ a x, ((![v353] : Fin 1 → IVec S16 32) a x).toNat < S4096.size a) ∧
  (∀ a x, ((![v353] : Fin 1 → IVec S16 32) a x).toNat < S4096.size a) ∧
  (∀ a x, ((![v353] : Fin 1 → IVec S16 32) a x).toNat < S4096.size a) ∧
  (∀ a x, ((![v353] : Fin 1 → IVec S16 32) a x).toNat < S4096.size a)
theorem k0_idx6_inb : ∀ (v353 : IVec S16 32) (k0_hw2 : k0_chk2 v353), ∀ a x, ((![v353] : Fin 1 → IVec S16 32) a x).toNat < S4096.size a := fun v353 k0_hw2 => k0_hw2.1
theorem k0_idx7_inb : ∀ (v353 : IVec S16 32) (k0_hw2 : k0_chk2 v353), ∀ a x, ((![v353] : Fin 1 → IVec S16 32) a x).toNat < S4096.size a := fun v353 k0_hw2 => k0_hw2.2.1
theorem k0_idx8_inb : ∀ (v353 : IVec S16 32) (k0_hw2 : k0_chk2 v353), ∀ a x, ((![v353] : Fin 1 → IVec S16 32) a x).toNat < S4096.size a := fun v353 k0_hw2 => k0_hw2.2.2.1
theorem k0_idx9_inb : ∀ (v353 : IVec S16 32) (k0_hw2 : k0_chk2 v353), ∀ a x, ((![v353] : Fin 1 → IVec S16 32) a x).toNat < S4096.size a := fun v353 k0_hw2 => k0_hw2.2.2.2.1
theorem k0_idx10_inb : ∀ (v353 : IVec S16 32) (k0_hw2 : k0_chk2 v353), ∀ a x, ((![v353] : Fin 1 → IVec S16 32) a x).toNat < S4096.size a := fun v353 k0_hw2 => k0_hw2.2.2.2.2

def k0_chk3 (v363 : IVec S16 32) : Prop :=
  (∀ a x, ((![v363] : Fin 1 → IVec S16 32) a x).toNat < S4096.size a) ∧
  (∀ a x, ((![v363] : Fin 1 → IVec S16 32) a x).toNat < S4096.size a) ∧
  (∀ a x, ((![v363] : Fin 1 → IVec S16 32) a x).toNat < S4096.size a) ∧
  (∀ a x, ((![v363] : Fin 1 → IVec S16 32) a x).toNat < S4096.size a) ∧
  (∀ a x, ((![v363] : Fin 1 → IVec S16 32) a x).toNat < S4096.size a)
theorem k0_idx11_inb : ∀ (v363 : IVec S16 32) (k0_hw3 : k0_chk3 v363), ∀ a x, ((![v363] : Fin 1 → IVec S16 32) a x).toNat < S4096.size a := fun v363 k0_hw3 => k0_hw3.1
theorem k0_idx12_inb : ∀ (v363 : IVec S16 32) (k0_hw3 : k0_chk3 v363), ∀ a x, ((![v363] : Fin 1 → IVec S16 32) a x).toNat < S4096.size a := fun v363 k0_hw3 => k0_hw3.2.1
theorem k0_idx13_inb : ∀ (v363 : IVec S16 32) (k0_hw3 : k0_chk3 v363), ∀ a x, ((![v363] : Fin 1 → IVec S16 32) a x).toNat < S4096.size a := fun v363 k0_hw3 => k0_hw3.2.2.1
theorem k0_idx14_inb : ∀ (v363 : IVec S16 32) (k0_hw3 : k0_chk3 v363), ∀ a x, ((![v363] : Fin 1 → IVec S16 32) a x).toNat < S4096.size a := fun v363 k0_hw3 => k0_hw3.2.2.2.1
theorem k0_idx15_inb : ∀ (v363 : IVec S16 32) (k0_hw3 : k0_chk3 v363), ∀ a x, ((![v363] : Fin 1 → IVec S16 32) a x).toNat < S4096.size a := fun v363 k0_hw3 => k0_hw3.2.2.2.2

def k0_chk4 (v373 : IVec S16 32) : Prop :=
  (∀ a x, ((![v373] : Fin 1 → IVec S16 32) a x).toNat < S4096.size a) ∧
  (∀ a x, ((![v373] : Fin 1 → IVec S16 32) a x).toNat < S4096.size a) ∧
  (∀ a x, ((![v373] : Fin 1 → IVec S16 32) a x).toNat < S4096.size a) ∧
  (∀ a x, ((![v373] : Fin 1 → IVec S16 32) a x).toNat < S4096.size a) ∧
  (∀ a x, ((![v373] : Fin 1 → IVec S16 32) a x).toNat < S4096.size a)
theorem k0_idx16_inb : ∀ (v373 : IVec S16 32) (k0_hw4 : k0_chk4 v373), ∀ a x, ((![v373] : Fin 1 → IVec S16 32) a x).toNat < S4096.size a := fun v373 k0_hw4 => k0_hw4.1
theorem k0_idx17_inb : ∀ (v373 : IVec S16 32) (k0_hw4 : k0_chk4 v373), ∀ a x, ((![v373] : Fin 1 → IVec S16 32) a x).toNat < S4096.size a := fun v373 k0_hw4 => k0_hw4.2.1
theorem k0_idx18_inb : ∀ (v373 : IVec S16 32) (k0_hw4 : k0_chk4 v373), ∀ a x, ((![v373] : Fin 1 → IVec S16 32) a x).toNat < S4096.size a := fun v373 k0_hw4 => k0_hw4.2.2.1
theorem k0_idx19_inb : ∀ (v373 : IVec S16 32) (k0_hw4 : k0_chk4 v373), ∀ a x, ((![v373] : Fin 1 → IVec S16 32) a x).toNat < S4096.size a := fun v373 k0_hw4 => k0_hw4.2.2.2.1
theorem k0_idx20_inb : ∀ (v373 : IVec S16 32) (k0_hw4 : k0_chk4 v373), ∀ a x, ((![v373] : Fin 1 → IVec S16 32) a x).toNat < S4096.size a := fun v373 k0_hw4 => k0_hw4.2.2.2.2
def k0_cond1 (k0_t2 : Fin k0_t2_loop.trips) : BitVec 1 :=
  let c0_i32_198 : BitVec 32 := 0#32
  let c0_i32_38 : BitVec 32 := 0#32
  let c1_i32_39 : BitVec 32 := 1#32
  let arg11 : BitVec 32 := Scf.iv c0_i32_38 c1_i32_39 k0_t2
  let c2_i32_197 : BitVec 32 := 2#32
  let v170 : BitVec 32 := Scalar.muli arg11 c2_i32_197
  let v171 : BitVec 32 := Scalar.addi c0_i32_198 v170
  let c2_i32_239 : BitVec 32 := 2#32
  let v252 : BitVec 32 := Scalar.addi v171 c2_i32_239
  let c512_i32 : BitVec 32 := 512#32
  let v253 : BitVec 1 := Scalar.cmpi .slt v252 c512_i32
  let v254 : BitVec 32 := Scalar.extui v253
  let c0_i32_240 : BitVec 32 := 0#32
  let v255 : BitVec 1 := Scalar.cmpi .ne v254 c0_i32_240
  v255

def k0_off10 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_198 : BitVec 32 := 0#32
  let c0_i32_38 : BitVec 32 := 0#32
  let c1_i32_39 : BitVec 32 := 1#32
  let arg11 : BitVec 32 := Scf.iv c0_i32_38 c1_i32_39 k0_t2
  let c2_i32_197 : BitVec 32 := 2#32
  let v170 : BitVec 32 := Scalar.muli arg11 c2_i32_197
  let v171 : BitVec 32 := Scalar.addi c0_i32_198 v170
  let c2_i32_265 : BitVec 32 := 2#32
  let v297 : BitVec 32 := Scalar.addi v171 c2_i32_265
  let c4096_i32_266 : BitVec 32 := 4096#32
  let v298 : BitVec 32 := Scalar.muli v297 c4096_i32_266
  ![v18.toNat, v298.toNat]
def k0_off11 (i : grid0.Coords) (k0_t2 : Fin k0_t2_loop.trips) (c0_i32_268 : BitVec 32) : Fin 2 → Nat :=
  let c2_i32_267 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v299 : BitVec 32 := Scalar.muli c2_i32_267 v28
  let v300 : BitVec 32 := Scalar.addi v299 c0_i32_268
  let c0_i32_198 : BitVec 32 := 0#32
  let c0_i32_38 : BitVec 32 := 0#32
  let c1_i32_39 : BitVec 32 := 1#32
  let arg11 : BitVec 32 := Scf.iv c0_i32_38 c1_i32_39 k0_t2
  let c2_i32_197 : BitVec 32 := 2#32
  let v170 : BitVec 32 := Scalar.muli arg11 c2_i32_197
  let v171 : BitVec 32 := Scalar.addi c0_i32_198 v170
  let c2_i32_265 : BitVec 32 := 2#32
  let v297 : BitVec 32 := Scalar.addi v171 c2_i32_265
  let c4096_i32_266 : BitVec 32 := 4096#32
  let v298 : BitVec 32 := Scalar.muli v297 c4096_i32_266
  ![v300.toNat, v298.toNat]
@[reducible] def k0_t4_loop : Scf.Loop 32 :=
  let c0_i32_261 : BitVec 32 := 0#32
  let c256_i32_262 : BitVec 32 := 256#32
  let v296 : BitVec 32 := Scalar.addi c0_i32_261 c256_i32_262
  let c1_i32_263 : BitVec 32 := 1#32
  ⟨c0_i32_261, v296, c1_i32_263⟩
def k0_off12 (k0_t4 : Fin k0_t4_loop.trips) : Fin 1 → Nat :=
  let c4096_i32_267 : BitVec 32 := 4096#32
  let c0_i32_266 : BitVec 32 := 0#32
  let c0_i32_261 : BitVec 32 := 0#32
  let c1_i32_263 : BitVec 32 := 1#32
  let arg12 : BitVec 32 := Scf.iv c0_i32_261 c1_i32_263 k0_t4
  let c16_i32_265 : BitVec 32 := 16#32
  let v297 : BitVec 32 := Scalar.muli arg12 c16_i32_265
  let v298 : BitVec 32 := Scalar.addi c0_i32_266 v297
  let v299 : BitVec 32 := Scalar.addi c4096_i32_267 v298
  let v300 : Index := Scalar.indexCast v299
  ![v300.toNat]
def k0_off13 (k0_t4 : Fin k0_t4_loop.trips) (c12288_i32_268 : BitVec 32) : Fin 1 → Nat :=
  let c0_i32_266 : BitVec 32 := 0#32
  let c0_i32_261 : BitVec 32 := 0#32
  let c1_i32_263 : BitVec 32 := 1#32
  let arg12 : BitVec 32 := Scf.iv c0_i32_261 c1_i32_263 k0_t4
  let c16_i32_265 : BitVec 32 := 16#32
  let v297 : BitVec 32 := Scalar.muli arg12 c16_i32_265
  let v298 : BitVec 32 := Scalar.addi c0_i32_266 v297
  let v302 : BitVec 32 := Scalar.addi c12288_i32_268 v298
  let v303 : Index := Scalar.indexCast v302
  ![v303.toNat]

def k0_chk5 (v343 : IVec S16 32) : Prop :=
  (∀ a x, ((![v343] : Fin 1 → IVec S16 32) a x).toNat < S4096.size a) ∧
  (∀ a x, ((![v343] : Fin 1 → IVec S16 32) a x).toNat < S4096.size a) ∧
  (∀ a x, ((![v343] : Fin 1 → IVec S16 32) a x).toNat < S4096.size a) ∧
  (∀ a x, ((![v343] : Fin 1 → IVec S16 32) a x).toNat < S4096.size a) ∧
  (∀ a x, ((![v343] : Fin 1 → IVec S16 32) a x).toNat < S4096.size a)
theorem k0_idx21_inb : ∀ (v343 : IVec S16 32) (k0_hw5 : k0_chk5 v343), ∀ a x, ((![v343] : Fin 1 → IVec S16 32) a x).toNat < S4096.size a := fun v343 k0_hw5 => k0_hw5.1
theorem k0_idx22_inb : ∀ (v343 : IVec S16 32) (k0_hw5 : k0_chk5 v343), ∀ a x, ((![v343] : Fin 1 → IVec S16 32) a x).toNat < S4096.size a := fun v343 k0_hw5 => k0_hw5.2.1
theorem k0_idx23_inb : ∀ (v343 : IVec S16 32) (k0_hw5 : k0_chk5 v343), ∀ a x, ((![v343] : Fin 1 → IVec S16 32) a x).toNat < S4096.size a := fun v343 k0_hw5 => k0_hw5.2.2.1
theorem k0_idx24_inb : ∀ (v343 : IVec S16 32) (k0_hw5 : k0_chk5 v343), ∀ a x, ((![v343] : Fin 1 → IVec S16 32) a x).toNat < S4096.size a := fun v343 k0_hw5 => k0_hw5.2.2.2.1
theorem k0_idx25_inb : ∀ (v343 : IVec S16 32) (k0_hw5 : k0_chk5 v343), ∀ a x, ((![v343] : Fin 1 → IVec S16 32) a x).toNat < S4096.size a := fun v343 k0_hw5 => k0_hw5.2.2.2.2

def k0_chk6 (v353 : IVec S16 32) : Prop :=
  (∀ a x, ((![v353] : Fin 1 → IVec S16 32) a x).toNat < S4096.size a) ∧
  (∀ a x, ((![v353] : Fin 1 → IVec S16 32) a x).toNat < S4096.size a) ∧
  (∀ a x, ((![v353] : Fin 1 → IVec S16 32) a x).toNat < S4096.size a) ∧
  (∀ a x, ((![v353] : Fin 1 → IVec S16 32) a x).toNat < S4096.size a) ∧
  (∀ a x, ((![v353] : Fin 1 → IVec S16 32) a x).toNat < S4096.size a)
theorem k0_idx26_inb : ∀ (v353 : IVec S16 32) (k0_hw6 : k0_chk6 v353), ∀ a x, ((![v353] : Fin 1 → IVec S16 32) a x).toNat < S4096.size a := fun v353 k0_hw6 => k0_hw6.1
theorem k0_idx27_inb : ∀ (v353 : IVec S16 32) (k0_hw6 : k0_chk6 v353), ∀ a x, ((![v353] : Fin 1 → IVec S16 32) a x).toNat < S4096.size a := fun v353 k0_hw6 => k0_hw6.2.1
theorem k0_idx28_inb : ∀ (v353 : IVec S16 32) (k0_hw6 : k0_chk6 v353), ∀ a x, ((![v353] : Fin 1 → IVec S16 32) a x).toNat < S4096.size a := fun v353 k0_hw6 => k0_hw6.2.2.1
theorem k0_idx29_inb : ∀ (v353 : IVec S16 32) (k0_hw6 : k0_chk6 v353), ∀ a x, ((![v353] : Fin 1 → IVec S16 32) a x).toNat < S4096.size a := fun v353 k0_hw6 => k0_hw6.2.2.2.1
theorem k0_idx30_inb : ∀ (v353 : IVec S16 32) (k0_hw6 : k0_chk6 v353), ∀ a x, ((![v353] : Fin 1 → IVec S16 32) a x).toNat < S4096.size a := fun v353 k0_hw6 => k0_hw6.2.2.2.2

def k0_chk7 (v363 : IVec S16 32) : Prop :=
  (∀ a x, ((![v363] : Fin 1 → IVec S16 32) a x).toNat < S4096.size a) ∧
  (∀ a x, ((![v363] : Fin 1 → IVec S16 32) a x).toNat < S4096.size a) ∧
  (∀ a x, ((![v363] : Fin 1 → IVec S16 32) a x).toNat < S4096.size a) ∧
  (∀ a x, ((![v363] : Fin 1 → IVec S16 32) a x).toNat < S4096.size a) ∧
  (∀ a x, ((![v363] : Fin 1 → IVec S16 32) a x).toNat < S4096.size a)
theorem k0_idx31_inb : ∀ (v363 : IVec S16 32) (k0_hw7 : k0_chk7 v363), ∀ a x, ((![v363] : Fin 1 → IVec S16 32) a x).toNat < S4096.size a := fun v363 k0_hw7 => k0_hw7.1
theorem k0_idx32_inb : ∀ (v363 : IVec S16 32) (k0_hw7 : k0_chk7 v363), ∀ a x, ((![v363] : Fin 1 → IVec S16 32) a x).toNat < S4096.size a := fun v363 k0_hw7 => k0_hw7.2.1
theorem k0_idx33_inb : ∀ (v363 : IVec S16 32) (k0_hw7 : k0_chk7 v363), ∀ a x, ((![v363] : Fin 1 → IVec S16 32) a x).toNat < S4096.size a := fun v363 k0_hw7 => k0_hw7.2.2.1
theorem k0_idx34_inb : ∀ (v363 : IVec S16 32) (k0_hw7 : k0_chk7 v363), ∀ a x, ((![v363] : Fin 1 → IVec S16 32) a x).toNat < S4096.size a := fun v363 k0_hw7 => k0_hw7.2.2.2.1
theorem k0_idx35_inb : ∀ (v363 : IVec S16 32) (k0_hw7 : k0_chk7 v363), ∀ a x, ((![v363] : Fin 1 → IVec S16 32) a x).toNat < S4096.size a := fun v363 k0_hw7 => k0_hw7.2.2.2.2

def k0_chk8 (v373 : IVec S16 32) : Prop :=
  (∀ a x, ((![v373] : Fin 1 → IVec S16 32) a x).toNat < S4096.size a) ∧
  (∀ a x, ((![v373] : Fin 1 → IVec S16 32) a x).toNat < S4096.size a) ∧
  (∀ a x, ((![v373] : Fin 1 → IVec S16 32) a x).toNat < S4096.size a) ∧
  (∀ a x, ((![v373] : Fin 1 → IVec S16 32) a x).toNat < S4096.size a) ∧
  (∀ a x, ((![v373] : Fin 1 → IVec S16 32) a x).toNat < S4096.size a)
theorem k0_idx36_inb : ∀ (v373 : IVec S16 32) (k0_hw8 : k0_chk8 v373), ∀ a x, ((![v373] : Fin 1 → IVec S16 32) a x).toNat < S4096.size a := fun v373 k0_hw8 => k0_hw8.1
theorem k0_idx37_inb : ∀ (v373 : IVec S16 32) (k0_hw8 : k0_chk8 v373), ∀ a x, ((![v373] : Fin 1 → IVec S16 32) a x).toNat < S4096.size a := fun v373 k0_hw8 => k0_hw8.2.1
theorem k0_idx38_inb : ∀ (v373 : IVec S16 32) (k0_hw8 : k0_chk8 v373), ∀ a x, ((![v373] : Fin 1 → IVec S16 32) a x).toNat < S4096.size a := fun v373 k0_hw8 => k0_hw8.2.2.1
theorem k0_idx39_inb : ∀ (v373 : IVec S16 32) (k0_hw8 : k0_chk8 v373), ∀ a x, ((![v373] : Fin 1 → IVec S16 32) a x).toNat < S4096.size a := fun v373 k0_hw8 => k0_hw8.2.2.2.1
theorem k0_idx40_inb : ∀ (v373 : IVec S16 32) (k0_hw8 : k0_chk8 v373), ∀ a x, ((![v373] : Fin 1 → IVec S16 32) a x).toNat < S4096.size a := fun v373 k0_hw8 => k0_hw8.2.2.2.2
@[reducible] def k0_t5_loop : Scf.Loop 32 :=
  let c0_i32_41 : BitVec 32 := 0#32
  let c16_i32 : BitVec 32 := 16#32
  let v70 : BitVec 32 := Scalar.addi c0_i32_41 c16_i32
  let c1_i32_42 : BitVec 32 := 1#32
  ⟨c0_i32_41, v70, c1_i32_42⟩

def k0_chk9 (v181 : IVec S16 32) : Prop :=
  (∀ a x, ((![v181] : Fin 1 → IVec S16 32) a x).toNat < S4096.size a)
theorem k0_idx41_inb : ∀ (v181 : IVec S16 32) (k0_hw9 : k0_chk9 v181), ∀ a x, ((![v181] : Fin 1 → IVec S16 32) a x).toNat < S4096.size a := fun v181 k0_hw9 => k0_hw9

def k0_chk10 (v193 : IVec S16 32) : Prop :=
  (∀ a x, ((![v193] : Fin 1 → IVec S16 32) a x).toNat < S4096.size a)
theorem k0_idx42_inb : ∀ (v193 : IVec S16 32) (k0_hw10 : k0_chk10 v193), ∀ a x, ((![v193] : Fin 1 → IVec S16 32) a x).toNat < S4096.size a := fun v193 k0_hw10 => k0_hw10

def k0_chk11 (v205 : IVec S16 32) : Prop :=
  (∀ a x, ((![v205] : Fin 1 → IVec S16 32) a x).toNat < S4096.size a)
theorem k0_idx43_inb : ∀ (v205 : IVec S16 32) (k0_hw11 : k0_chk11 v205), ∀ a x, ((![v205] : Fin 1 → IVec S16 32) a x).toNat < S4096.size a := fun v205 k0_hw11 => k0_hw11

def k0_chk12 (v217 : IVec S16 32) : Prop :=
  (∀ a x, ((![v217] : Fin 1 → IVec S16 32) a x).toNat < S4096.size a)
theorem k0_idx44_inb : ∀ (v217 : IVec S16 32) (k0_hw12 : k0_chk12 v217), ∀ a x, ((![v217] : Fin 1 → IVec S16 32) a x).toNat < S4096.size a := fun v217 k0_hw12 => k0_hw12

def k0_chk13 (v229 : IVec S16 32) : Prop :=
  (∀ a x, ((![v229] : Fin 1 → IVec S16 32) a x).toNat < S4096.size a)
theorem k0_idx45_inb : ∀ (v229 : IVec S16 32) (k0_hw13 : k0_chk13 v229), ∀ a x, ((![v229] : Fin 1 → IVec S16 32) a x).toNat < S4096.size a := fun v229 k0_hw13 => k0_hw13

def k0_chk14 (v241 : IVec S16 32) : Prop :=
  (∀ a x, ((![v241] : Fin 1 → IVec S16 32) a x).toNat < S4096.size a)
theorem k0_idx46_inb : ∀ (v241 : IVec S16 32) (k0_hw14 : k0_chk14 v241), ∀ a x, ((![v241] : Fin 1 → IVec S16 32) a x).toNat < S4096.size a := fun v241 k0_hw14 => k0_hw14

def k0_chk15 (v253 : IVec S16 32) : Prop :=
  (∀ a x, ((![v253] : Fin 1 → IVec S16 32) a x).toNat < S4096.size a)
theorem k0_idx47_inb : ∀ (v253 : IVec S16 32) (k0_hw15 : k0_chk15 v253), ∀ a x, ((![v253] : Fin 1 → IVec S16 32) a x).toNat < S4096.size a := fun v253 k0_hw15 => k0_hw15

def k0_chk16 (v265 : IVec S16 32) : Prop :=
  (∀ a x, ((![v265] : Fin 1 → IVec S16 32) a x).toNat < S4096.size a)
theorem k0_idx48_inb : ∀ (v265 : IVec S16 32) (k0_hw16 : k0_chk16 v265), ∀ a x, ((![v265] : Fin 1 → IVec S16 32) a x).toNat < S4096.size a := fun v265 k0_hw16 => k0_hw16

def k0_chk17 (v277 : IVec S16 32) : Prop :=
  (∀ a x, ((![v277] : Fin 1 → IVec S16 32) a x).toNat < S4096.size a)
theorem k0_idx49_inb : ∀ (v277 : IVec S16 32) (k0_hw17 : k0_chk17 v277), ∀ a x, ((![v277] : Fin 1 → IVec S16 32) a x).toNat < S4096.size a := fun v277 k0_hw17 => k0_hw17

def k0_chk18 (v289 : IVec S16 32) : Prop :=
  (∀ a x, ((![v289] : Fin 1 → IVec S16 32) a x).toNat < S4096.size a)
theorem k0_idx50_inb : ∀ (v289 : IVec S16 32) (k0_hw18 : k0_chk18 v289), ∀ a x, ((![v289] : Fin 1 → IVec S16 32) a x).toNat < S4096.size a := fun v289 k0_hw18 => k0_hw18

def k0_chk19 (v301 : IVec S16 32) : Prop :=
  (∀ a x, ((![v301] : Fin 1 → IVec S16 32) a x).toNat < S4096.size a)
theorem k0_idx51_inb : ∀ (v301 : IVec S16 32) (k0_hw19 : k0_chk19 v301), ∀ a x, ((![v301] : Fin 1 → IVec S16 32) a x).toNat < S4096.size a := fun v301 k0_hw19 => k0_hw19

def k0_chk20 (v313 : IVec S16 32) : Prop :=
  (∀ a x, ((![v313] : Fin 1 → IVec S16 32) a x).toNat < S4096.size a)
theorem k0_idx52_inb : ∀ (v313 : IVec S16 32) (k0_hw20 : k0_chk20 v313), ∀ a x, ((![v313] : Fin 1 → IVec S16 32) a x).toNat < S4096.size a := fun v313 k0_hw20 => k0_hw20

def k0_chk21 (v325 : IVec S16 32) : Prop :=
  (∀ a x, ((![v325] : Fin 1 → IVec S16 32) a x).toNat < S4096.size a)
theorem k0_idx53_inb : ∀ (v325 : IVec S16 32) (k0_hw21 : k0_chk21 v325), ∀ a x, ((![v325] : Fin 1 → IVec S16 32) a x).toNat < S4096.size a := fun v325 k0_hw21 => k0_hw21

def k0_chk22 (v337 : IVec S16 32) : Prop :=
  (∀ a x, ((![v337] : Fin 1 → IVec S16 32) a x).toNat < S4096.size a)
theorem k0_idx54_inb : ∀ (v337 : IVec S16 32) (k0_hw22 : k0_chk22 v337), ∀ a x, ((![v337] : Fin 1 → IVec S16 32) a x).toNat < S4096.size a := fun v337 k0_hw22 => k0_hw22

def k0_chk23 (v349 : IVec S16 32) : Prop :=
  (∀ a x, ((![v349] : Fin 1 → IVec S16 32) a x).toNat < S4096.size a)
theorem k0_idx55_inb : ∀ (v349 : IVec S16 32) (k0_hw23 : k0_chk23 v349), ∀ a x, ((![v349] : Fin 1 → IVec S16 32) a x).toNat < S4096.size a := fun v349 k0_hw23 => k0_hw23

def k0_chk24 (v361 : IVec S16 32) : Prop :=
  (∀ a x, ((![v361] : Fin 1 → IVec S16 32) a x).toNat < S4096.size a)
theorem k0_idx56_inb : ∀ (v361 : IVec S16 32) (k0_hw24 : k0_chk24 v361), ∀ a x, ((![v361] : Fin 1 → IVec S16 32) a x).toNat < S4096.size a := fun v361 k0_hw24 => k0_hw24
def k0_off14 (k0_t5 : Fin k0_t5_loop.trips) : Fin 1 → Nat :=
  let c0_i32_198 : BitVec 32 := 0#32
  let c0_i32_41 : BitVec 32 := 0#32
  let c1_i32_42 : BitVec 32 := 1#32
  let arg11 : BitVec 32 := Scf.iv c0_i32_41 c1_i32_42 k0_t5
  let c16_i32_197 : BitVec 32 := 16#32
  let v170 : BitVec 32 := Scalar.muli arg11 c16_i32_197
  let v171 : BitVec 32 := Scalar.addi c0_i32_198 v170
  let v365 : Index := Scalar.indexCast v171
  ![v365.toNat]
def k0_off15 (i : grid0.Coords) (c0_i32_44 : BitVec 32) (c0_i32_45 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c5_i32 : BitVec 32 := 5#32
  let v71 : BitVec 32 := Scalar.muli v28 c5_i32
  let v72 : BitVec 32 := Scalar.addi v71 c0_i32_44
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4_i32 : BitVec 32 := 4#32
  let v73 : BitVec 32 := Scalar.muli v18 c4_i32
  let v74 : BitVec 32 := Scalar.addi v73 c0_i32_45
  let c0_i32_197_r0 : BitVec 32 := 0#32
  ![v72.toNat, v74.toNat, 0]
@[reducible] def k0_t6_loop : Scf.Loop 32 :=
  let c0_i32_46 : BitVec 32 := 0#32
  let c16_i32_47 : BitVec 32 := 16#32
  let v75 : BitVec 32 := Scalar.addi c0_i32_46 c16_i32_47
  let c1_i32_48 : BitVec 32 := 1#32
  ⟨c0_i32_46, v75, c1_i32_48⟩

def k0_chk25 (v181 : IVec S16 32) : Prop :=
  (∀ a x, ((![v181] : Fin 1 → IVec S16 32) a x).toNat < S4096.size a)
theorem k0_idx57_inb : ∀ (v181 : IVec S16 32) (k0_hw25 : k0_chk25 v181), ∀ a x, ((![v181] : Fin 1 → IVec S16 32) a x).toNat < S4096.size a := fun v181 k0_hw25 => k0_hw25

def k0_chk26 (v193 : IVec S16 32) : Prop :=
  (∀ a x, ((![v193] : Fin 1 → IVec S16 32) a x).toNat < S4096.size a)
theorem k0_idx58_inb : ∀ (v193 : IVec S16 32) (k0_hw26 : k0_chk26 v193), ∀ a x, ((![v193] : Fin 1 → IVec S16 32) a x).toNat < S4096.size a := fun v193 k0_hw26 => k0_hw26

def k0_chk27 (v205 : IVec S16 32) : Prop :=
  (∀ a x, ((![v205] : Fin 1 → IVec S16 32) a x).toNat < S4096.size a)
theorem k0_idx59_inb : ∀ (v205 : IVec S16 32) (k0_hw27 : k0_chk27 v205), ∀ a x, ((![v205] : Fin 1 → IVec S16 32) a x).toNat < S4096.size a := fun v205 k0_hw27 => k0_hw27

def k0_chk28 (v217 : IVec S16 32) : Prop :=
  (∀ a x, ((![v217] : Fin 1 → IVec S16 32) a x).toNat < S4096.size a)
theorem k0_idx60_inb : ∀ (v217 : IVec S16 32) (k0_hw28 : k0_chk28 v217), ∀ a x, ((![v217] : Fin 1 → IVec S16 32) a x).toNat < S4096.size a := fun v217 k0_hw28 => k0_hw28

def k0_chk29 (v229 : IVec S16 32) : Prop :=
  (∀ a x, ((![v229] : Fin 1 → IVec S16 32) a x).toNat < S4096.size a)
theorem k0_idx61_inb : ∀ (v229 : IVec S16 32) (k0_hw29 : k0_chk29 v229), ∀ a x, ((![v229] : Fin 1 → IVec S16 32) a x).toNat < S4096.size a := fun v229 k0_hw29 => k0_hw29

def k0_chk30 (v241 : IVec S16 32) : Prop :=
  (∀ a x, ((![v241] : Fin 1 → IVec S16 32) a x).toNat < S4096.size a)
theorem k0_idx62_inb : ∀ (v241 : IVec S16 32) (k0_hw30 : k0_chk30 v241), ∀ a x, ((![v241] : Fin 1 → IVec S16 32) a x).toNat < S4096.size a := fun v241 k0_hw30 => k0_hw30

def k0_chk31 (v253 : IVec S16 32) : Prop :=
  (∀ a x, ((![v253] : Fin 1 → IVec S16 32) a x).toNat < S4096.size a)
theorem k0_idx63_inb : ∀ (v253 : IVec S16 32) (k0_hw31 : k0_chk31 v253), ∀ a x, ((![v253] : Fin 1 → IVec S16 32) a x).toNat < S4096.size a := fun v253 k0_hw31 => k0_hw31

def k0_chk32 (v265 : IVec S16 32) : Prop :=
  (∀ a x, ((![v265] : Fin 1 → IVec S16 32) a x).toNat < S4096.size a)
theorem k0_idx64_inb : ∀ (v265 : IVec S16 32) (k0_hw32 : k0_chk32 v265), ∀ a x, ((![v265] : Fin 1 → IVec S16 32) a x).toNat < S4096.size a := fun v265 k0_hw32 => k0_hw32

def k0_chk33 (v277 : IVec S16 32) : Prop :=
  (∀ a x, ((![v277] : Fin 1 → IVec S16 32) a x).toNat < S4096.size a)
theorem k0_idx65_inb : ∀ (v277 : IVec S16 32) (k0_hw33 : k0_chk33 v277), ∀ a x, ((![v277] : Fin 1 → IVec S16 32) a x).toNat < S4096.size a := fun v277 k0_hw33 => k0_hw33

def k0_chk34 (v289 : IVec S16 32) : Prop :=
  (∀ a x, ((![v289] : Fin 1 → IVec S16 32) a x).toNat < S4096.size a)
theorem k0_idx66_inb : ∀ (v289 : IVec S16 32) (k0_hw34 : k0_chk34 v289), ∀ a x, ((![v289] : Fin 1 → IVec S16 32) a x).toNat < S4096.size a := fun v289 k0_hw34 => k0_hw34

def k0_chk35 (v301 : IVec S16 32) : Prop :=
  (∀ a x, ((![v301] : Fin 1 → IVec S16 32) a x).toNat < S4096.size a)
theorem k0_idx67_inb : ∀ (v301 : IVec S16 32) (k0_hw35 : k0_chk35 v301), ∀ a x, ((![v301] : Fin 1 → IVec S16 32) a x).toNat < S4096.size a := fun v301 k0_hw35 => k0_hw35

def k0_chk36 (v313 : IVec S16 32) : Prop :=
  (∀ a x, ((![v313] : Fin 1 → IVec S16 32) a x).toNat < S4096.size a)
theorem k0_idx68_inb : ∀ (v313 : IVec S16 32) (k0_hw36 : k0_chk36 v313), ∀ a x, ((![v313] : Fin 1 → IVec S16 32) a x).toNat < S4096.size a := fun v313 k0_hw36 => k0_hw36

def k0_chk37 (v325 : IVec S16 32) : Prop :=
  (∀ a x, ((![v325] : Fin 1 → IVec S16 32) a x).toNat < S4096.size a)
theorem k0_idx69_inb : ∀ (v325 : IVec S16 32) (k0_hw37 : k0_chk37 v325), ∀ a x, ((![v325] : Fin 1 → IVec S16 32) a x).toNat < S4096.size a := fun v325 k0_hw37 => k0_hw37

def k0_chk38 (v337 : IVec S16 32) : Prop :=
  (∀ a x, ((![v337] : Fin 1 → IVec S16 32) a x).toNat < S4096.size a)
theorem k0_idx70_inb : ∀ (v337 : IVec S16 32) (k0_hw38 : k0_chk38 v337), ∀ a x, ((![v337] : Fin 1 → IVec S16 32) a x).toNat < S4096.size a := fun v337 k0_hw38 => k0_hw38

def k0_chk39 (v349 : IVec S16 32) : Prop :=
  (∀ a x, ((![v349] : Fin 1 → IVec S16 32) a x).toNat < S4096.size a)
theorem k0_idx71_inb : ∀ (v349 : IVec S16 32) (k0_hw39 : k0_chk39 v349), ∀ a x, ((![v349] : Fin 1 → IVec S16 32) a x).toNat < S4096.size a := fun v349 k0_hw39 => k0_hw39

def k0_chk40 (v361 : IVec S16 32) : Prop :=
  (∀ a x, ((![v361] : Fin 1 → IVec S16 32) a x).toNat < S4096.size a)
theorem k0_idx72_inb : ∀ (v361 : IVec S16 32) (k0_hw40 : k0_chk40 v361), ∀ a x, ((![v361] : Fin 1 → IVec S16 32) a x).toNat < S4096.size a := fun v361 k0_hw40 => k0_hw40
def k0_off16 (k0_t6 : Fin k0_t6_loop.trips) : Fin 1 → Nat :=
  let c0_i32_198 : BitVec 32 := 0#32
  let c0_i32_46 : BitVec 32 := 0#32
  let c1_i32_48 : BitVec 32 := 1#32
  let arg11 : BitVec 32 := Scf.iv c0_i32_46 c1_i32_48 k0_t6
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t7_loop : Scf.Loop 32 :=
  let c0_i32_54 : BitVec 32 := 0#32
  let c16_i32_55 : BitVec 32 := 16#32
  let v80 : BitVec 32 := Scalar.addi c0_i32_54 c16_i32_55
  let c1_i32_56 : BitVec 32 := 1#32
  ⟨c0_i32_54, v80, c1_i32_56⟩

def k0_chk41 (v181 : IVec S16 32) : Prop :=
  (∀ a x, ((![v181] : Fin 1 → IVec S16 32) a x).toNat < S4096.size a)
theorem k0_idx73_inb : ∀ (v181 : IVec S16 32) (k0_hw41 : k0_chk41 v181), ∀ a x, ((![v181] : Fin 1 → IVec S16 32) a x).toNat < S4096.size a := fun v181 k0_hw41 => k0_hw41

def k0_chk42 (v193 : IVec S16 32) : Prop :=
  (∀ a x, ((![v193] : Fin 1 → IVec S16 32) a x).toNat < S4096.size a)
theorem k0_idx74_inb : ∀ (v193 : IVec S16 32) (k0_hw42 : k0_chk42 v193), ∀ a x, ((![v193] : Fin 1 → IVec S16 32) a x).toNat < S4096.size a := fun v193 k0_hw42 => k0_hw42

def k0_chk43 (v205 : IVec S16 32) : Prop :=
  (∀ a x, ((![v205] : Fin 1 → IVec S16 32) a x).toNat < S4096.size a)
theorem k0_idx75_inb : ∀ (v205 : IVec S16 32) (k0_hw43 : k0_chk43 v205), ∀ a x, ((![v205] : Fin 1 → IVec S16 32) a x).toNat < S4096.size a := fun v205 k0_hw43 => k0_hw43

def k0_chk44 (v217 : IVec S16 32) : Prop :=
  (∀ a x, ((![v217] : Fin 1 → IVec S16 32) a x).toNat < S4096.size a)
theorem k0_idx76_inb : ∀ (v217 : IVec S16 32) (k0_hw44 : k0_chk44 v217), ∀ a x, ((![v217] : Fin 1 → IVec S16 32) a x).toNat < S4096.size a := fun v217 k0_hw44 => k0_hw44

def k0_chk45 (v229 : IVec S16 32) : Prop :=
  (∀ a x, ((![v229] : Fin 1 → IVec S16 32) a x).toNat < S4096.size a)
theorem k0_idx77_inb : ∀ (v229 : IVec S16 32) (k0_hw45 : k0_chk45 v229), ∀ a x, ((![v229] : Fin 1 → IVec S16 32) a x).toNat < S4096.size a := fun v229 k0_hw45 => k0_hw45

def k0_chk46 (v241 : IVec S16 32) : Prop :=
  (∀ a x, ((![v241] : Fin 1 → IVec S16 32) a x).toNat < S4096.size a)
theorem k0_idx78_inb : ∀ (v241 : IVec S16 32) (k0_hw46 : k0_chk46 v241), ∀ a x, ((![v241] : Fin 1 → IVec S16 32) a x).toNat < S4096.size a := fun v241 k0_hw46 => k0_hw46

def k0_chk47 (v253 : IVec S16 32) : Prop :=
  (∀ a x, ((![v253] : Fin 1 → IVec S16 32) a x).toNat < S4096.size a)
theorem k0_idx79_inb : ∀ (v253 : IVec S16 32) (k0_hw47 : k0_chk47 v253), ∀ a x, ((![v253] : Fin 1 → IVec S16 32) a x).toNat < S4096.size a := fun v253 k0_hw47 => k0_hw47

def k0_chk48 (v265 : IVec S16 32) : Prop :=
  (∀ a x, ((![v265] : Fin 1 → IVec S16 32) a x).toNat < S4096.size a)
theorem k0_idx80_inb : ∀ (v265 : IVec S16 32) (k0_hw48 : k0_chk48 v265), ∀ a x, ((![v265] : Fin 1 → IVec S16 32) a x).toNat < S4096.size a := fun v265 k0_hw48 => k0_hw48

def k0_chk49 (v277 : IVec S16 32) : Prop :=
  (∀ a x, ((![v277] : Fin 1 → IVec S16 32) a x).toNat < S4096.size a)
theorem k0_idx81_inb : ∀ (v277 : IVec S16 32) (k0_hw49 : k0_chk49 v277), ∀ a x, ((![v277] : Fin 1 → IVec S16 32) a x).toNat < S4096.size a := fun v277 k0_hw49 => k0_hw49

def k0_chk50 (v289 : IVec S16 32) : Prop :=
  (∀ a x, ((![v289] : Fin 1 → IVec S16 32) a x).toNat < S4096.size a)
theorem k0_idx82_inb : ∀ (v289 : IVec S16 32) (k0_hw50 : k0_chk50 v289), ∀ a x, ((![v289] : Fin 1 → IVec S16 32) a x).toNat < S4096.size a := fun v289 k0_hw50 => k0_hw50

def k0_chk51 (v301 : IVec S16 32) : Prop :=
  (∀ a x, ((![v301] : Fin 1 → IVec S16 32) a x).toNat < S4096.size a)
theorem k0_idx83_inb : ∀ (v301 : IVec S16 32) (k0_hw51 : k0_chk51 v301), ∀ a x, ((![v301] : Fin 1 → IVec S16 32) a x).toNat < S4096.size a := fun v301 k0_hw51 => k0_hw51

def k0_chk52 (v313 : IVec S16 32) : Prop :=
  (∀ a x, ((![v313] : Fin 1 → IVec S16 32) a x).toNat < S4096.size a)
theorem k0_idx84_inb : ∀ (v313 : IVec S16 32) (k0_hw52 : k0_chk52 v313), ∀ a x, ((![v313] : Fin 1 → IVec S16 32) a x).toNat < S4096.size a := fun v313 k0_hw52 => k0_hw52

def k0_chk53 (v325 : IVec S16 32) : Prop :=
  (∀ a x, ((![v325] : Fin 1 → IVec S16 32) a x).toNat < S4096.size a)
theorem k0_idx85_inb : ∀ (v325 : IVec S16 32) (k0_hw53 : k0_chk53 v325), ∀ a x, ((![v325] : Fin 1 → IVec S16 32) a x).toNat < S4096.size a := fun v325 k0_hw53 => k0_hw53

def k0_chk54 (v337 : IVec S16 32) : Prop :=
  (∀ a x, ((![v337] : Fin 1 → IVec S16 32) a x).toNat < S4096.size a)
theorem k0_idx86_inb : ∀ (v337 : IVec S16 32) (k0_hw54 : k0_chk54 v337), ∀ a x, ((![v337] : Fin 1 → IVec S16 32) a x).toNat < S4096.size a := fun v337 k0_hw54 => k0_hw54

def k0_chk55 (v349 : IVec S16 32) : Prop :=
  (∀ a x, ((![v349] : Fin 1 → IVec S16 32) a x).toNat < S4096.size a)
theorem k0_idx87_inb : ∀ (v349 : IVec S16 32) (k0_hw55 : k0_chk55 v349), ∀ a x, ((![v349] : Fin 1 → IVec S16 32) a x).toNat < S4096.size a := fun v349 k0_hw55 => k0_hw55

def k0_chk56 (v361 : IVec S16 32) : Prop :=
  (∀ a x, ((![v361] : Fin 1 → IVec S16 32) a x).toNat < S4096.size a)
theorem k0_idx88_inb : ∀ (v361 : IVec S16 32) (k0_hw56 : k0_chk56 v361), ∀ a x, ((![v361] : Fin 1 → IVec S16 32) a x).toNat < S4096.size a := fun v361 k0_hw56 => k0_hw56
def k0_off17 (k0_t7 : Fin k0_t7_loop.trips) : Fin 1 → Nat :=
  let c0_i32_198 : BitVec 32 := 0#32
  let c0_i32_54 : BitVec 32 := 0#32
  let c1_i32_56 : BitVec 32 := 1#32
  let arg11 : BitVec 32 := Scf.iv c0_i32_54 c1_i32_56 k0_t7
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t8_loop : Scf.Loop 32 :=
  let c0_i32_62 : BitVec 32 := 0#32
  let c16_i32_63 : BitVec 32 := 16#32
  let v85 : BitVec 32 := Scalar.addi c0_i32_62 c16_i32_63
  let c1_i32_64 : BitVec 32 := 1#32
  ⟨c0_i32_62, v85, c1_i32_64⟩

def k0_chk57 (v181 : IVec S16 32) : Prop :=
  (∀ a x, ((![v181] : Fin 1 → IVec S16 32) a x).toNat < S4096.size a)
theorem k0_idx89_inb : ∀ (v181 : IVec S16 32) (k0_hw57 : k0_chk57 v181), ∀ a x, ((![v181] : Fin 1 → IVec S16 32) a x).toNat < S4096.size a := fun v181 k0_hw57 => k0_hw57

def k0_chk58 (v193 : IVec S16 32) : Prop :=
  (∀ a x, ((![v193] : Fin 1 → IVec S16 32) a x).toNat < S4096.size a)
theorem k0_idx90_inb : ∀ (v193 : IVec S16 32) (k0_hw58 : k0_chk58 v193), ∀ a x, ((![v193] : Fin 1 → IVec S16 32) a x).toNat < S4096.size a := fun v193 k0_hw58 => k0_hw58

def k0_chk59 (v205 : IVec S16 32) : Prop :=
  (∀ a x, ((![v205] : Fin 1 → IVec S16 32) a x).toNat < S4096.size a)
theorem k0_idx91_inb : ∀ (v205 : IVec S16 32) (k0_hw59 : k0_chk59 v205), ∀ a x, ((![v205] : Fin 1 → IVec S16 32) a x).toNat < S4096.size a := fun v205 k0_hw59 => k0_hw59

def k0_chk60 (v217 : IVec S16 32) : Prop :=
  (∀ a x, ((![v217] : Fin 1 → IVec S16 32) a x).toNat < S4096.size a)
theorem k0_idx92_inb : ∀ (v217 : IVec S16 32) (k0_hw60 : k0_chk60 v217), ∀ a x, ((![v217] : Fin 1 → IVec S16 32) a x).toNat < S4096.size a := fun v217 k0_hw60 => k0_hw60

def k0_chk61 (v229 : IVec S16 32) : Prop :=
  (∀ a x, ((![v229] : Fin 1 → IVec S16 32) a x).toNat < S4096.size a)
theorem k0_idx93_inb : ∀ (v229 : IVec S16 32) (k0_hw61 : k0_chk61 v229), ∀ a x, ((![v229] : Fin 1 → IVec S16 32) a x).toNat < S4096.size a := fun v229 k0_hw61 => k0_hw61

def k0_chk62 (v241 : IVec S16 32) : Prop :=
  (∀ a x, ((![v241] : Fin 1 → IVec S16 32) a x).toNat < S4096.size a)
theorem k0_idx94_inb : ∀ (v241 : IVec S16 32) (k0_hw62 : k0_chk62 v241), ∀ a x, ((![v241] : Fin 1 → IVec S16 32) a x).toNat < S4096.size a := fun v241 k0_hw62 => k0_hw62

def k0_chk63 (v253 : IVec S16 32) : Prop :=
  (∀ a x, ((![v253] : Fin 1 → IVec S16 32) a x).toNat < S4096.size a)
theorem k0_idx95_inb : ∀ (v253 : IVec S16 32) (k0_hw63 : k0_chk63 v253), ∀ a x, ((![v253] : Fin 1 → IVec S16 32) a x).toNat < S4096.size a := fun v253 k0_hw63 => k0_hw63

def k0_chk64 (v265 : IVec S16 32) : Prop :=
  (∀ a x, ((![v265] : Fin 1 → IVec S16 32) a x).toNat < S4096.size a)
theorem k0_idx96_inb : ∀ (v265 : IVec S16 32) (k0_hw64 : k0_chk64 v265), ∀ a x, ((![v265] : Fin 1 → IVec S16 32) a x).toNat < S4096.size a := fun v265 k0_hw64 => k0_hw64

def k0_chk65 (v277 : IVec S16 32) : Prop :=
  (∀ a x, ((![v277] : Fin 1 → IVec S16 32) a x).toNat < S4096.size a)
theorem k0_idx97_inb : ∀ (v277 : IVec S16 32) (k0_hw65 : k0_chk65 v277), ∀ a x, ((![v277] : Fin 1 → IVec S16 32) a x).toNat < S4096.size a := fun v277 k0_hw65 => k0_hw65

def k0_chk66 (v289 : IVec S16 32) : Prop :=
  (∀ a x, ((![v289] : Fin 1 → IVec S16 32) a x).toNat < S4096.size a)
theorem k0_idx98_inb : ∀ (v289 : IVec S16 32) (k0_hw66 : k0_chk66 v289), ∀ a x, ((![v289] : Fin 1 → IVec S16 32) a x).toNat < S4096.size a := fun v289 k0_hw66 => k0_hw66

def k0_chk67 (v301 : IVec S16 32) : Prop :=
  (∀ a x, ((![v301] : Fin 1 → IVec S16 32) a x).toNat < S4096.size a)
theorem k0_idx99_inb : ∀ (v301 : IVec S16 32) (k0_hw67 : k0_chk67 v301), ∀ a x, ((![v301] : Fin 1 → IVec S16 32) a x).toNat < S4096.size a := fun v301 k0_hw67 => k0_hw67

def k0_chk68 (v313 : IVec S16 32) : Prop :=
  (∀ a x, ((![v313] : Fin 1 → IVec S16 32) a x).toNat < S4096.size a)
theorem k0_idx100_inb : ∀ (v313 : IVec S16 32) (k0_hw68 : k0_chk68 v313), ∀ a x, ((![v313] : Fin 1 → IVec S16 32) a x).toNat < S4096.size a := fun v313 k0_hw68 => k0_hw68

def k0_chk69 (v325 : IVec S16 32) : Prop :=
  (∀ a x, ((![v325] : Fin 1 → IVec S16 32) a x).toNat < S4096.size a)
theorem k0_idx101_inb : ∀ (v325 : IVec S16 32) (k0_hw69 : k0_chk69 v325), ∀ a x, ((![v325] : Fin 1 → IVec S16 32) a x).toNat < S4096.size a := fun v325 k0_hw69 => k0_hw69

def k0_chk70 (v337 : IVec S16 32) : Prop :=
  (∀ a x, ((![v337] : Fin 1 → IVec S16 32) a x).toNat < S4096.size a)
theorem k0_idx102_inb : ∀ (v337 : IVec S16 32) (k0_hw70 : k0_chk70 v337), ∀ a x, ((![v337] : Fin 1 → IVec S16 32) a x).toNat < S4096.size a := fun v337 k0_hw70 => k0_hw70

def k0_chk71 (v349 : IVec S16 32) : Prop :=
  (∀ a x, ((![v349] : Fin 1 → IVec S16 32) a x).toNat < S4096.size a)
theorem k0_idx103_inb : ∀ (v349 : IVec S16 32) (k0_hw71 : k0_chk71 v349), ∀ a x, ((![v349] : Fin 1 → IVec S16 32) a x).toNat < S4096.size a := fun v349 k0_hw71 => k0_hw71

def k0_chk72 (v361 : IVec S16 32) : Prop :=
  (∀ a x, ((![v361] : Fin 1 → IVec S16 32) a x).toNat < S4096.size a)
theorem k0_idx104_inb : ∀ (v361 : IVec S16 32) (k0_hw72 : k0_chk72 v361), ∀ a x, ((![v361] : Fin 1 → IVec S16 32) a x).toNat < S4096.size a := fun v361 k0_hw72 => k0_hw72
def k0_off18 (k0_t8 : Fin k0_t8_loop.trips) : Fin 1 → Nat :=
  let c0_i32_198 : BitVec 32 := 0#32
  let c0_i32_62 : BitVec 32 := 0#32
  let c1_i32_64 : BitVec 32 := 1#32
  let arg11 : BitVec 32 := Scf.iv c0_i32_62 c1_i32_64 k0_t8
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t9_loop : Scf.Loop 32 :=
  let c0_i32_69 : BitVec 32 := 0#32
  let c16_i32_70 : BitVec 32 := 16#32
  let v90 : BitVec 32 := Scalar.addi c0_i32_69 c16_i32_70
  let c1_i32_71 : BitVec 32 := 1#32
  ⟨c0_i32_69, v90, c1_i32_71⟩

def k0_chk73 (v181 : IVec S16 32) : Prop :=
  (∀ a x, ((![v181] : Fin 1 → IVec S16 32) a x).toNat < S4096.size a)
theorem k0_idx105_inb : ∀ (v181 : IVec S16 32) (k0_hw73 : k0_chk73 v181), ∀ a x, ((![v181] : Fin 1 → IVec S16 32) a x).toNat < S4096.size a := fun v181 k0_hw73 => k0_hw73

def k0_chk74 (v193 : IVec S16 32) : Prop :=
  (∀ a x, ((![v193] : Fin 1 → IVec S16 32) a x).toNat < S4096.size a)
theorem k0_idx106_inb : ∀ (v193 : IVec S16 32) (k0_hw74 : k0_chk74 v193), ∀ a x, ((![v193] : Fin 1 → IVec S16 32) a x).toNat < S4096.size a := fun v193 k0_hw74 => k0_hw74

def k0_chk75 (v205 : IVec S16 32) : Prop :=
  (∀ a x, ((![v205] : Fin 1 → IVec S16 32) a x).toNat < S4096.size a)
theorem k0_idx107_inb : ∀ (v205 : IVec S16 32) (k0_hw75 : k0_chk75 v205), ∀ a x, ((![v205] : Fin 1 → IVec S16 32) a x).toNat < S4096.size a := fun v205 k0_hw75 => k0_hw75

def k0_chk76 (v217 : IVec S16 32) : Prop :=
  (∀ a x, ((![v217] : Fin 1 → IVec S16 32) a x).toNat < S4096.size a)
theorem k0_idx108_inb : ∀ (v217 : IVec S16 32) (k0_hw76 : k0_chk76 v217), ∀ a x, ((![v217] : Fin 1 → IVec S16 32) a x).toNat < S4096.size a := fun v217 k0_hw76 => k0_hw76

def k0_chk77 (v229 : IVec S16 32) : Prop :=
  (∀ a x, ((![v229] : Fin 1 → IVec S16 32) a x).toNat < S4096.size a)
theorem k0_idx109_inb : ∀ (v229 : IVec S16 32) (k0_hw77 : k0_chk77 v229), ∀ a x, ((![v229] : Fin 1 → IVec S16 32) a x).toNat < S4096.size a := fun v229 k0_hw77 => k0_hw77

def k0_chk78 (v241 : IVec S16 32) : Prop :=
  (∀ a x, ((![v241] : Fin 1 → IVec S16 32) a x).toNat < S4096.size a)
theorem k0_idx110_inb : ∀ (v241 : IVec S16 32) (k0_hw78 : k0_chk78 v241), ∀ a x, ((![v241] : Fin 1 → IVec S16 32) a x).toNat < S4096.size a := fun v241 k0_hw78 => k0_hw78

def k0_chk79 (v253 : IVec S16 32) : Prop :=
  (∀ a x, ((![v253] : Fin 1 → IVec S16 32) a x).toNat < S4096.size a)
theorem k0_idx111_inb : ∀ (v253 : IVec S16 32) (k0_hw79 : k0_chk79 v253), ∀ a x, ((![v253] : Fin 1 → IVec S16 32) a x).toNat < S4096.size a := fun v253 k0_hw79 => k0_hw79

def k0_chk80 (v265 : IVec S16 32) : Prop :=
  (∀ a x, ((![v265] : Fin 1 → IVec S16 32) a x).toNat < S4096.size a)
theorem k0_idx112_inb : ∀ (v265 : IVec S16 32) (k0_hw80 : k0_chk80 v265), ∀ a x, ((![v265] : Fin 1 → IVec S16 32) a x).toNat < S4096.size a := fun v265 k0_hw80 => k0_hw80

def k0_chk81 (v277 : IVec S16 32) : Prop :=
  (∀ a x, ((![v277] : Fin 1 → IVec S16 32) a x).toNat < S4096.size a)
theorem k0_idx113_inb : ∀ (v277 : IVec S16 32) (k0_hw81 : k0_chk81 v277), ∀ a x, ((![v277] : Fin 1 → IVec S16 32) a x).toNat < S4096.size a := fun v277 k0_hw81 => k0_hw81

def k0_chk82 (v289 : IVec S16 32) : Prop :=
  (∀ a x, ((![v289] : Fin 1 → IVec S16 32) a x).toNat < S4096.size a)
theorem k0_idx114_inb : ∀ (v289 : IVec S16 32) (k0_hw82 : k0_chk82 v289), ∀ a x, ((![v289] : Fin 1 → IVec S16 32) a x).toNat < S4096.size a := fun v289 k0_hw82 => k0_hw82

def k0_chk83 (v301 : IVec S16 32) : Prop :=
  (∀ a x, ((![v301] : Fin 1 → IVec S16 32) a x).toNat < S4096.size a)
theorem k0_idx115_inb : ∀ (v301 : IVec S16 32) (k0_hw83 : k0_chk83 v301), ∀ a x, ((![v301] : Fin 1 → IVec S16 32) a x).toNat < S4096.size a := fun v301 k0_hw83 => k0_hw83

def k0_chk84 (v313 : IVec S16 32) : Prop :=
  (∀ a x, ((![v313] : Fin 1 → IVec S16 32) a x).toNat < S4096.size a)
theorem k0_idx116_inb : ∀ (v313 : IVec S16 32) (k0_hw84 : k0_chk84 v313), ∀ a x, ((![v313] : Fin 1 → IVec S16 32) a x).toNat < S4096.size a := fun v313 k0_hw84 => k0_hw84

def k0_chk85 (v325 : IVec S16 32) : Prop :=
  (∀ a x, ((![v325] : Fin 1 → IVec S16 32) a x).toNat < S4096.size a)
theorem k0_idx117_inb : ∀ (v325 : IVec S16 32) (k0_hw85 : k0_chk85 v325), ∀ a x, ((![v325] : Fin 1 → IVec S16 32) a x).toNat < S4096.size a := fun v325 k0_hw85 => k0_hw85

def k0_chk86 (v337 : IVec S16 32) : Prop :=
  (∀ a x, ((![v337] : Fin 1 → IVec S16 32) a x).toNat < S4096.size a)
theorem k0_idx118_inb : ∀ (v337 : IVec S16 32) (k0_hw86 : k0_chk86 v337), ∀ a x, ((![v337] : Fin 1 → IVec S16 32) a x).toNat < S4096.size a := fun v337 k0_hw86 => k0_hw86

def k0_chk87 (v349 : IVec S16 32) : Prop :=
  (∀ a x, ((![v349] : Fin 1 → IVec S16 32) a x).toNat < S4096.size a)
theorem k0_idx119_inb : ∀ (v349 : IVec S16 32) (k0_hw87 : k0_chk87 v349), ∀ a x, ((![v349] : Fin 1 → IVec S16 32) a x).toNat < S4096.size a := fun v349 k0_hw87 => k0_hw87

def k0_chk88 (v361 : IVec S16 32) : Prop :=
  (∀ a x, ((![v361] : Fin 1 → IVec S16 32) a x).toNat < S4096.size a)
theorem k0_idx120_inb : ∀ (v361 : IVec S16 32) (k0_hw88 : k0_chk88 v361), ∀ a x, ((![v361] : Fin 1 → IVec S16 32) a x).toNat < S4096.size a := fun v361 k0_hw88 => k0_hw88
def k0_off19 (k0_t9 : Fin k0_t9_loop.trips) : Fin 1 → Nat :=
  let c0_i32_198 : BitVec 32 := 0#32
  let c0_i32_69 : BitVec 32 := 0#32
  let c1_i32_71 : BitVec 32 := 1#32
  let arg11 : BitVec 32 := Scf.iv c0_i32_69 c1_i32_71 k0_t9
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t10_loop : Scf.Loop 32 :=
  let c0_i32_77 : BitVec 32 := 0#32
  let c16_i32_78 : BitVec 32 := 16#32
  let v95 : BitVec 32 := Scalar.addi c0_i32_77 c16_i32_78
  let c1_i32_79 : BitVec 32 := 1#32
  ⟨c0_i32_77, v95, c1_i32_79⟩

def k0_chk89 (v181 : IVec S16 32) : Prop :=
  (∀ a x, ((![v181] : Fin 1 → IVec S16 32) a x).toNat < S4096.size a)
theorem k0_idx121_inb : ∀ (v181 : IVec S16 32) (k0_hw89 : k0_chk89 v181), ∀ a x, ((![v181] : Fin 1 → IVec S16 32) a x).toNat < S4096.size a := fun v181 k0_hw89 => k0_hw89

def k0_chk90 (v193 : IVec S16 32) : Prop :=
  (∀ a x, ((![v193] : Fin 1 → IVec S16 32) a x).toNat < S4096.size a)
theorem k0_idx122_inb : ∀ (v193 : IVec S16 32) (k0_hw90 : k0_chk90 v193), ∀ a x, ((![v193] : Fin 1 → IVec S16 32) a x).toNat < S4096.size a := fun v193 k0_hw90 => k0_hw90

def k0_chk91 (v205 : IVec S16 32) : Prop :=
  (∀ a x, ((![v205] : Fin 1 → IVec S16 32) a x).toNat < S4096.size a)
theorem k0_idx123_inb : ∀ (v205 : IVec S16 32) (k0_hw91 : k0_chk91 v205), ∀ a x, ((![v205] : Fin 1 → IVec S16 32) a x).toNat < S4096.size a := fun v205 k0_hw91 => k0_hw91

def k0_chk92 (v217 : IVec S16 32) : Prop :=
  (∀ a x, ((![v217] : Fin 1 → IVec S16 32) a x).toNat < S4096.size a)
theorem k0_idx124_inb : ∀ (v217 : IVec S16 32) (k0_hw92 : k0_chk92 v217), ∀ a x, ((![v217] : Fin 1 → IVec S16 32) a x).toNat < S4096.size a := fun v217 k0_hw92 => k0_hw92

def k0_chk93 (v229 : IVec S16 32) : Prop :=
  (∀ a x, ((![v229] : Fin 1 → IVec S16 32) a x).toNat < S4096.size a)
theorem k0_idx125_inb : ∀ (v229 : IVec S16 32) (k0_hw93 : k0_chk93 v229), ∀ a x, ((![v229] : Fin 1 → IVec S16 32) a x).toNat < S4096.size a := fun v229 k0_hw93 => k0_hw93

def k0_chk94 (v241 : IVec S16 32) : Prop :=
  (∀ a x, ((![v241] : Fin 1 → IVec S16 32) a x).toNat < S4096.size a)
theorem k0_idx126_inb : ∀ (v241 : IVec S16 32) (k0_hw94 : k0_chk94 v241), ∀ a x, ((![v241] : Fin 1 → IVec S16 32) a x).toNat < S4096.size a := fun v241 k0_hw94 => k0_hw94

def k0_chk95 (v253 : IVec S16 32) : Prop :=
  (∀ a x, ((![v253] : Fin 1 → IVec S16 32) a x).toNat < S4096.size a)
theorem k0_idx127_inb : ∀ (v253 : IVec S16 32) (k0_hw95 : k0_chk95 v253), ∀ a x, ((![v253] : Fin 1 → IVec S16 32) a x).toNat < S4096.size a := fun v253 k0_hw95 => k0_hw95

def k0_chk96 (v265 : IVec S16 32) : Prop :=
  (∀ a x, ((![v265] : Fin 1 → IVec S16 32) a x).toNat < S4096.size a)
theorem k0_idx128_inb : ∀ (v265 : IVec S16 32) (k0_hw96 : k0_chk96 v265), ∀ a x, ((![v265] : Fin 1 → IVec S16 32) a x).toNat < S4096.size a := fun v265 k0_hw96 => k0_hw96

def k0_chk97 (v277 : IVec S16 32) : Prop :=
  (∀ a x, ((![v277] : Fin 1 → IVec S16 32) a x).toNat < S4096.size a)
theorem k0_idx129_inb : ∀ (v277 : IVec S16 32) (k0_hw97 : k0_chk97 v277), ∀ a x, ((![v277] : Fin 1 → IVec S16 32) a x).toNat < S4096.size a := fun v277 k0_hw97 => k0_hw97

def k0_chk98 (v289 : IVec S16 32) : Prop :=
  (∀ a x, ((![v289] : Fin 1 → IVec S16 32) a x).toNat < S4096.size a)
theorem k0_idx130_inb : ∀ (v289 : IVec S16 32) (k0_hw98 : k0_chk98 v289), ∀ a x, ((![v289] : Fin 1 → IVec S16 32) a x).toNat < S4096.size a := fun v289 k0_hw98 => k0_hw98

def k0_chk99 (v301 : IVec S16 32) : Prop :=
  (∀ a x, ((![v301] : Fin 1 → IVec S16 32) a x).toNat < S4096.size a)
theorem k0_idx131_inb : ∀ (v301 : IVec S16 32) (k0_hw99 : k0_chk99 v301), ∀ a x, ((![v301] : Fin 1 → IVec S16 32) a x).toNat < S4096.size a := fun v301 k0_hw99 => k0_hw99

def k0_chk100 (v313 : IVec S16 32) : Prop :=
  (∀ a x, ((![v313] : Fin 1 → IVec S16 32) a x).toNat < S4096.size a)
theorem k0_idx132_inb : ∀ (v313 : IVec S16 32) (k0_hw100 : k0_chk100 v313), ∀ a x, ((![v313] : Fin 1 → IVec S16 32) a x).toNat < S4096.size a := fun v313 k0_hw100 => k0_hw100

def k0_chk101 (v325 : IVec S16 32) : Prop :=
  (∀ a x, ((![v325] : Fin 1 → IVec S16 32) a x).toNat < S4096.size a)
theorem k0_idx133_inb : ∀ (v325 : IVec S16 32) (k0_hw101 : k0_chk101 v325), ∀ a x, ((![v325] : Fin 1 → IVec S16 32) a x).toNat < S4096.size a := fun v325 k0_hw101 => k0_hw101

def k0_chk102 (v337 : IVec S16 32) : Prop :=
  (∀ a x, ((![v337] : Fin 1 → IVec S16 32) a x).toNat < S4096.size a)
theorem k0_idx134_inb : ∀ (v337 : IVec S16 32) (k0_hw102 : k0_chk102 v337), ∀ a x, ((![v337] : Fin 1 → IVec S16 32) a x).toNat < S4096.size a := fun v337 k0_hw102 => k0_hw102

def k0_chk103 (v349 : IVec S16 32) : Prop :=
  (∀ a x, ((![v349] : Fin 1 → IVec S16 32) a x).toNat < S4096.size a)
theorem k0_idx135_inb : ∀ (v349 : IVec S16 32) (k0_hw103 : k0_chk103 v349), ∀ a x, ((![v349] : Fin 1 → IVec S16 32) a x).toNat < S4096.size a := fun v349 k0_hw103 => k0_hw103

def k0_chk104 (v361 : IVec S16 32) : Prop :=
  (∀ a x, ((![v361] : Fin 1 → IVec S16 32) a x).toNat < S4096.size a)
theorem k0_idx136_inb : ∀ (v361 : IVec S16 32) (k0_hw104 : k0_chk104 v361), ∀ a x, ((![v361] : Fin 1 → IVec S16 32) a x).toNat < S4096.size a := fun v361 k0_hw104 => k0_hw104
def k0_off20 (k0_t10 : Fin k0_t10_loop.trips) : Fin 1 → Nat :=
  let c0_i32_198 : BitVec 32 := 0#32
  let c0_i32_77 : BitVec 32 := 0#32
  let c1_i32_79 : BitVec 32 := 1#32
  let arg11 : BitVec 32 := Scf.iv c0_i32_77 c1_i32_79 k0_t10
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t11_loop : Scf.Loop 32 :=
  let c0_i32_85 : BitVec 32 := 0#32
  let c16_i32_86 : BitVec 32 := 16#32
  let v100 : BitVec 32 := Scalar.addi c0_i32_85 c16_i32_86
  let c1_i32_87 : BitVec 32 := 1#32
  ⟨c0_i32_85, v100, c1_i32_87⟩

def k0_chk105 (v181 : IVec S16 32) : Prop :=
  (∀ a x, ((![v181] : Fin 1 → IVec S16 32) a x).toNat < S4096.size a)
theorem k0_idx137_inb : ∀ (v181 : IVec S16 32) (k0_hw105 : k0_chk105 v181), ∀ a x, ((![v181] : Fin 1 → IVec S16 32) a x).toNat < S4096.size a := fun v181 k0_hw105 => k0_hw105

def k0_chk106 (v193 : IVec S16 32) : Prop :=
  (∀ a x, ((![v193] : Fin 1 → IVec S16 32) a x).toNat < S4096.size a)
theorem k0_idx138_inb : ∀ (v193 : IVec S16 32) (k0_hw106 : k0_chk106 v193), ∀ a x, ((![v193] : Fin 1 → IVec S16 32) a x).toNat < S4096.size a := fun v193 k0_hw106 => k0_hw106

def k0_chk107 (v205 : IVec S16 32) : Prop :=
  (∀ a x, ((![v205] : Fin 1 → IVec S16 32) a x).toNat < S4096.size a)
theorem k0_idx139_inb : ∀ (v205 : IVec S16 32) (k0_hw107 : k0_chk107 v205), ∀ a x, ((![v205] : Fin 1 → IVec S16 32) a x).toNat < S4096.size a := fun v205 k0_hw107 => k0_hw107

def k0_chk108 (v217 : IVec S16 32) : Prop :=
  (∀ a x, ((![v217] : Fin 1 → IVec S16 32) a x).toNat < S4096.size a)
theorem k0_idx140_inb : ∀ (v217 : IVec S16 32) (k0_hw108 : k0_chk108 v217), ∀ a x, ((![v217] : Fin 1 → IVec S16 32) a x).toNat < S4096.size a := fun v217 k0_hw108 => k0_hw108

def k0_chk109 (v229 : IVec S16 32) : Prop :=
  (∀ a x, ((![v229] : Fin 1 → IVec S16 32) a x).toNat < S4096.size a)
theorem k0_idx141_inb : ∀ (v229 : IVec S16 32) (k0_hw109 : k0_chk109 v229), ∀ a x, ((![v229] : Fin 1 → IVec S16 32) a x).toNat < S4096.size a := fun v229 k0_hw109 => k0_hw109

def k0_chk110 (v241 : IVec S16 32) : Prop :=
  (∀ a x, ((![v241] : Fin 1 → IVec S16 32) a x).toNat < S4096.size a)
theorem k0_idx142_inb : ∀ (v241 : IVec S16 32) (k0_hw110 : k0_chk110 v241), ∀ a x, ((![v241] : Fin 1 → IVec S16 32) a x).toNat < S4096.size a := fun v241 k0_hw110 => k0_hw110

def k0_chk111 (v253 : IVec S16 32) : Prop :=
  (∀ a x, ((![v253] : Fin 1 → IVec S16 32) a x).toNat < S4096.size a)
theorem k0_idx143_inb : ∀ (v253 : IVec S16 32) (k0_hw111 : k0_chk111 v253), ∀ a x, ((![v253] : Fin 1 → IVec S16 32) a x).toNat < S4096.size a := fun v253 k0_hw111 => k0_hw111

def k0_chk112 (v265 : IVec S16 32) : Prop :=
  (∀ a x, ((![v265] : Fin 1 → IVec S16 32) a x).toNat < S4096.size a)
theorem k0_idx144_inb : ∀ (v265 : IVec S16 32) (k0_hw112 : k0_chk112 v265), ∀ a x, ((![v265] : Fin 1 → IVec S16 32) a x).toNat < S4096.size a := fun v265 k0_hw112 => k0_hw112

def k0_chk113 (v277 : IVec S16 32) : Prop :=
  (∀ a x, ((![v277] : Fin 1 → IVec S16 32) a x).toNat < S4096.size a)
theorem k0_idx145_inb : ∀ (v277 : IVec S16 32) (k0_hw113 : k0_chk113 v277), ∀ a x, ((![v277] : Fin 1 → IVec S16 32) a x).toNat < S4096.size a := fun v277 k0_hw113 => k0_hw113

def k0_chk114 (v289 : IVec S16 32) : Prop :=
  (∀ a x, ((![v289] : Fin 1 → IVec S16 32) a x).toNat < S4096.size a)
theorem k0_idx146_inb : ∀ (v289 : IVec S16 32) (k0_hw114 : k0_chk114 v289), ∀ a x, ((![v289] : Fin 1 → IVec S16 32) a x).toNat < S4096.size a := fun v289 k0_hw114 => k0_hw114

def k0_chk115 (v301 : IVec S16 32) : Prop :=
  (∀ a x, ((![v301] : Fin 1 → IVec S16 32) a x).toNat < S4096.size a)
theorem k0_idx147_inb : ∀ (v301 : IVec S16 32) (k0_hw115 : k0_chk115 v301), ∀ a x, ((![v301] : Fin 1 → IVec S16 32) a x).toNat < S4096.size a := fun v301 k0_hw115 => k0_hw115

def k0_chk116 (v313 : IVec S16 32) : Prop :=
  (∀ a x, ((![v313] : Fin 1 → IVec S16 32) a x).toNat < S4096.size a)
theorem k0_idx148_inb : ∀ (v313 : IVec S16 32) (k0_hw116 : k0_chk116 v313), ∀ a x, ((![v313] : Fin 1 → IVec S16 32) a x).toNat < S4096.size a := fun v313 k0_hw116 => k0_hw116

def k0_chk117 (v325 : IVec S16 32) : Prop :=
  (∀ a x, ((![v325] : Fin 1 → IVec S16 32) a x).toNat < S4096.size a)
theorem k0_idx149_inb : ∀ (v325 : IVec S16 32) (k0_hw117 : k0_chk117 v325), ∀ a x, ((![v325] : Fin 1 → IVec S16 32) a x).toNat < S4096.size a := fun v325 k0_hw117 => k0_hw117

def k0_chk118 (v337 : IVec S16 32) : Prop :=
  (∀ a x, ((![v337] : Fin 1 → IVec S16 32) a x).toNat < S4096.size a)
theorem k0_idx150_inb : ∀ (v337 : IVec S16 32) (k0_hw118 : k0_chk118 v337), ∀ a x, ((![v337] : Fin 1 → IVec S16 32) a x).toNat < S4096.size a := fun v337 k0_hw118 => k0_hw118

def k0_chk119 (v349 : IVec S16 32) : Prop :=
  (∀ a x, ((![v349] : Fin 1 → IVec S16 32) a x).toNat < S4096.size a)
theorem k0_idx151_inb : ∀ (v349 : IVec S16 32) (k0_hw119 : k0_chk119 v349), ∀ a x, ((![v349] : Fin 1 → IVec S16 32) a x).toNat < S4096.size a := fun v349 k0_hw119 => k0_hw119

def k0_chk120 (v361 : IVec S16 32) : Prop :=
  (∀ a x, ((![v361] : Fin 1 → IVec S16 32) a x).toNat < S4096.size a)
theorem k0_idx152_inb : ∀ (v361 : IVec S16 32) (k0_hw120 : k0_chk120 v361), ∀ a x, ((![v361] : Fin 1 → IVec S16 32) a x).toNat < S4096.size a := fun v361 k0_hw120 => k0_hw120
def k0_off21 (k0_t11 : Fin k0_t11_loop.trips) : Fin 1 → Nat :=
  let c0_i32_198 : BitVec 32 := 0#32
  let c0_i32_85 : BitVec 32 := 0#32
  let c1_i32_87 : BitVec 32 := 1#32
  let arg11 : BitVec 32 := Scf.iv c0_i32_85 c1_i32_87 k0_t11
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t12_loop : Scf.Loop 32 :=
  let c0_i32_93 : BitVec 32 := 0#32
  let c16_i32_94 : BitVec 32 := 16#32
  let v105 : BitVec 32 := Scalar.addi c0_i32_93 c16_i32_94
  let c1_i32_95 : BitVec 32 := 1#32
  ⟨c0_i32_93, v105, c1_i32_95⟩

def k0_chk121 (v181 : IVec S16 32) : Prop :=
  (∀ a x, ((![v181] : Fin 1 → IVec S16 32) a x).toNat < S4096.size a)
theorem k0_idx153_inb : ∀ (v181 : IVec S16 32) (k0_hw121 : k0_chk121 v181), ∀ a x, ((![v181] : Fin 1 → IVec S16 32) a x).toNat < S4096.size a := fun v181 k0_hw121 => k0_hw121

def k0_chk122 (v193 : IVec S16 32) : Prop :=
  (∀ a x, ((![v193] : Fin 1 → IVec S16 32) a x).toNat < S4096.size a)
theorem k0_idx154_inb : ∀ (v193 : IVec S16 32) (k0_hw122 : k0_chk122 v193), ∀ a x, ((![v193] : Fin 1 → IVec S16 32) a x).toNat < S4096.size a := fun v193 k0_hw122 => k0_hw122

def k0_chk123 (v205 : IVec S16 32) : Prop :=
  (∀ a x, ((![v205] : Fin 1 → IVec S16 32) a x).toNat < S4096.size a)
theorem k0_idx155_inb : ∀ (v205 : IVec S16 32) (k0_hw123 : k0_chk123 v205), ∀ a x, ((![v205] : Fin 1 → IVec S16 32) a x).toNat < S4096.size a := fun v205 k0_hw123 => k0_hw123

def k0_chk124 (v217 : IVec S16 32) : Prop :=
  (∀ a x, ((![v217] : Fin 1 → IVec S16 32) a x).toNat < S4096.size a)
theorem k0_idx156_inb : ∀ (v217 : IVec S16 32) (k0_hw124 : k0_chk124 v217), ∀ a x, ((![v217] : Fin 1 → IVec S16 32) a x).toNat < S4096.size a := fun v217 k0_hw124 => k0_hw124

def k0_chk125 (v229 : IVec S16 32) : Prop :=
  (∀ a x, ((![v229] : Fin 1 → IVec S16 32) a x).toNat < S4096.size a)
theorem k0_idx157_inb : ∀ (v229 : IVec S16 32) (k0_hw125 : k0_chk125 v229), ∀ a x, ((![v229] : Fin 1 → IVec S16 32) a x).toNat < S4096.size a := fun v229 k0_hw125 => k0_hw125

def k0_chk126 (v241 : IVec S16 32) : Prop :=
  (∀ a x, ((![v241] : Fin 1 → IVec S16 32) a x).toNat < S4096.size a)
theorem k0_idx158_inb : ∀ (v241 : IVec S16 32) (k0_hw126 : k0_chk126 v241), ∀ a x, ((![v241] : Fin 1 → IVec S16 32) a x).toNat < S4096.size a := fun v241 k0_hw126 => k0_hw126

def k0_chk127 (v253 : IVec S16 32) : Prop :=
  (∀ a x, ((![v253] : Fin 1 → IVec S16 32) a x).toNat < S4096.size a)
theorem k0_idx159_inb : ∀ (v253 : IVec S16 32) (k0_hw127 : k0_chk127 v253), ∀ a x, ((![v253] : Fin 1 → IVec S16 32) a x).toNat < S4096.size a := fun v253 k0_hw127 => k0_hw127

def k0_chk128 (v265 : IVec S16 32) : Prop :=
  (∀ a x, ((![v265] : Fin 1 → IVec S16 32) a x).toNat < S4096.size a)
theorem k0_idx160_inb : ∀ (v265 : IVec S16 32) (k0_hw128 : k0_chk128 v265), ∀ a x, ((![v265] : Fin 1 → IVec S16 32) a x).toNat < S4096.size a := fun v265 k0_hw128 => k0_hw128

def k0_chk129 (v277 : IVec S16 32) : Prop :=
  (∀ a x, ((![v277] : Fin 1 → IVec S16 32) a x).toNat < S4096.size a)
theorem k0_idx161_inb : ∀ (v277 : IVec S16 32) (k0_hw129 : k0_chk129 v277), ∀ a x, ((![v277] : Fin 1 → IVec S16 32) a x).toNat < S4096.size a := fun v277 k0_hw129 => k0_hw129

def k0_chk130 (v289 : IVec S16 32) : Prop :=
  (∀ a x, ((![v289] : Fin 1 → IVec S16 32) a x).toNat < S4096.size a)
theorem k0_idx162_inb : ∀ (v289 : IVec S16 32) (k0_hw130 : k0_chk130 v289), ∀ a x, ((![v289] : Fin 1 → IVec S16 32) a x).toNat < S4096.size a := fun v289 k0_hw130 => k0_hw130

def k0_chk131 (v301 : IVec S16 32) : Prop :=
  (∀ a x, ((![v301] : Fin 1 → IVec S16 32) a x).toNat < S4096.size a)
theorem k0_idx163_inb : ∀ (v301 : IVec S16 32) (k0_hw131 : k0_chk131 v301), ∀ a x, ((![v301] : Fin 1 → IVec S16 32) a x).toNat < S4096.size a := fun v301 k0_hw131 => k0_hw131

def k0_chk132 (v313 : IVec S16 32) : Prop :=
  (∀ a x, ((![v313] : Fin 1 → IVec S16 32) a x).toNat < S4096.size a)
theorem k0_idx164_inb : ∀ (v313 : IVec S16 32) (k0_hw132 : k0_chk132 v313), ∀ a x, ((![v313] : Fin 1 → IVec S16 32) a x).toNat < S4096.size a := fun v313 k0_hw132 => k0_hw132

def k0_chk133 (v325 : IVec S16 32) : Prop :=
  (∀ a x, ((![v325] : Fin 1 → IVec S16 32) a x).toNat < S4096.size a)
theorem k0_idx165_inb : ∀ (v325 : IVec S16 32) (k0_hw133 : k0_chk133 v325), ∀ a x, ((![v325] : Fin 1 → IVec S16 32) a x).toNat < S4096.size a := fun v325 k0_hw133 => k0_hw133

def k0_chk134 (v337 : IVec S16 32) : Prop :=
  (∀ a x, ((![v337] : Fin 1 → IVec S16 32) a x).toNat < S4096.size a)
theorem k0_idx166_inb : ∀ (v337 : IVec S16 32) (k0_hw134 : k0_chk134 v337), ∀ a x, ((![v337] : Fin 1 → IVec S16 32) a x).toNat < S4096.size a := fun v337 k0_hw134 => k0_hw134

def k0_chk135 (v349 : IVec S16 32) : Prop :=
  (∀ a x, ((![v349] : Fin 1 → IVec S16 32) a x).toNat < S4096.size a)
theorem k0_idx167_inb : ∀ (v349 : IVec S16 32) (k0_hw135 : k0_chk135 v349), ∀ a x, ((![v349] : Fin 1 → IVec S16 32) a x).toNat < S4096.size a := fun v349 k0_hw135 => k0_hw135

def k0_chk136 (v361 : IVec S16 32) : Prop :=
  (∀ a x, ((![v361] : Fin 1 → IVec S16 32) a x).toNat < S4096.size a)
theorem k0_idx168_inb : ∀ (v361 : IVec S16 32) (k0_hw136 : k0_chk136 v361), ∀ a x, ((![v361] : Fin 1 → IVec S16 32) a x).toNat < S4096.size a := fun v361 k0_hw136 => k0_hw136
def k0_off22 (k0_t12 : Fin k0_t12_loop.trips) : Fin 1 → Nat :=
  let c0_i32_198 : BitVec 32 := 0#32
  let c0_i32_93 : BitVec 32 := 0#32
  let c1_i32_95 : BitVec 32 := 1#32
  let arg11 : BitVec 32 := Scf.iv c0_i32_93 c1_i32_95 k0_t12
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t13_loop : Scf.Loop 32 :=
  let c0_i32_101 : BitVec 32 := 0#32
  let c16_i32_102 : BitVec 32 := 16#32
  let v110 : BitVec 32 := Scalar.addi c0_i32_101 c16_i32_102
  let c1_i32_103 : BitVec 32 := 1#32
  ⟨c0_i32_101, v110, c1_i32_103⟩

def k0_chk137 (v181 : IVec S16 32) : Prop :=
  (∀ a x, ((![v181] : Fin 1 → IVec S16 32) a x).toNat < S4096.size a)
theorem k0_idx169_inb : ∀ (v181 : IVec S16 32) (k0_hw137 : k0_chk137 v181), ∀ a x, ((![v181] : Fin 1 → IVec S16 32) a x).toNat < S4096.size a := fun v181 k0_hw137 => k0_hw137

def k0_chk138 (v193 : IVec S16 32) : Prop :=
  (∀ a x, ((![v193] : Fin 1 → IVec S16 32) a x).toNat < S4096.size a)
theorem k0_idx170_inb : ∀ (v193 : IVec S16 32) (k0_hw138 : k0_chk138 v193), ∀ a x, ((![v193] : Fin 1 → IVec S16 32) a x).toNat < S4096.size a := fun v193 k0_hw138 => k0_hw138

def k0_chk139 (v205 : IVec S16 32) : Prop :=
  (∀ a x, ((![v205] : Fin 1 → IVec S16 32) a x).toNat < S4096.size a)
theorem k0_idx171_inb : ∀ (v205 : IVec S16 32) (k0_hw139 : k0_chk139 v205), ∀ a x, ((![v205] : Fin 1 → IVec S16 32) a x).toNat < S4096.size a := fun v205 k0_hw139 => k0_hw139

def k0_chk140 (v217 : IVec S16 32) : Prop :=
  (∀ a x, ((![v217] : Fin 1 → IVec S16 32) a x).toNat < S4096.size a)
theorem k0_idx172_inb : ∀ (v217 : IVec S16 32) (k0_hw140 : k0_chk140 v217), ∀ a x, ((![v217] : Fin 1 → IVec S16 32) a x).toNat < S4096.size a := fun v217 k0_hw140 => k0_hw140

def k0_chk141 (v229 : IVec S16 32) : Prop :=
  (∀ a x, ((![v229] : Fin 1 → IVec S16 32) a x).toNat < S4096.size a)
theorem k0_idx173_inb : ∀ (v229 : IVec S16 32) (k0_hw141 : k0_chk141 v229), ∀ a x, ((![v229] : Fin 1 → IVec S16 32) a x).toNat < S4096.size a := fun v229 k0_hw141 => k0_hw141

def k0_chk142 (v241 : IVec S16 32) : Prop :=
  (∀ a x, ((![v241] : Fin 1 → IVec S16 32) a x).toNat < S4096.size a)
theorem k0_idx174_inb : ∀ (v241 : IVec S16 32) (k0_hw142 : k0_chk142 v241), ∀ a x, ((![v241] : Fin 1 → IVec S16 32) a x).toNat < S4096.size a := fun v241 k0_hw142 => k0_hw142

def k0_chk143 (v253 : IVec S16 32) : Prop :=
  (∀ a x, ((![v253] : Fin 1 → IVec S16 32) a x).toNat < S4096.size a)
theorem k0_idx175_inb : ∀ (v253 : IVec S16 32) (k0_hw143 : k0_chk143 v253), ∀ a x, ((![v253] : Fin 1 → IVec S16 32) a x).toNat < S4096.size a := fun v253 k0_hw143 => k0_hw143

def k0_chk144 (v265 : IVec S16 32) : Prop :=
  (∀ a x, ((![v265] : Fin 1 → IVec S16 32) a x).toNat < S4096.size a)
theorem k0_idx176_inb : ∀ (v265 : IVec S16 32) (k0_hw144 : k0_chk144 v265), ∀ a x, ((![v265] : Fin 1 → IVec S16 32) a x).toNat < S4096.size a := fun v265 k0_hw144 => k0_hw144

def k0_chk145 (v277 : IVec S16 32) : Prop :=
  (∀ a x, ((![v277] : Fin 1 → IVec S16 32) a x).toNat < S4096.size a)
theorem k0_idx177_inb : ∀ (v277 : IVec S16 32) (k0_hw145 : k0_chk145 v277), ∀ a x, ((![v277] : Fin 1 → IVec S16 32) a x).toNat < S4096.size a := fun v277 k0_hw145 => k0_hw145

def k0_chk146 (v289 : IVec S16 32) : Prop :=
  (∀ a x, ((![v289] : Fin 1 → IVec S16 32) a x).toNat < S4096.size a)
theorem k0_idx178_inb : ∀ (v289 : IVec S16 32) (k0_hw146 : k0_chk146 v289), ∀ a x, ((![v289] : Fin 1 → IVec S16 32) a x).toNat < S4096.size a := fun v289 k0_hw146 => k0_hw146

def k0_chk147 (v301 : IVec S16 32) : Prop :=
  (∀ a x, ((![v301] : Fin 1 → IVec S16 32) a x).toNat < S4096.size a)
theorem k0_idx179_inb : ∀ (v301 : IVec S16 32) (k0_hw147 : k0_chk147 v301), ∀ a x, ((![v301] : Fin 1 → IVec S16 32) a x).toNat < S4096.size a := fun v301 k0_hw147 => k0_hw147

def k0_chk148 (v313 : IVec S16 32) : Prop :=
  (∀ a x, ((![v313] : Fin 1 → IVec S16 32) a x).toNat < S4096.size a)
theorem k0_idx180_inb : ∀ (v313 : IVec S16 32) (k0_hw148 : k0_chk148 v313), ∀ a x, ((![v313] : Fin 1 → IVec S16 32) a x).toNat < S4096.size a := fun v313 k0_hw148 => k0_hw148

def k0_chk149 (v325 : IVec S16 32) : Prop :=
  (∀ a x, ((![v325] : Fin 1 → IVec S16 32) a x).toNat < S4096.size a)
theorem k0_idx181_inb : ∀ (v325 : IVec S16 32) (k0_hw149 : k0_chk149 v325), ∀ a x, ((![v325] : Fin 1 → IVec S16 32) a x).toNat < S4096.size a := fun v325 k0_hw149 => k0_hw149

def k0_chk150 (v337 : IVec S16 32) : Prop :=
  (∀ a x, ((![v337] : Fin 1 → IVec S16 32) a x).toNat < S4096.size a)
theorem k0_idx182_inb : ∀ (v337 : IVec S16 32) (k0_hw150 : k0_chk150 v337), ∀ a x, ((![v337] : Fin 1 → IVec S16 32) a x).toNat < S4096.size a := fun v337 k0_hw150 => k0_hw150

def k0_chk151 (v349 : IVec S16 32) : Prop :=
  (∀ a x, ((![v349] : Fin 1 → IVec S16 32) a x).toNat < S4096.size a)
theorem k0_idx183_inb : ∀ (v349 : IVec S16 32) (k0_hw151 : k0_chk151 v349), ∀ a x, ((![v349] : Fin 1 → IVec S16 32) a x).toNat < S4096.size a := fun v349 k0_hw151 => k0_hw151

def k0_chk152 (v361 : IVec S16 32) : Prop :=
  (∀ a x, ((![v361] : Fin 1 → IVec S16 32) a x).toNat < S4096.size a)
theorem k0_idx184_inb : ∀ (v361 : IVec S16 32) (k0_hw152 : k0_chk152 v361), ∀ a x, ((![v361] : Fin 1 → IVec S16 32) a x).toNat < S4096.size a := fun v361 k0_hw152 => k0_hw152
def k0_off23 (k0_t13 : Fin k0_t13_loop.trips) : Fin 1 → Nat :=
  let c0_i32_198 : BitVec 32 := 0#32
  let c0_i32_101 : BitVec 32 := 0#32
  let c1_i32_103 : BitVec 32 := 1#32
  let arg11 : BitVec 32 := Scf.iv c0_i32_101 c1_i32_103 k0_t13
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t14_loop : Scf.Loop 32 :=
  let c0_i32_109 : BitVec 32 := 0#32
  let c16_i32_110 : BitVec 32 := 16#32
  let v115 : BitVec 32 := Scalar.addi c0_i32_109 c16_i32_110
  let c1_i32_111 : BitVec 32 := 1#32
  ⟨c0_i32_109, v115, c1_i32_111⟩

def k0_chk153 (v181 : IVec S16 32) : Prop :=
  (∀ a x, ((![v181] : Fin 1 → IVec S16 32) a x).toNat < S4096.size a)
theorem k0_idx185_inb : ∀ (v181 : IVec S16 32) (k0_hw153 : k0_chk153 v181), ∀ a x, ((![v181] : Fin 1 → IVec S16 32) a x).toNat < S4096.size a := fun v181 k0_hw153 => k0_hw153

def k0_chk154 (v193 : IVec S16 32) : Prop :=
  (∀ a x, ((![v193] : Fin 1 → IVec S16 32) a x).toNat < S4096.size a)
theorem k0_idx186_inb : ∀ (v193 : IVec S16 32) (k0_hw154 : k0_chk154 v193), ∀ a x, ((![v193] : Fin 1 → IVec S16 32) a x).toNat < S4096.size a := fun v193 k0_hw154 => k0_hw154

def k0_chk155 (v205 : IVec S16 32) : Prop :=
  (∀ a x, ((![v205] : Fin 1 → IVec S16 32) a x).toNat < S4096.size a)
theorem k0_idx187_inb : ∀ (v205 : IVec S16 32) (k0_hw155 : k0_chk155 v205), ∀ a x, ((![v205] : Fin 1 → IVec S16 32) a x).toNat < S4096.size a := fun v205 k0_hw155 => k0_hw155

def k0_chk156 (v217 : IVec S16 32) : Prop :=
  (∀ a x, ((![v217] : Fin 1 → IVec S16 32) a x).toNat < S4096.size a)
theorem k0_idx188_inb : ∀ (v217 : IVec S16 32) (k0_hw156 : k0_chk156 v217), ∀ a x, ((![v217] : Fin 1 → IVec S16 32) a x).toNat < S4096.size a := fun v217 k0_hw156 => k0_hw156

def k0_chk157 (v229 : IVec S16 32) : Prop :=
  (∀ a x, ((![v229] : Fin 1 → IVec S16 32) a x).toNat < S4096.size a)
theorem k0_idx189_inb : ∀ (v229 : IVec S16 32) (k0_hw157 : k0_chk157 v229), ∀ a x, ((![v229] : Fin 1 → IVec S16 32) a x).toNat < S4096.size a := fun v229 k0_hw157 => k0_hw157

def k0_chk158 (v241 : IVec S16 32) : Prop :=
  (∀ a x, ((![v241] : Fin 1 → IVec S16 32) a x).toNat < S4096.size a)
theorem k0_idx190_inb : ∀ (v241 : IVec S16 32) (k0_hw158 : k0_chk158 v241), ∀ a x, ((![v241] : Fin 1 → IVec S16 32) a x).toNat < S4096.size a := fun v241 k0_hw158 => k0_hw158

def k0_chk159 (v253 : IVec S16 32) : Prop :=
  (∀ a x, ((![v253] : Fin 1 → IVec S16 32) a x).toNat < S4096.size a)
theorem k0_idx191_inb : ∀ (v253 : IVec S16 32) (k0_hw159 : k0_chk159 v253), ∀ a x, ((![v253] : Fin 1 → IVec S16 32) a x).toNat < S4096.size a := fun v253 k0_hw159 => k0_hw159

def k0_chk160 (v265 : IVec S16 32) : Prop :=
  (∀ a x, ((![v265] : Fin 1 → IVec S16 32) a x).toNat < S4096.size a)
theorem k0_idx192_inb : ∀ (v265 : IVec S16 32) (k0_hw160 : k0_chk160 v265), ∀ a x, ((![v265] : Fin 1 → IVec S16 32) a x).toNat < S4096.size a := fun v265 k0_hw160 => k0_hw160

def k0_chk161 (v277 : IVec S16 32) : Prop :=
  (∀ a x, ((![v277] : Fin 1 → IVec S16 32) a x).toNat < S4096.size a)
theorem k0_idx193_inb : ∀ (v277 : IVec S16 32) (k0_hw161 : k0_chk161 v277), ∀ a x, ((![v277] : Fin 1 → IVec S16 32) a x).toNat < S4096.size a := fun v277 k0_hw161 => k0_hw161

def k0_chk162 (v289 : IVec S16 32) : Prop :=
  (∀ a x, ((![v289] : Fin 1 → IVec S16 32) a x).toNat < S4096.size a)
theorem k0_idx194_inb : ∀ (v289 : IVec S16 32) (k0_hw162 : k0_chk162 v289), ∀ a x, ((![v289] : Fin 1 → IVec S16 32) a x).toNat < S4096.size a := fun v289 k0_hw162 => k0_hw162

def k0_chk163 (v301 : IVec S16 32) : Prop :=
  (∀ a x, ((![v301] : Fin 1 → IVec S16 32) a x).toNat < S4096.size a)
theorem k0_idx195_inb : ∀ (v301 : IVec S16 32) (k0_hw163 : k0_chk163 v301), ∀ a x, ((![v301] : Fin 1 → IVec S16 32) a x).toNat < S4096.size a := fun v301 k0_hw163 => k0_hw163

def k0_chk164 (v313 : IVec S16 32) : Prop :=
  (∀ a x, ((![v313] : Fin 1 → IVec S16 32) a x).toNat < S4096.size a)
theorem k0_idx196_inb : ∀ (v313 : IVec S16 32) (k0_hw164 : k0_chk164 v313), ∀ a x, ((![v313] : Fin 1 → IVec S16 32) a x).toNat < S4096.size a := fun v313 k0_hw164 => k0_hw164

def k0_chk165 (v325 : IVec S16 32) : Prop :=
  (∀ a x, ((![v325] : Fin 1 → IVec S16 32) a x).toNat < S4096.size a)
theorem k0_idx197_inb : ∀ (v325 : IVec S16 32) (k0_hw165 : k0_chk165 v325), ∀ a x, ((![v325] : Fin 1 → IVec S16 32) a x).toNat < S4096.size a := fun v325 k0_hw165 => k0_hw165

def k0_chk166 (v337 : IVec S16 32) : Prop :=
  (∀ a x, ((![v337] : Fin 1 → IVec S16 32) a x).toNat < S4096.size a)
theorem k0_idx198_inb : ∀ (v337 : IVec S16 32) (k0_hw166 : k0_chk166 v337), ∀ a x, ((![v337] : Fin 1 → IVec S16 32) a x).toNat < S4096.size a := fun v337 k0_hw166 => k0_hw166

def k0_chk167 (v349 : IVec S16 32) : Prop :=
  (∀ a x, ((![v349] : Fin 1 → IVec S16 32) a x).toNat < S4096.size a)
theorem k0_idx199_inb : ∀ (v349 : IVec S16 32) (k0_hw167 : k0_chk167 v349), ∀ a x, ((![v349] : Fin 1 → IVec S16 32) a x).toNat < S4096.size a := fun v349 k0_hw167 => k0_hw167

def k0_chk168 (v361 : IVec S16 32) : Prop :=
  (∀ a x, ((![v361] : Fin 1 → IVec S16 32) a x).toNat < S4096.size a)
theorem k0_idx200_inb : ∀ (v361 : IVec S16 32) (k0_hw168 : k0_chk168 v361), ∀ a x, ((![v361] : Fin 1 → IVec S16 32) a x).toNat < S4096.size a := fun v361 k0_hw168 => k0_hw168
def k0_off24 (k0_t14 : Fin k0_t14_loop.trips) : Fin 1 → Nat :=
  let c0_i32_198 : BitVec 32 := 0#32
  let c0_i32_109 : BitVec 32 := 0#32
  let c1_i32_111 : BitVec 32 := 1#32
  let arg11 : BitVec 32 := Scf.iv c0_i32_109 c1_i32_111 k0_t14
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t15_loop : Scf.Loop 32 :=
  let c0_i32_117 : BitVec 32 := 0#32
  let c16_i32_118 : BitVec 32 := 16#32
  let v120 : BitVec 32 := Scalar.addi c0_i32_117 c16_i32_118
  let c1_i32_119 : BitVec 32 := 1#32
  ⟨c0_i32_117, v120, c1_i32_119⟩

def k0_chk169 (v181 : IVec S16 32) : Prop :=
  (∀ a x, ((![v181] : Fin 1 → IVec S16 32) a x).toNat < S4096.size a)
theorem k0_idx201_inb : ∀ (v181 : IVec S16 32) (k0_hw169 : k0_chk169 v181), ∀ a x, ((![v181] : Fin 1 → IVec S16 32) a x).toNat < S4096.size a := fun v181 k0_hw169 => k0_hw169

def k0_chk170 (v193 : IVec S16 32) : Prop :=
  (∀ a x, ((![v193] : Fin 1 → IVec S16 32) a x).toNat < S4096.size a)
theorem k0_idx202_inb : ∀ (v193 : IVec S16 32) (k0_hw170 : k0_chk170 v193), ∀ a x, ((![v193] : Fin 1 → IVec S16 32) a x).toNat < S4096.size a := fun v193 k0_hw170 => k0_hw170

def k0_chk171 (v205 : IVec S16 32) : Prop :=
  (∀ a x, ((![v205] : Fin 1 → IVec S16 32) a x).toNat < S4096.size a)
theorem k0_idx203_inb : ∀ (v205 : IVec S16 32) (k0_hw171 : k0_chk171 v205), ∀ a x, ((![v205] : Fin 1 → IVec S16 32) a x).toNat < S4096.size a := fun v205 k0_hw171 => k0_hw171

def k0_chk172 (v217 : IVec S16 32) : Prop :=
  (∀ a x, ((![v217] : Fin 1 → IVec S16 32) a x).toNat < S4096.size a)
theorem k0_idx204_inb : ∀ (v217 : IVec S16 32) (k0_hw172 : k0_chk172 v217), ∀ a x, ((![v217] : Fin 1 → IVec S16 32) a x).toNat < S4096.size a := fun v217 k0_hw172 => k0_hw172

def k0_chk173 (v229 : IVec S16 32) : Prop :=
  (∀ a x, ((![v229] : Fin 1 → IVec S16 32) a x).toNat < S4096.size a)
theorem k0_idx205_inb : ∀ (v229 : IVec S16 32) (k0_hw173 : k0_chk173 v229), ∀ a x, ((![v229] : Fin 1 → IVec S16 32) a x).toNat < S4096.size a := fun v229 k0_hw173 => k0_hw173

def k0_chk174 (v241 : IVec S16 32) : Prop :=
  (∀ a x, ((![v241] : Fin 1 → IVec S16 32) a x).toNat < S4096.size a)
theorem k0_idx206_inb : ∀ (v241 : IVec S16 32) (k0_hw174 : k0_chk174 v241), ∀ a x, ((![v241] : Fin 1 → IVec S16 32) a x).toNat < S4096.size a := fun v241 k0_hw174 => k0_hw174

def k0_chk175 (v253 : IVec S16 32) : Prop :=
  (∀ a x, ((![v253] : Fin 1 → IVec S16 32) a x).toNat < S4096.size a)
theorem k0_idx207_inb : ∀ (v253 : IVec S16 32) (k0_hw175 : k0_chk175 v253), ∀ a x, ((![v253] : Fin 1 → IVec S16 32) a x).toNat < S4096.size a := fun v253 k0_hw175 => k0_hw175

def k0_chk176 (v265 : IVec S16 32) : Prop :=
  (∀ a x, ((![v265] : Fin 1 → IVec S16 32) a x).toNat < S4096.size a)
theorem k0_idx208_inb : ∀ (v265 : IVec S16 32) (k0_hw176 : k0_chk176 v265), ∀ a x, ((![v265] : Fin 1 → IVec S16 32) a x).toNat < S4096.size a := fun v265 k0_hw176 => k0_hw176

def k0_chk177 (v277 : IVec S16 32) : Prop :=
  (∀ a x, ((![v277] : Fin 1 → IVec S16 32) a x).toNat < S4096.size a)
theorem k0_idx209_inb : ∀ (v277 : IVec S16 32) (k0_hw177 : k0_chk177 v277), ∀ a x, ((![v277] : Fin 1 → IVec S16 32) a x).toNat < S4096.size a := fun v277 k0_hw177 => k0_hw177

def k0_chk178 (v289 : IVec S16 32) : Prop :=
  (∀ a x, ((![v289] : Fin 1 → IVec S16 32) a x).toNat < S4096.size a)
theorem k0_idx210_inb : ∀ (v289 : IVec S16 32) (k0_hw178 : k0_chk178 v289), ∀ a x, ((![v289] : Fin 1 → IVec S16 32) a x).toNat < S4096.size a := fun v289 k0_hw178 => k0_hw178

def k0_chk179 (v301 : IVec S16 32) : Prop :=
  (∀ a x, ((![v301] : Fin 1 → IVec S16 32) a x).toNat < S4096.size a)
theorem k0_idx211_inb : ∀ (v301 : IVec S16 32) (k0_hw179 : k0_chk179 v301), ∀ a x, ((![v301] : Fin 1 → IVec S16 32) a x).toNat < S4096.size a := fun v301 k0_hw179 => k0_hw179

def k0_chk180 (v313 : IVec S16 32) : Prop :=
  (∀ a x, ((![v313] : Fin 1 → IVec S16 32) a x).toNat < S4096.size a)
theorem k0_idx212_inb : ∀ (v313 : IVec S16 32) (k0_hw180 : k0_chk180 v313), ∀ a x, ((![v313] : Fin 1 → IVec S16 32) a x).toNat < S4096.size a := fun v313 k0_hw180 => k0_hw180

def k0_chk181 (v325 : IVec S16 32) : Prop :=
  (∀ a x, ((![v325] : Fin 1 → IVec S16 32) a x).toNat < S4096.size a)
theorem k0_idx213_inb : ∀ (v325 : IVec S16 32) (k0_hw181 : k0_chk181 v325), ∀ a x, ((![v325] : Fin 1 → IVec S16 32) a x).toNat < S4096.size a := fun v325 k0_hw181 => k0_hw181

def k0_chk182 (v337 : IVec S16 32) : Prop :=
  (∀ a x, ((![v337] : Fin 1 → IVec S16 32) a x).toNat < S4096.size a)
theorem k0_idx214_inb : ∀ (v337 : IVec S16 32) (k0_hw182 : k0_chk182 v337), ∀ a x, ((![v337] : Fin 1 → IVec S16 32) a x).toNat < S4096.size a := fun v337 k0_hw182 => k0_hw182

def k0_chk183 (v349 : IVec S16 32) : Prop :=
  (∀ a x, ((![v349] : Fin 1 → IVec S16 32) a x).toNat < S4096.size a)
theorem k0_idx215_inb : ∀ (v349 : IVec S16 32) (k0_hw183 : k0_chk183 v349), ∀ a x, ((![v349] : Fin 1 → IVec S16 32) a x).toNat < S4096.size a := fun v349 k0_hw183 => k0_hw183

def k0_chk184 (v361 : IVec S16 32) : Prop :=
  (∀ a x, ((![v361] : Fin 1 → IVec S16 32) a x).toNat < S4096.size a)
theorem k0_idx216_inb : ∀ (v361 : IVec S16 32) (k0_hw184 : k0_chk184 v361), ∀ a x, ((![v361] : Fin 1 → IVec S16 32) a x).toNat < S4096.size a := fun v361 k0_hw184 => k0_hw184
def k0_off25 (k0_t15 : Fin k0_t15_loop.trips) : Fin 1 → Nat :=
  let c0_i32_198 : BitVec 32 := 0#32
  let c0_i32_117 : BitVec 32 := 0#32
  let c1_i32_119 : BitVec 32 := 1#32
  let arg11 : BitVec 32 := Scf.iv c0_i32_117 c1_i32_119 k0_t15
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t16_loop : Scf.Loop 32 :=
  let c0_i32_125 : BitVec 32 := 0#32
  let c16_i32_126 : BitVec 32 := 16#32
  let v125 : BitVec 32 := Scalar.addi c0_i32_125 c16_i32_126
  let c1_i32_127 : BitVec 32 := 1#32
  ⟨c0_i32_125, v125, c1_i32_127⟩

def k0_chk185 (v181 : IVec S16 32) : Prop :=
  (∀ a x, ((![v181] : Fin 1 → IVec S16 32) a x).toNat < S4096.size a)
theorem k0_idx217_inb : ∀ (v181 : IVec S16 32) (k0_hw185 : k0_chk185 v181), ∀ a x, ((![v181] : Fin 1 → IVec S16 32) a x).toNat < S4096.size a := fun v181 k0_hw185 => k0_hw185

def k0_chk186 (v193 : IVec S16 32) : Prop :=
  (∀ a x, ((![v193] : Fin 1 → IVec S16 32) a x).toNat < S4096.size a)
theorem k0_idx218_inb : ∀ (v193 : IVec S16 32) (k0_hw186 : k0_chk186 v193), ∀ a x, ((![v193] : Fin 1 → IVec S16 32) a x).toNat < S4096.size a := fun v193 k0_hw186 => k0_hw186

def k0_chk187 (v205 : IVec S16 32) : Prop :=
  (∀ a x, ((![v205] : Fin 1 → IVec S16 32) a x).toNat < S4096.size a)
theorem k0_idx219_inb : ∀ (v205 : IVec S16 32) (k0_hw187 : k0_chk187 v205), ∀ a x, ((![v205] : Fin 1 → IVec S16 32) a x).toNat < S4096.size a := fun v205 k0_hw187 => k0_hw187

def k0_chk188 (v217 : IVec S16 32) : Prop :=
  (∀ a x, ((![v217] : Fin 1 → IVec S16 32) a x).toNat < S4096.size a)
theorem k0_idx220_inb : ∀ (v217 : IVec S16 32) (k0_hw188 : k0_chk188 v217), ∀ a x, ((![v217] : Fin 1 → IVec S16 32) a x).toNat < S4096.size a := fun v217 k0_hw188 => k0_hw188

def k0_chk189 (v229 : IVec S16 32) : Prop :=
  (∀ a x, ((![v229] : Fin 1 → IVec S16 32) a x).toNat < S4096.size a)
theorem k0_idx221_inb : ∀ (v229 : IVec S16 32) (k0_hw189 : k0_chk189 v229), ∀ a x, ((![v229] : Fin 1 → IVec S16 32) a x).toNat < S4096.size a := fun v229 k0_hw189 => k0_hw189

def k0_chk190 (v241 : IVec S16 32) : Prop :=
  (∀ a x, ((![v241] : Fin 1 → IVec S16 32) a x).toNat < S4096.size a)
theorem k0_idx222_inb : ∀ (v241 : IVec S16 32) (k0_hw190 : k0_chk190 v241), ∀ a x, ((![v241] : Fin 1 → IVec S16 32) a x).toNat < S4096.size a := fun v241 k0_hw190 => k0_hw190

def k0_chk191 (v253 : IVec S16 32) : Prop :=
  (∀ a x, ((![v253] : Fin 1 → IVec S16 32) a x).toNat < S4096.size a)
theorem k0_idx223_inb : ∀ (v253 : IVec S16 32) (k0_hw191 : k0_chk191 v253), ∀ a x, ((![v253] : Fin 1 → IVec S16 32) a x).toNat < S4096.size a := fun v253 k0_hw191 => k0_hw191

def k0_chk192 (v265 : IVec S16 32) : Prop :=
  (∀ a x, ((![v265] : Fin 1 → IVec S16 32) a x).toNat < S4096.size a)
theorem k0_idx224_inb : ∀ (v265 : IVec S16 32) (k0_hw192 : k0_chk192 v265), ∀ a x, ((![v265] : Fin 1 → IVec S16 32) a x).toNat < S4096.size a := fun v265 k0_hw192 => k0_hw192

def k0_chk193 (v277 : IVec S16 32) : Prop :=
  (∀ a x, ((![v277] : Fin 1 → IVec S16 32) a x).toNat < S4096.size a)
theorem k0_idx225_inb : ∀ (v277 : IVec S16 32) (k0_hw193 : k0_chk193 v277), ∀ a x, ((![v277] : Fin 1 → IVec S16 32) a x).toNat < S4096.size a := fun v277 k0_hw193 => k0_hw193

def k0_chk194 (v289 : IVec S16 32) : Prop :=
  (∀ a x, ((![v289] : Fin 1 → IVec S16 32) a x).toNat < S4096.size a)
theorem k0_idx226_inb : ∀ (v289 : IVec S16 32) (k0_hw194 : k0_chk194 v289), ∀ a x, ((![v289] : Fin 1 → IVec S16 32) a x).toNat < S4096.size a := fun v289 k0_hw194 => k0_hw194

def k0_chk195 (v301 : IVec S16 32) : Prop :=
  (∀ a x, ((![v301] : Fin 1 → IVec S16 32) a x).toNat < S4096.size a)
theorem k0_idx227_inb : ∀ (v301 : IVec S16 32) (k0_hw195 : k0_chk195 v301), ∀ a x, ((![v301] : Fin 1 → IVec S16 32) a x).toNat < S4096.size a := fun v301 k0_hw195 => k0_hw195

def k0_chk196 (v313 : IVec S16 32) : Prop :=
  (∀ a x, ((![v313] : Fin 1 → IVec S16 32) a x).toNat < S4096.size a)
theorem k0_idx228_inb : ∀ (v313 : IVec S16 32) (k0_hw196 : k0_chk196 v313), ∀ a x, ((![v313] : Fin 1 → IVec S16 32) a x).toNat < S4096.size a := fun v313 k0_hw196 => k0_hw196

def k0_chk197 (v325 : IVec S16 32) : Prop :=
  (∀ a x, ((![v325] : Fin 1 → IVec S16 32) a x).toNat < S4096.size a)
theorem k0_idx229_inb : ∀ (v325 : IVec S16 32) (k0_hw197 : k0_chk197 v325), ∀ a x, ((![v325] : Fin 1 → IVec S16 32) a x).toNat < S4096.size a := fun v325 k0_hw197 => k0_hw197

def k0_chk198 (v337 : IVec S16 32) : Prop :=
  (∀ a x, ((![v337] : Fin 1 → IVec S16 32) a x).toNat < S4096.size a)
theorem k0_idx230_inb : ∀ (v337 : IVec S16 32) (k0_hw198 : k0_chk198 v337), ∀ a x, ((![v337] : Fin 1 → IVec S16 32) a x).toNat < S4096.size a := fun v337 k0_hw198 => k0_hw198

def k0_chk199 (v349 : IVec S16 32) : Prop :=
  (∀ a x, ((![v349] : Fin 1 → IVec S16 32) a x).toNat < S4096.size a)
theorem k0_idx231_inb : ∀ (v349 : IVec S16 32) (k0_hw199 : k0_chk199 v349), ∀ a x, ((![v349] : Fin 1 → IVec S16 32) a x).toNat < S4096.size a := fun v349 k0_hw199 => k0_hw199

def k0_chk200 (v361 : IVec S16 32) : Prop :=
  (∀ a x, ((![v361] : Fin 1 → IVec S16 32) a x).toNat < S4096.size a)
theorem k0_idx232_inb : ∀ (v361 : IVec S16 32) (k0_hw200 : k0_chk200 v361), ∀ a x, ((![v361] : Fin 1 → IVec S16 32) a x).toNat < S4096.size a := fun v361 k0_hw200 => k0_hw200
def k0_off26 (k0_t16 : Fin k0_t16_loop.trips) : Fin 1 → Nat :=
  let c0_i32_198 : BitVec 32 := 0#32
  let c0_i32_125 : BitVec 32 := 0#32
  let c1_i32_127 : BitVec 32 := 1#32
  let arg11 : BitVec 32 := Scf.iv c0_i32_125 c1_i32_127 k0_t16
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t17_loop : Scf.Loop 32 :=
  let c0_i32_133 : BitVec 32 := 0#32
  let c16_i32_134 : BitVec 32 := 16#32
  let v130 : BitVec 32 := Scalar.addi c0_i32_133 c16_i32_134
  let c1_i32_135 : BitVec 32 := 1#32
  ⟨c0_i32_133, v130, c1_i32_135⟩

def k0_chk201 (v181 : IVec S16 32) : Prop :=
  (∀ a x, ((![v181] : Fin 1 → IVec S16 32) a x).toNat < S4096.size a)
theorem k0_idx233_inb : ∀ (v181 : IVec S16 32) (k0_hw201 : k0_chk201 v181), ∀ a x, ((![v181] : Fin 1 → IVec S16 32) a x).toNat < S4096.size a := fun v181 k0_hw201 => k0_hw201

def k0_chk202 (v193 : IVec S16 32) : Prop :=
  (∀ a x, ((![v193] : Fin 1 → IVec S16 32) a x).toNat < S4096.size a)
theorem k0_idx234_inb : ∀ (v193 : IVec S16 32) (k0_hw202 : k0_chk202 v193), ∀ a x, ((![v193] : Fin 1 → IVec S16 32) a x).toNat < S4096.size a := fun v193 k0_hw202 => k0_hw202

def k0_chk203 (v205 : IVec S16 32) : Prop :=
  (∀ a x, ((![v205] : Fin 1 → IVec S16 32) a x).toNat < S4096.size a)
theorem k0_idx235_inb : ∀ (v205 : IVec S16 32) (k0_hw203 : k0_chk203 v205), ∀ a x, ((![v205] : Fin 1 → IVec S16 32) a x).toNat < S4096.size a := fun v205 k0_hw203 => k0_hw203

def k0_chk204 (v217 : IVec S16 32) : Prop :=
  (∀ a x, ((![v217] : Fin 1 → IVec S16 32) a x).toNat < S4096.size a)
theorem k0_idx236_inb : ∀ (v217 : IVec S16 32) (k0_hw204 : k0_chk204 v217), ∀ a x, ((![v217] : Fin 1 → IVec S16 32) a x).toNat < S4096.size a := fun v217 k0_hw204 => k0_hw204

def k0_chk205 (v229 : IVec S16 32) : Prop :=
  (∀ a x, ((![v229] : Fin 1 → IVec S16 32) a x).toNat < S4096.size a)
theorem k0_idx237_inb : ∀ (v229 : IVec S16 32) (k0_hw205 : k0_chk205 v229), ∀ a x, ((![v229] : Fin 1 → IVec S16 32) a x).toNat < S4096.size a := fun v229 k0_hw205 => k0_hw205

def k0_chk206 (v241 : IVec S16 32) : Prop :=
  (∀ a x, ((![v241] : Fin 1 → IVec S16 32) a x).toNat < S4096.size a)
theorem k0_idx238_inb : ∀ (v241 : IVec S16 32) (k0_hw206 : k0_chk206 v241), ∀ a x, ((![v241] : Fin 1 → IVec S16 32) a x).toNat < S4096.size a := fun v241 k0_hw206 => k0_hw206

def k0_chk207 (v253 : IVec S16 32) : Prop :=
  (∀ a x, ((![v253] : Fin 1 → IVec S16 32) a x).toNat < S4096.size a)
theorem k0_idx239_inb : ∀ (v253 : IVec S16 32) (k0_hw207 : k0_chk207 v253), ∀ a x, ((![v253] : Fin 1 → IVec S16 32) a x).toNat < S4096.size a := fun v253 k0_hw207 => k0_hw207

def k0_chk208 (v265 : IVec S16 32) : Prop :=
  (∀ a x, ((![v265] : Fin 1 → IVec S16 32) a x).toNat < S4096.size a)
theorem k0_idx240_inb : ∀ (v265 : IVec S16 32) (k0_hw208 : k0_chk208 v265), ∀ a x, ((![v265] : Fin 1 → IVec S16 32) a x).toNat < S4096.size a := fun v265 k0_hw208 => k0_hw208

def k0_chk209 (v277 : IVec S16 32) : Prop :=
  (∀ a x, ((![v277] : Fin 1 → IVec S16 32) a x).toNat < S4096.size a)
theorem k0_idx241_inb : ∀ (v277 : IVec S16 32) (k0_hw209 : k0_chk209 v277), ∀ a x, ((![v277] : Fin 1 → IVec S16 32) a x).toNat < S4096.size a := fun v277 k0_hw209 => k0_hw209

def k0_chk210 (v289 : IVec S16 32) : Prop :=
  (∀ a x, ((![v289] : Fin 1 → IVec S16 32) a x).toNat < S4096.size a)
theorem k0_idx242_inb : ∀ (v289 : IVec S16 32) (k0_hw210 : k0_chk210 v289), ∀ a x, ((![v289] : Fin 1 → IVec S16 32) a x).toNat < S4096.size a := fun v289 k0_hw210 => k0_hw210

def k0_chk211 (v301 : IVec S16 32) : Prop :=
  (∀ a x, ((![v301] : Fin 1 → IVec S16 32) a x).toNat < S4096.size a)
theorem k0_idx243_inb : ∀ (v301 : IVec S16 32) (k0_hw211 : k0_chk211 v301), ∀ a x, ((![v301] : Fin 1 → IVec S16 32) a x).toNat < S4096.size a := fun v301 k0_hw211 => k0_hw211

def k0_chk212 (v313 : IVec S16 32) : Prop :=
  (∀ a x, ((![v313] : Fin 1 → IVec S16 32) a x).toNat < S4096.size a)
theorem k0_idx244_inb : ∀ (v313 : IVec S16 32) (k0_hw212 : k0_chk212 v313), ∀ a x, ((![v313] : Fin 1 → IVec S16 32) a x).toNat < S4096.size a := fun v313 k0_hw212 => k0_hw212

def k0_chk213 (v325 : IVec S16 32) : Prop :=
  (∀ a x, ((![v325] : Fin 1 → IVec S16 32) a x).toNat < S4096.size a)
theorem k0_idx245_inb : ∀ (v325 : IVec S16 32) (k0_hw213 : k0_chk213 v325), ∀ a x, ((![v325] : Fin 1 → IVec S16 32) a x).toNat < S4096.size a := fun v325 k0_hw213 => k0_hw213

def k0_chk214 (v337 : IVec S16 32) : Prop :=
  (∀ a x, ((![v337] : Fin 1 → IVec S16 32) a x).toNat < S4096.size a)
theorem k0_idx246_inb : ∀ (v337 : IVec S16 32) (k0_hw214 : k0_chk214 v337), ∀ a x, ((![v337] : Fin 1 → IVec S16 32) a x).toNat < S4096.size a := fun v337 k0_hw214 => k0_hw214

def k0_chk215 (v349 : IVec S16 32) : Prop :=
  (∀ a x, ((![v349] : Fin 1 → IVec S16 32) a x).toNat < S4096.size a)
theorem k0_idx247_inb : ∀ (v349 : IVec S16 32) (k0_hw215 : k0_chk215 v349), ∀ a x, ((![v349] : Fin 1 → IVec S16 32) a x).toNat < S4096.size a := fun v349 k0_hw215 => k0_hw215

def k0_chk216 (v361 : IVec S16 32) : Prop :=
  (∀ a x, ((![v361] : Fin 1 → IVec S16 32) a x).toNat < S4096.size a)
theorem k0_idx248_inb : ∀ (v361 : IVec S16 32) (k0_hw216 : k0_chk216 v361), ∀ a x, ((![v361] : Fin 1 → IVec S16 32) a x).toNat < S4096.size a := fun v361 k0_hw216 => k0_hw216
def k0_off27 (k0_t17 : Fin k0_t17_loop.trips) : Fin 1 → Nat :=
  let c0_i32_198 : BitVec 32 := 0#32
  let c0_i32_133 : BitVec 32 := 0#32
  let c1_i32_135 : BitVec 32 := 1#32
  let arg11 : BitVec 32 := Scf.iv c0_i32_133 c1_i32_135 k0_t17
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t18_loop : Scf.Loop 32 :=
  let c0_i32_141 : BitVec 32 := 0#32
  let c16_i32_142 : BitVec 32 := 16#32
  let v135 : BitVec 32 := Scalar.addi c0_i32_141 c16_i32_142
  let c1_i32_143 : BitVec 32 := 1#32
  ⟨c0_i32_141, v135, c1_i32_143⟩

def k0_chk217 (v181 : IVec S16 32) : Prop :=
  (∀ a x, ((![v181] : Fin 1 → IVec S16 32) a x).toNat < S4096.size a)
theorem k0_idx249_inb : ∀ (v181 : IVec S16 32) (k0_hw217 : k0_chk217 v181), ∀ a x, ((![v181] : Fin 1 → IVec S16 32) a x).toNat < S4096.size a := fun v181 k0_hw217 => k0_hw217

def k0_chk218 (v193 : IVec S16 32) : Prop :=
  (∀ a x, ((![v193] : Fin 1 → IVec S16 32) a x).toNat < S4096.size a)
theorem k0_idx250_inb : ∀ (v193 : IVec S16 32) (k0_hw218 : k0_chk218 v193), ∀ a x, ((![v193] : Fin 1 → IVec S16 32) a x).toNat < S4096.size a := fun v193 k0_hw218 => k0_hw218

def k0_chk219 (v205 : IVec S16 32) : Prop :=
  (∀ a x, ((![v205] : Fin 1 → IVec S16 32) a x).toNat < S4096.size a)
theorem k0_idx251_inb : ∀ (v205 : IVec S16 32) (k0_hw219 : k0_chk219 v205), ∀ a x, ((![v205] : Fin 1 → IVec S16 32) a x).toNat < S4096.size a := fun v205 k0_hw219 => k0_hw219

def k0_chk220 (v217 : IVec S16 32) : Prop :=
  (∀ a x, ((![v217] : Fin 1 → IVec S16 32) a x).toNat < S4096.size a)
theorem k0_idx252_inb : ∀ (v217 : IVec S16 32) (k0_hw220 : k0_chk220 v217), ∀ a x, ((![v217] : Fin 1 → IVec S16 32) a x).toNat < S4096.size a := fun v217 k0_hw220 => k0_hw220

def k0_chk221 (v229 : IVec S16 32) : Prop :=
  (∀ a x, ((![v229] : Fin 1 → IVec S16 32) a x).toNat < S4096.size a)
theorem k0_idx253_inb : ∀ (v229 : IVec S16 32) (k0_hw221 : k0_chk221 v229), ∀ a x, ((![v229] : Fin 1 → IVec S16 32) a x).toNat < S4096.size a := fun v229 k0_hw221 => k0_hw221

def k0_chk222 (v241 : IVec S16 32) : Prop :=
  (∀ a x, ((![v241] : Fin 1 → IVec S16 32) a x).toNat < S4096.size a)
theorem k0_idx254_inb : ∀ (v241 : IVec S16 32) (k0_hw222 : k0_chk222 v241), ∀ a x, ((![v241] : Fin 1 → IVec S16 32) a x).toNat < S4096.size a := fun v241 k0_hw222 => k0_hw222

def k0_chk223 (v253 : IVec S16 32) : Prop :=
  (∀ a x, ((![v253] : Fin 1 → IVec S16 32) a x).toNat < S4096.size a)
theorem k0_idx255_inb : ∀ (v253 : IVec S16 32) (k0_hw223 : k0_chk223 v253), ∀ a x, ((![v253] : Fin 1 → IVec S16 32) a x).toNat < S4096.size a := fun v253 k0_hw223 => k0_hw223

def k0_chk224 (v265 : IVec S16 32) : Prop :=
  (∀ a x, ((![v265] : Fin 1 → IVec S16 32) a x).toNat < S4096.size a)
theorem k0_idx256_inb : ∀ (v265 : IVec S16 32) (k0_hw224 : k0_chk224 v265), ∀ a x, ((![v265] : Fin 1 → IVec S16 32) a x).toNat < S4096.size a := fun v265 k0_hw224 => k0_hw224

def k0_chk225 (v277 : IVec S16 32) : Prop :=
  (∀ a x, ((![v277] : Fin 1 → IVec S16 32) a x).toNat < S4096.size a)
theorem k0_idx257_inb : ∀ (v277 : IVec S16 32) (k0_hw225 : k0_chk225 v277), ∀ a x, ((![v277] : Fin 1 → IVec S16 32) a x).toNat < S4096.size a := fun v277 k0_hw225 => k0_hw225

def k0_chk226 (v289 : IVec S16 32) : Prop :=
  (∀ a x, ((![v289] : Fin 1 → IVec S16 32) a x).toNat < S4096.size a)
theorem k0_idx258_inb : ∀ (v289 : IVec S16 32) (k0_hw226 : k0_chk226 v289), ∀ a x, ((![v289] : Fin 1 → IVec S16 32) a x).toNat < S4096.size a := fun v289 k0_hw226 => k0_hw226

def k0_chk227 (v301 : IVec S16 32) : Prop :=
  (∀ a x, ((![v301] : Fin 1 → IVec S16 32) a x).toNat < S4096.size a)
theorem k0_idx259_inb : ∀ (v301 : IVec S16 32) (k0_hw227 : k0_chk227 v301), ∀ a x, ((![v301] : Fin 1 → IVec S16 32) a x).toNat < S4096.size a := fun v301 k0_hw227 => k0_hw227

def k0_chk228 (v313 : IVec S16 32) : Prop :=
  (∀ a x, ((![v313] : Fin 1 → IVec S16 32) a x).toNat < S4096.size a)
theorem k0_idx260_inb : ∀ (v313 : IVec S16 32) (k0_hw228 : k0_chk228 v313), ∀ a x, ((![v313] : Fin 1 → IVec S16 32) a x).toNat < S4096.size a := fun v313 k0_hw228 => k0_hw228

def k0_chk229 (v325 : IVec S16 32) : Prop :=
  (∀ a x, ((![v325] : Fin 1 → IVec S16 32) a x).toNat < S4096.size a)
theorem k0_idx261_inb : ∀ (v325 : IVec S16 32) (k0_hw229 : k0_chk229 v325), ∀ a x, ((![v325] : Fin 1 → IVec S16 32) a x).toNat < S4096.size a := fun v325 k0_hw229 => k0_hw229

def k0_chk230 (v337 : IVec S16 32) : Prop :=
  (∀ a x, ((![v337] : Fin 1 → IVec S16 32) a x).toNat < S4096.size a)
theorem k0_idx262_inb : ∀ (v337 : IVec S16 32) (k0_hw230 : k0_chk230 v337), ∀ a x, ((![v337] : Fin 1 → IVec S16 32) a x).toNat < S4096.size a := fun v337 k0_hw230 => k0_hw230

def k0_chk231 (v349 : IVec S16 32) : Prop :=
  (∀ a x, ((![v349] : Fin 1 → IVec S16 32) a x).toNat < S4096.size a)
theorem k0_idx263_inb : ∀ (v349 : IVec S16 32) (k0_hw231 : k0_chk231 v349), ∀ a x, ((![v349] : Fin 1 → IVec S16 32) a x).toNat < S4096.size a := fun v349 k0_hw231 => k0_hw231

def k0_chk232 (v361 : IVec S16 32) : Prop :=
  (∀ a x, ((![v361] : Fin 1 → IVec S16 32) a x).toNat < S4096.size a)
theorem k0_idx264_inb : ∀ (v361 : IVec S16 32) (k0_hw232 : k0_chk232 v361), ∀ a x, ((![v361] : Fin 1 → IVec S16 32) a x).toNat < S4096.size a := fun v361 k0_hw232 => k0_hw232
def k0_off28 (k0_t18 : Fin k0_t18_loop.trips) : Fin 1 → Nat :=
  let c0_i32_198 : BitVec 32 := 0#32
  let c0_i32_141 : BitVec 32 := 0#32
  let c1_i32_143 : BitVec 32 := 1#32
  let arg11 : BitVec 32 := Scf.iv c0_i32_141 c1_i32_143 k0_t18
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t19_loop : Scf.Loop 32 :=
  let c0_i32_149 : BitVec 32 := 0#32
  let c16_i32_150 : BitVec 32 := 16#32
  let v140 : BitVec 32 := Scalar.addi c0_i32_149 c16_i32_150
  let c1_i32_151 : BitVec 32 := 1#32
  ⟨c0_i32_149, v140, c1_i32_151⟩

def k0_chk233 (v181 : IVec S16 32) : Prop :=
  (∀ a x, ((![v181] : Fin 1 → IVec S16 32) a x).toNat < S4096.size a)
theorem k0_idx265_inb : ∀ (v181 : IVec S16 32) (k0_hw233 : k0_chk233 v181), ∀ a x, ((![v181] : Fin 1 → IVec S16 32) a x).toNat < S4096.size a := fun v181 k0_hw233 => k0_hw233

def k0_chk234 (v193 : IVec S16 32) : Prop :=
  (∀ a x, ((![v193] : Fin 1 → IVec S16 32) a x).toNat < S4096.size a)
theorem k0_idx266_inb : ∀ (v193 : IVec S16 32) (k0_hw234 : k0_chk234 v193), ∀ a x, ((![v193] : Fin 1 → IVec S16 32) a x).toNat < S4096.size a := fun v193 k0_hw234 => k0_hw234

def k0_chk235 (v205 : IVec S16 32) : Prop :=
  (∀ a x, ((![v205] : Fin 1 → IVec S16 32) a x).toNat < S4096.size a)
theorem k0_idx267_inb : ∀ (v205 : IVec S16 32) (k0_hw235 : k0_chk235 v205), ∀ a x, ((![v205] : Fin 1 → IVec S16 32) a x).toNat < S4096.size a := fun v205 k0_hw235 => k0_hw235

def k0_chk236 (v217 : IVec S16 32) : Prop :=
  (∀ a x, ((![v217] : Fin 1 → IVec S16 32) a x).toNat < S4096.size a)
theorem k0_idx268_inb : ∀ (v217 : IVec S16 32) (k0_hw236 : k0_chk236 v217), ∀ a x, ((![v217] : Fin 1 → IVec S16 32) a x).toNat < S4096.size a := fun v217 k0_hw236 => k0_hw236

def k0_chk237 (v229 : IVec S16 32) : Prop :=
  (∀ a x, ((![v229] : Fin 1 → IVec S16 32) a x).toNat < S4096.size a)
theorem k0_idx269_inb : ∀ (v229 : IVec S16 32) (k0_hw237 : k0_chk237 v229), ∀ a x, ((![v229] : Fin 1 → IVec S16 32) a x).toNat < S4096.size a := fun v229 k0_hw237 => k0_hw237

def k0_chk238 (v241 : IVec S16 32) : Prop :=
  (∀ a x, ((![v241] : Fin 1 → IVec S16 32) a x).toNat < S4096.size a)
theorem k0_idx270_inb : ∀ (v241 : IVec S16 32) (k0_hw238 : k0_chk238 v241), ∀ a x, ((![v241] : Fin 1 → IVec S16 32) a x).toNat < S4096.size a := fun v241 k0_hw238 => k0_hw238

def k0_chk239 (v253 : IVec S16 32) : Prop :=
  (∀ a x, ((![v253] : Fin 1 → IVec S16 32) a x).toNat < S4096.size a)
theorem k0_idx271_inb : ∀ (v253 : IVec S16 32) (k0_hw239 : k0_chk239 v253), ∀ a x, ((![v253] : Fin 1 → IVec S16 32) a x).toNat < S4096.size a := fun v253 k0_hw239 => k0_hw239

def k0_chk240 (v265 : IVec S16 32) : Prop :=
  (∀ a x, ((![v265] : Fin 1 → IVec S16 32) a x).toNat < S4096.size a)
theorem k0_idx272_inb : ∀ (v265 : IVec S16 32) (k0_hw240 : k0_chk240 v265), ∀ a x, ((![v265] : Fin 1 → IVec S16 32) a x).toNat < S4096.size a := fun v265 k0_hw240 => k0_hw240

def k0_chk241 (v277 : IVec S16 32) : Prop :=
  (∀ a x, ((![v277] : Fin 1 → IVec S16 32) a x).toNat < S4096.size a)
theorem k0_idx273_inb : ∀ (v277 : IVec S16 32) (k0_hw241 : k0_chk241 v277), ∀ a x, ((![v277] : Fin 1 → IVec S16 32) a x).toNat < S4096.size a := fun v277 k0_hw241 => k0_hw241

def k0_chk242 (v289 : IVec S16 32) : Prop :=
  (∀ a x, ((![v289] : Fin 1 → IVec S16 32) a x).toNat < S4096.size a)
theorem k0_idx274_inb : ∀ (v289 : IVec S16 32) (k0_hw242 : k0_chk242 v289), ∀ a x, ((![v289] : Fin 1 → IVec S16 32) a x).toNat < S4096.size a := fun v289 k0_hw242 => k0_hw242

def k0_chk243 (v301 : IVec S16 32) : Prop :=
  (∀ a x, ((![v301] : Fin 1 → IVec S16 32) a x).toNat < S4096.size a)
theorem k0_idx275_inb : ∀ (v301 : IVec S16 32) (k0_hw243 : k0_chk243 v301), ∀ a x, ((![v301] : Fin 1 → IVec S16 32) a x).toNat < S4096.size a := fun v301 k0_hw243 => k0_hw243

def k0_chk244 (v313 : IVec S16 32) : Prop :=
  (∀ a x, ((![v313] : Fin 1 → IVec S16 32) a x).toNat < S4096.size a)
theorem k0_idx276_inb : ∀ (v313 : IVec S16 32) (k0_hw244 : k0_chk244 v313), ∀ a x, ((![v313] : Fin 1 → IVec S16 32) a x).toNat < S4096.size a := fun v313 k0_hw244 => k0_hw244

def k0_chk245 (v325 : IVec S16 32) : Prop :=
  (∀ a x, ((![v325] : Fin 1 → IVec S16 32) a x).toNat < S4096.size a)
theorem k0_idx277_inb : ∀ (v325 : IVec S16 32) (k0_hw245 : k0_chk245 v325), ∀ a x, ((![v325] : Fin 1 → IVec S16 32) a x).toNat < S4096.size a := fun v325 k0_hw245 => k0_hw245

def k0_chk246 (v337 : IVec S16 32) : Prop :=
  (∀ a x, ((![v337] : Fin 1 → IVec S16 32) a x).toNat < S4096.size a)
theorem k0_idx278_inb : ∀ (v337 : IVec S16 32) (k0_hw246 : k0_chk246 v337), ∀ a x, ((![v337] : Fin 1 → IVec S16 32) a x).toNat < S4096.size a := fun v337 k0_hw246 => k0_hw246

def k0_chk247 (v349 : IVec S16 32) : Prop :=
  (∀ a x, ((![v349] : Fin 1 → IVec S16 32) a x).toNat < S4096.size a)
theorem k0_idx279_inb : ∀ (v349 : IVec S16 32) (k0_hw247 : k0_chk247 v349), ∀ a x, ((![v349] : Fin 1 → IVec S16 32) a x).toNat < S4096.size a := fun v349 k0_hw247 => k0_hw247

def k0_chk248 (v361 : IVec S16 32) : Prop :=
  (∀ a x, ((![v361] : Fin 1 → IVec S16 32) a x).toNat < S4096.size a)
theorem k0_idx280_inb : ∀ (v361 : IVec S16 32) (k0_hw248 : k0_chk248 v361), ∀ a x, ((![v361] : Fin 1 → IVec S16 32) a x).toNat < S4096.size a := fun v361 k0_hw248 => k0_hw248
def k0_off29 (k0_t19 : Fin k0_t19_loop.trips) : Fin 1 → Nat :=
  let c0_i32_198 : BitVec 32 := 0#32
  let c0_i32_149 : BitVec 32 := 0#32
  let c1_i32_151 : BitVec 32 := 1#32
  let arg11 : BitVec 32 := Scf.iv c0_i32_149 c1_i32_151 k0_t19
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t20_loop : Scf.Loop 32 :=
  let c0_i32_157 : BitVec 32 := 0#32
  let c16_i32_158 : BitVec 32 := 16#32
  let v145 : BitVec 32 := Scalar.addi c0_i32_157 c16_i32_158
  let c1_i32_159 : BitVec 32 := 1#32
  ⟨c0_i32_157, v145, c1_i32_159⟩

def k0_chk249 (v181 : IVec S16 32) : Prop :=
  (∀ a x, ((![v181] : Fin 1 → IVec S16 32) a x).toNat < S4096.size a)
theorem k0_idx281_inb : ∀ (v181 : IVec S16 32) (k0_hw249 : k0_chk249 v181), ∀ a x, ((![v181] : Fin 1 → IVec S16 32) a x).toNat < S4096.size a := fun v181 k0_hw249 => k0_hw249

def k0_chk250 (v193 : IVec S16 32) : Prop :=
  (∀ a x, ((![v193] : Fin 1 → IVec S16 32) a x).toNat < S4096.size a)
theorem k0_idx282_inb : ∀ (v193 : IVec S16 32) (k0_hw250 : k0_chk250 v193), ∀ a x, ((![v193] : Fin 1 → IVec S16 32) a x).toNat < S4096.size a := fun v193 k0_hw250 => k0_hw250

def k0_chk251 (v205 : IVec S16 32) : Prop :=
  (∀ a x, ((![v205] : Fin 1 → IVec S16 32) a x).toNat < S4096.size a)
theorem k0_idx283_inb : ∀ (v205 : IVec S16 32) (k0_hw251 : k0_chk251 v205), ∀ a x, ((![v205] : Fin 1 → IVec S16 32) a x).toNat < S4096.size a := fun v205 k0_hw251 => k0_hw251

def k0_chk252 (v217 : IVec S16 32) : Prop :=
  (∀ a x, ((![v217] : Fin 1 → IVec S16 32) a x).toNat < S4096.size a)
theorem k0_idx284_inb : ∀ (v217 : IVec S16 32) (k0_hw252 : k0_chk252 v217), ∀ a x, ((![v217] : Fin 1 → IVec S16 32) a x).toNat < S4096.size a := fun v217 k0_hw252 => k0_hw252

def k0_chk253 (v229 : IVec S16 32) : Prop :=
  (∀ a x, ((![v229] : Fin 1 → IVec S16 32) a x).toNat < S4096.size a)
theorem k0_idx285_inb : ∀ (v229 : IVec S16 32) (k0_hw253 : k0_chk253 v229), ∀ a x, ((![v229] : Fin 1 → IVec S16 32) a x).toNat < S4096.size a := fun v229 k0_hw253 => k0_hw253

def k0_chk254 (v241 : IVec S16 32) : Prop :=
  (∀ a x, ((![v241] : Fin 1 → IVec S16 32) a x).toNat < S4096.size a)
theorem k0_idx286_inb : ∀ (v241 : IVec S16 32) (k0_hw254 : k0_chk254 v241), ∀ a x, ((![v241] : Fin 1 → IVec S16 32) a x).toNat < S4096.size a := fun v241 k0_hw254 => k0_hw254

def k0_chk255 (v253 : IVec S16 32) : Prop :=
  (∀ a x, ((![v253] : Fin 1 → IVec S16 32) a x).toNat < S4096.size a)
theorem k0_idx287_inb : ∀ (v253 : IVec S16 32) (k0_hw255 : k0_chk255 v253), ∀ a x, ((![v253] : Fin 1 → IVec S16 32) a x).toNat < S4096.size a := fun v253 k0_hw255 => k0_hw255

def k0_chk256 (v265 : IVec S16 32) : Prop :=
  (∀ a x, ((![v265] : Fin 1 → IVec S16 32) a x).toNat < S4096.size a)
theorem k0_idx288_inb : ∀ (v265 : IVec S16 32) (k0_hw256 : k0_chk256 v265), ∀ a x, ((![v265] : Fin 1 → IVec S16 32) a x).toNat < S4096.size a := fun v265 k0_hw256 => k0_hw256

def k0_chk257 (v277 : IVec S16 32) : Prop :=
  (∀ a x, ((![v277] : Fin 1 → IVec S16 32) a x).toNat < S4096.size a)
theorem k0_idx289_inb : ∀ (v277 : IVec S16 32) (k0_hw257 : k0_chk257 v277), ∀ a x, ((![v277] : Fin 1 → IVec S16 32) a x).toNat < S4096.size a := fun v277 k0_hw257 => k0_hw257

def k0_chk258 (v289 : IVec S16 32) : Prop :=
  (∀ a x, ((![v289] : Fin 1 → IVec S16 32) a x).toNat < S4096.size a)
theorem k0_idx290_inb : ∀ (v289 : IVec S16 32) (k0_hw258 : k0_chk258 v289), ∀ a x, ((![v289] : Fin 1 → IVec S16 32) a x).toNat < S4096.size a := fun v289 k0_hw258 => k0_hw258

def k0_chk259 (v301 : IVec S16 32) : Prop :=
  (∀ a x, ((![v301] : Fin 1 → IVec S16 32) a x).toNat < S4096.size a)
theorem k0_idx291_inb : ∀ (v301 : IVec S16 32) (k0_hw259 : k0_chk259 v301), ∀ a x, ((![v301] : Fin 1 → IVec S16 32) a x).toNat < S4096.size a := fun v301 k0_hw259 => k0_hw259

def k0_chk260 (v313 : IVec S16 32) : Prop :=
  (∀ a x, ((![v313] : Fin 1 → IVec S16 32) a x).toNat < S4096.size a)
theorem k0_idx292_inb : ∀ (v313 : IVec S16 32) (k0_hw260 : k0_chk260 v313), ∀ a x, ((![v313] : Fin 1 → IVec S16 32) a x).toNat < S4096.size a := fun v313 k0_hw260 => k0_hw260

def k0_chk261 (v325 : IVec S16 32) : Prop :=
  (∀ a x, ((![v325] : Fin 1 → IVec S16 32) a x).toNat < S4096.size a)
theorem k0_idx293_inb : ∀ (v325 : IVec S16 32) (k0_hw261 : k0_chk261 v325), ∀ a x, ((![v325] : Fin 1 → IVec S16 32) a x).toNat < S4096.size a := fun v325 k0_hw261 => k0_hw261

def k0_chk262 (v337 : IVec S16 32) : Prop :=
  (∀ a x, ((![v337] : Fin 1 → IVec S16 32) a x).toNat < S4096.size a)
theorem k0_idx294_inb : ∀ (v337 : IVec S16 32) (k0_hw262 : k0_chk262 v337), ∀ a x, ((![v337] : Fin 1 → IVec S16 32) a x).toNat < S4096.size a := fun v337 k0_hw262 => k0_hw262

def k0_chk263 (v349 : IVec S16 32) : Prop :=
  (∀ a x, ((![v349] : Fin 1 → IVec S16 32) a x).toNat < S4096.size a)
theorem k0_idx295_inb : ∀ (v349 : IVec S16 32) (k0_hw263 : k0_chk263 v349), ∀ a x, ((![v349] : Fin 1 → IVec S16 32) a x).toNat < S4096.size a := fun v349 k0_hw263 => k0_hw263

def k0_chk264 (v361 : IVec S16 32) : Prop :=
  (∀ a x, ((![v361] : Fin 1 → IVec S16 32) a x).toNat < S4096.size a)
theorem k0_idx296_inb : ∀ (v361 : IVec S16 32) (k0_hw264 : k0_chk264 v361), ∀ a x, ((![v361] : Fin 1 → IVec S16 32) a x).toNat < S4096.size a := fun v361 k0_hw264 => k0_hw264
def k0_off30 (k0_t20 : Fin k0_t20_loop.trips) : Fin 1 → Nat :=
  let c0_i32_198 : BitVec 32 := 0#32
  let c0_i32_157 : BitVec 32 := 0#32
  let c1_i32_159 : BitVec 32 := 1#32
  let arg11 : BitVec 32 := Scf.iv c0_i32_157 c1_i32_159 k0_t20
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t21_loop : Scf.Loop 32 :=
  let c0_i32_165 : BitVec 32 := 0#32
  let c16_i32_166 : BitVec 32 := 16#32
  let v150 : BitVec 32 := Scalar.addi c0_i32_165 c16_i32_166
  let c1_i32_167 : BitVec 32 := 1#32
  ⟨c0_i32_165, v150, c1_i32_167⟩

def k0_chk265 (v181 : IVec S16 32) : Prop :=
  (∀ a x, ((![v181] : Fin 1 → IVec S16 32) a x).toNat < S4096.size a)
theorem k0_idx297_inb : ∀ (v181 : IVec S16 32) (k0_hw265 : k0_chk265 v181), ∀ a x, ((![v181] : Fin 1 → IVec S16 32) a x).toNat < S4096.size a := fun v181 k0_hw265 => k0_hw265

def k0_chk266 (v193 : IVec S16 32) : Prop :=
  (∀ a x, ((![v193] : Fin 1 → IVec S16 32) a x).toNat < S4096.size a)
theorem k0_idx298_inb : ∀ (v193 : IVec S16 32) (k0_hw266 : k0_chk266 v193), ∀ a x, ((![v193] : Fin 1 → IVec S16 32) a x).toNat < S4096.size a := fun v193 k0_hw266 => k0_hw266

def k0_chk267 (v205 : IVec S16 32) : Prop :=
  (∀ a x, ((![v205] : Fin 1 → IVec S16 32) a x).toNat < S4096.size a)
theorem k0_idx299_inb : ∀ (v205 : IVec S16 32) (k0_hw267 : k0_chk267 v205), ∀ a x, ((![v205] : Fin 1 → IVec S16 32) a x).toNat < S4096.size a := fun v205 k0_hw267 => k0_hw267

def k0_chk268 (v217 : IVec S16 32) : Prop :=
  (∀ a x, ((![v217] : Fin 1 → IVec S16 32) a x).toNat < S4096.size a)
theorem k0_idx300_inb : ∀ (v217 : IVec S16 32) (k0_hw268 : k0_chk268 v217), ∀ a x, ((![v217] : Fin 1 → IVec S16 32) a x).toNat < S4096.size a := fun v217 k0_hw268 => k0_hw268

def k0_chk269 (v229 : IVec S16 32) : Prop :=
  (∀ a x, ((![v229] : Fin 1 → IVec S16 32) a x).toNat < S4096.size a)
theorem k0_idx301_inb : ∀ (v229 : IVec S16 32) (k0_hw269 : k0_chk269 v229), ∀ a x, ((![v229] : Fin 1 → IVec S16 32) a x).toNat < S4096.size a := fun v229 k0_hw269 => k0_hw269

def k0_chk270 (v241 : IVec S16 32) : Prop :=
  (∀ a x, ((![v241] : Fin 1 → IVec S16 32) a x).toNat < S4096.size a)
theorem k0_idx302_inb : ∀ (v241 : IVec S16 32) (k0_hw270 : k0_chk270 v241), ∀ a x, ((![v241] : Fin 1 → IVec S16 32) a x).toNat < S4096.size a := fun v241 k0_hw270 => k0_hw270

def k0_chk271 (v253 : IVec S16 32) : Prop :=
  (∀ a x, ((![v253] : Fin 1 → IVec S16 32) a x).toNat < S4096.size a)
theorem k0_idx303_inb : ∀ (v253 : IVec S16 32) (k0_hw271 : k0_chk271 v253), ∀ a x, ((![v253] : Fin 1 → IVec S16 32) a x).toNat < S4096.size a := fun v253 k0_hw271 => k0_hw271

def k0_chk272 (v265 : IVec S16 32) : Prop :=
  (∀ a x, ((![v265] : Fin 1 → IVec S16 32) a x).toNat < S4096.size a)
theorem k0_idx304_inb : ∀ (v265 : IVec S16 32) (k0_hw272 : k0_chk272 v265), ∀ a x, ((![v265] : Fin 1 → IVec S16 32) a x).toNat < S4096.size a := fun v265 k0_hw272 => k0_hw272

def k0_chk273 (v277 : IVec S16 32) : Prop :=
  (∀ a x, ((![v277] : Fin 1 → IVec S16 32) a x).toNat < S4096.size a)
theorem k0_idx305_inb : ∀ (v277 : IVec S16 32) (k0_hw273 : k0_chk273 v277), ∀ a x, ((![v277] : Fin 1 → IVec S16 32) a x).toNat < S4096.size a := fun v277 k0_hw273 => k0_hw273

def k0_chk274 (v289 : IVec S16 32) : Prop :=
  (∀ a x, ((![v289] : Fin 1 → IVec S16 32) a x).toNat < S4096.size a)
theorem k0_idx306_inb : ∀ (v289 : IVec S16 32) (k0_hw274 : k0_chk274 v289), ∀ a x, ((![v289] : Fin 1 → IVec S16 32) a x).toNat < S4096.size a := fun v289 k0_hw274 => k0_hw274

def k0_chk275 (v301 : IVec S16 32) : Prop :=
  (∀ a x, ((![v301] : Fin 1 → IVec S16 32) a x).toNat < S4096.size a)
theorem k0_idx307_inb : ∀ (v301 : IVec S16 32) (k0_hw275 : k0_chk275 v301), ∀ a x, ((![v301] : Fin 1 → IVec S16 32) a x).toNat < S4096.size a := fun v301 k0_hw275 => k0_hw275

def k0_chk276 (v313 : IVec S16 32) : Prop :=
  (∀ a x, ((![v313] : Fin 1 → IVec S16 32) a x).toNat < S4096.size a)
theorem k0_idx308_inb : ∀ (v313 : IVec S16 32) (k0_hw276 : k0_chk276 v313), ∀ a x, ((![v313] : Fin 1 → IVec S16 32) a x).toNat < S4096.size a := fun v313 k0_hw276 => k0_hw276

def k0_chk277 (v325 : IVec S16 32) : Prop :=
  (∀ a x, ((![v325] : Fin 1 → IVec S16 32) a x).toNat < S4096.size a)
theorem k0_idx309_inb : ∀ (v325 : IVec S16 32) (k0_hw277 : k0_chk277 v325), ∀ a x, ((![v325] : Fin 1 → IVec S16 32) a x).toNat < S4096.size a := fun v325 k0_hw277 => k0_hw277

def k0_chk278 (v337 : IVec S16 32) : Prop :=
  (∀ a x, ((![v337] : Fin 1 → IVec S16 32) a x).toNat < S4096.size a)
theorem k0_idx310_inb : ∀ (v337 : IVec S16 32) (k0_hw278 : k0_chk278 v337), ∀ a x, ((![v337] : Fin 1 → IVec S16 32) a x).toNat < S4096.size a := fun v337 k0_hw278 => k0_hw278

def k0_chk279 (v349 : IVec S16 32) : Prop :=
  (∀ a x, ((![v349] : Fin 1 → IVec S16 32) a x).toNat < S4096.size a)
theorem k0_idx311_inb : ∀ (v349 : IVec S16 32) (k0_hw279 : k0_chk279 v349), ∀ a x, ((![v349] : Fin 1 → IVec S16 32) a x).toNat < S4096.size a := fun v349 k0_hw279 => k0_hw279

def k0_chk280 (v361 : IVec S16 32) : Prop :=
  (∀ a x, ((![v361] : Fin 1 → IVec S16 32) a x).toNat < S4096.size a)
theorem k0_idx312_inb : ∀ (v361 : IVec S16 32) (k0_hw280 : k0_chk280 v361), ∀ a x, ((![v361] : Fin 1 → IVec S16 32) a x).toNat < S4096.size a := fun v361 k0_hw280 => k0_hw280
def k0_off31 (k0_t21 : Fin k0_t21_loop.trips) : Fin 1 → Nat :=
  let c0_i32_198 : BitVec 32 := 0#32
  let c0_i32_165 : BitVec 32 := 0#32
  let c1_i32_167 : BitVec 32 := 1#32
  let arg11 : BitVec 32 := Scf.iv c0_i32_165 c1_i32_167 k0_t21
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t22_loop : Scf.Loop 32 :=
  let c0_i32_173 : BitVec 32 := 0#32
  let c16_i32_174 : BitVec 32 := 16#32
  let v155 : BitVec 32 := Scalar.addi c0_i32_173 c16_i32_174
  let c1_i32_175 : BitVec 32 := 1#32
  ⟨c0_i32_173, v155, c1_i32_175⟩

def k0_chk281 (v181 : IVec S16 32) : Prop :=
  (∀ a x, ((![v181] : Fin 1 → IVec S16 32) a x).toNat < S4096.size a)
theorem k0_idx313_inb : ∀ (v181 : IVec S16 32) (k0_hw281 : k0_chk281 v181), ∀ a x, ((![v181] : Fin 1 → IVec S16 32) a x).toNat < S4096.size a := fun v181 k0_hw281 => k0_hw281

def k0_chk282 (v193 : IVec S16 32) : Prop :=
  (∀ a x, ((![v193] : Fin 1 → IVec S16 32) a x).toNat < S4096.size a)
theorem k0_idx314_inb : ∀ (v193 : IVec S16 32) (k0_hw282 : k0_chk282 v193), ∀ a x, ((![v193] : Fin 1 → IVec S16 32) a x).toNat < S4096.size a := fun v193 k0_hw282 => k0_hw282

def k0_chk283 (v205 : IVec S16 32) : Prop :=
  (∀ a x, ((![v205] : Fin 1 → IVec S16 32) a x).toNat < S4096.size a)
theorem k0_idx315_inb : ∀ (v205 : IVec S16 32) (k0_hw283 : k0_chk283 v205), ∀ a x, ((![v205] : Fin 1 → IVec S16 32) a x).toNat < S4096.size a := fun v205 k0_hw283 => k0_hw283

def k0_chk284 (v217 : IVec S16 32) : Prop :=
  (∀ a x, ((![v217] : Fin 1 → IVec S16 32) a x).toNat < S4096.size a)
theorem k0_idx316_inb : ∀ (v217 : IVec S16 32) (k0_hw284 : k0_chk284 v217), ∀ a x, ((![v217] : Fin 1 → IVec S16 32) a x).toNat < S4096.size a := fun v217 k0_hw284 => k0_hw284

def k0_chk285 (v229 : IVec S16 32) : Prop :=
  (∀ a x, ((![v229] : Fin 1 → IVec S16 32) a x).toNat < S4096.size a)
theorem k0_idx317_inb : ∀ (v229 : IVec S16 32) (k0_hw285 : k0_chk285 v229), ∀ a x, ((![v229] : Fin 1 → IVec S16 32) a x).toNat < S4096.size a := fun v229 k0_hw285 => k0_hw285

def k0_chk286 (v241 : IVec S16 32) : Prop :=
  (∀ a x, ((![v241] : Fin 1 → IVec S16 32) a x).toNat < S4096.size a)
theorem k0_idx318_inb : ∀ (v241 : IVec S16 32) (k0_hw286 : k0_chk286 v241), ∀ a x, ((![v241] : Fin 1 → IVec S16 32) a x).toNat < S4096.size a := fun v241 k0_hw286 => k0_hw286

def k0_chk287 (v253 : IVec S16 32) : Prop :=
  (∀ a x, ((![v253] : Fin 1 → IVec S16 32) a x).toNat < S4096.size a)
theorem k0_idx319_inb : ∀ (v253 : IVec S16 32) (k0_hw287 : k0_chk287 v253), ∀ a x, ((![v253] : Fin 1 → IVec S16 32) a x).toNat < S4096.size a := fun v253 k0_hw287 => k0_hw287

def k0_chk288 (v265 : IVec S16 32) : Prop :=
  (∀ a x, ((![v265] : Fin 1 → IVec S16 32) a x).toNat < S4096.size a)
theorem k0_idx320_inb : ∀ (v265 : IVec S16 32) (k0_hw288 : k0_chk288 v265), ∀ a x, ((![v265] : Fin 1 → IVec S16 32) a x).toNat < S4096.size a := fun v265 k0_hw288 => k0_hw288

def k0_chk289 (v277 : IVec S16 32) : Prop :=
  (∀ a x, ((![v277] : Fin 1 → IVec S16 32) a x).toNat < S4096.size a)
theorem k0_idx321_inb : ∀ (v277 : IVec S16 32) (k0_hw289 : k0_chk289 v277), ∀ a x, ((![v277] : Fin 1 → IVec S16 32) a x).toNat < S4096.size a := fun v277 k0_hw289 => k0_hw289

def k0_chk290 (v289 : IVec S16 32) : Prop :=
  (∀ a x, ((![v289] : Fin 1 → IVec S16 32) a x).toNat < S4096.size a)
theorem k0_idx322_inb : ∀ (v289 : IVec S16 32) (k0_hw290 : k0_chk290 v289), ∀ a x, ((![v289] : Fin 1 → IVec S16 32) a x).toNat < S4096.size a := fun v289 k0_hw290 => k0_hw290

def k0_chk291 (v301 : IVec S16 32) : Prop :=
  (∀ a x, ((![v301] : Fin 1 → IVec S16 32) a x).toNat < S4096.size a)
theorem k0_idx323_inb : ∀ (v301 : IVec S16 32) (k0_hw291 : k0_chk291 v301), ∀ a x, ((![v301] : Fin 1 → IVec S16 32) a x).toNat < S4096.size a := fun v301 k0_hw291 => k0_hw291

def k0_chk292 (v313 : IVec S16 32) : Prop :=
  (∀ a x, ((![v313] : Fin 1 → IVec S16 32) a x).toNat < S4096.size a)
theorem k0_idx324_inb : ∀ (v313 : IVec S16 32) (k0_hw292 : k0_chk292 v313), ∀ a x, ((![v313] : Fin 1 → IVec S16 32) a x).toNat < S4096.size a := fun v313 k0_hw292 => k0_hw292

def k0_chk293 (v325 : IVec S16 32) : Prop :=
  (∀ a x, ((![v325] : Fin 1 → IVec S16 32) a x).toNat < S4096.size a)
theorem k0_idx325_inb : ∀ (v325 : IVec S16 32) (k0_hw293 : k0_chk293 v325), ∀ a x, ((![v325] : Fin 1 → IVec S16 32) a x).toNat < S4096.size a := fun v325 k0_hw293 => k0_hw293

def k0_chk294 (v337 : IVec S16 32) : Prop :=
  (∀ a x, ((![v337] : Fin 1 → IVec S16 32) a x).toNat < S4096.size a)
theorem k0_idx326_inb : ∀ (v337 : IVec S16 32) (k0_hw294 : k0_chk294 v337), ∀ a x, ((![v337] : Fin 1 → IVec S16 32) a x).toNat < S4096.size a := fun v337 k0_hw294 => k0_hw294

def k0_chk295 (v349 : IVec S16 32) : Prop :=
  (∀ a x, ((![v349] : Fin 1 → IVec S16 32) a x).toNat < S4096.size a)
theorem k0_idx327_inb : ∀ (v349 : IVec S16 32) (k0_hw295 : k0_chk295 v349), ∀ a x, ((![v349] : Fin 1 → IVec S16 32) a x).toNat < S4096.size a := fun v349 k0_hw295 => k0_hw295

def k0_chk296 (v361 : IVec S16 32) : Prop :=
  (∀ a x, ((![v361] : Fin 1 → IVec S16 32) a x).toNat < S4096.size a)
theorem k0_idx328_inb : ∀ (v361 : IVec S16 32) (k0_hw296 : k0_chk296 v361), ∀ a x, ((![v361] : Fin 1 → IVec S16 32) a x).toNat < S4096.size a := fun v361 k0_hw296 => k0_hw296
def k0_off32 (k0_t22 : Fin k0_t22_loop.trips) : Fin 1 → Nat :=
  let c0_i32_198 : BitVec 32 := 0#32
  let c0_i32_173 : BitVec 32 := 0#32
  let c1_i32_175 : BitVec 32 := 1#32
  let arg11 : BitVec 32 := Scf.iv c0_i32_173 c1_i32_175 k0_t22
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t23_loop : Scf.Loop 32 :=
  let c0_i32_181 : BitVec 32 := 0#32
  let c16_i32_182 : BitVec 32 := 16#32
  let v160 : BitVec 32 := Scalar.addi c0_i32_181 c16_i32_182
  let c1_i32_183 : BitVec 32 := 1#32
  ⟨c0_i32_181, v160, c1_i32_183⟩

def k0_chk297 (v181 : IVec S16 32) : Prop :=
  (∀ a x, ((![v181] : Fin 1 → IVec S16 32) a x).toNat < S4096.size a)
theorem k0_idx329_inb : ∀ (v181 : IVec S16 32) (k0_hw297 : k0_chk297 v181), ∀ a x, ((![v181] : Fin 1 → IVec S16 32) a x).toNat < S4096.size a := fun v181 k0_hw297 => k0_hw297

def k0_chk298 (v193 : IVec S16 32) : Prop :=
  (∀ a x, ((![v193] : Fin 1 → IVec S16 32) a x).toNat < S4096.size a)
theorem k0_idx330_inb : ∀ (v193 : IVec S16 32) (k0_hw298 : k0_chk298 v193), ∀ a x, ((![v193] : Fin 1 → IVec S16 32) a x).toNat < S4096.size a := fun v193 k0_hw298 => k0_hw298

def k0_chk299 (v205 : IVec S16 32) : Prop :=
  (∀ a x, ((![v205] : Fin 1 → IVec S16 32) a x).toNat < S4096.size a)
theorem k0_idx331_inb : ∀ (v205 : IVec S16 32) (k0_hw299 : k0_chk299 v205), ∀ a x, ((![v205] : Fin 1 → IVec S16 32) a x).toNat < S4096.size a := fun v205 k0_hw299 => k0_hw299

def k0_chk300 (v217 : IVec S16 32) : Prop :=
  (∀ a x, ((![v217] : Fin 1 → IVec S16 32) a x).toNat < S4096.size a)
theorem k0_idx332_inb : ∀ (v217 : IVec S16 32) (k0_hw300 : k0_chk300 v217), ∀ a x, ((![v217] : Fin 1 → IVec S16 32) a x).toNat < S4096.size a := fun v217 k0_hw300 => k0_hw300

def k0_chk301 (v229 : IVec S16 32) : Prop :=
  (∀ a x, ((![v229] : Fin 1 → IVec S16 32) a x).toNat < S4096.size a)
theorem k0_idx333_inb : ∀ (v229 : IVec S16 32) (k0_hw301 : k0_chk301 v229), ∀ a x, ((![v229] : Fin 1 → IVec S16 32) a x).toNat < S4096.size a := fun v229 k0_hw301 => k0_hw301

def k0_chk302 (v241 : IVec S16 32) : Prop :=
  (∀ a x, ((![v241] : Fin 1 → IVec S16 32) a x).toNat < S4096.size a)
theorem k0_idx334_inb : ∀ (v241 : IVec S16 32) (k0_hw302 : k0_chk302 v241), ∀ a x, ((![v241] : Fin 1 → IVec S16 32) a x).toNat < S4096.size a := fun v241 k0_hw302 => k0_hw302

def k0_chk303 (v253 : IVec S16 32) : Prop :=
  (∀ a x, ((![v253] : Fin 1 → IVec S16 32) a x).toNat < S4096.size a)
theorem k0_idx335_inb : ∀ (v253 : IVec S16 32) (k0_hw303 : k0_chk303 v253), ∀ a x, ((![v253] : Fin 1 → IVec S16 32) a x).toNat < S4096.size a := fun v253 k0_hw303 => k0_hw303

def k0_chk304 (v265 : IVec S16 32) : Prop :=
  (∀ a x, ((![v265] : Fin 1 → IVec S16 32) a x).toNat < S4096.size a)
theorem k0_idx336_inb : ∀ (v265 : IVec S16 32) (k0_hw304 : k0_chk304 v265), ∀ a x, ((![v265] : Fin 1 → IVec S16 32) a x).toNat < S4096.size a := fun v265 k0_hw304 => k0_hw304

def k0_chk305 (v277 : IVec S16 32) : Prop :=
  (∀ a x, ((![v277] : Fin 1 → IVec S16 32) a x).toNat < S4096.size a)
theorem k0_idx337_inb : ∀ (v277 : IVec S16 32) (k0_hw305 : k0_chk305 v277), ∀ a x, ((![v277] : Fin 1 → IVec S16 32) a x).toNat < S4096.size a := fun v277 k0_hw305 => k0_hw305

def k0_chk306 (v289 : IVec S16 32) : Prop :=
  (∀ a x, ((![v289] : Fin 1 → IVec S16 32) a x).toNat < S4096.size a)
theorem k0_idx338_inb : ∀ (v289 : IVec S16 32) (k0_hw306 : k0_chk306 v289), ∀ a x, ((![v289] : Fin 1 → IVec S16 32) a x).toNat < S4096.size a := fun v289 k0_hw306 => k0_hw306

def k0_chk307 (v301 : IVec S16 32) : Prop :=
  (∀ a x, ((![v301] : Fin 1 → IVec S16 32) a x).toNat < S4096.size a)
theorem k0_idx339_inb : ∀ (v301 : IVec S16 32) (k0_hw307 : k0_chk307 v301), ∀ a x, ((![v301] : Fin 1 → IVec S16 32) a x).toNat < S4096.size a := fun v301 k0_hw307 => k0_hw307

def k0_chk308 (v313 : IVec S16 32) : Prop :=
  (∀ a x, ((![v313] : Fin 1 → IVec S16 32) a x).toNat < S4096.size a)
theorem k0_idx340_inb : ∀ (v313 : IVec S16 32) (k0_hw308 : k0_chk308 v313), ∀ a x, ((![v313] : Fin 1 → IVec S16 32) a x).toNat < S4096.size a := fun v313 k0_hw308 => k0_hw308

def k0_chk309 (v325 : IVec S16 32) : Prop :=
  (∀ a x, ((![v325] : Fin 1 → IVec S16 32) a x).toNat < S4096.size a)
theorem k0_idx341_inb : ∀ (v325 : IVec S16 32) (k0_hw309 : k0_chk309 v325), ∀ a x, ((![v325] : Fin 1 → IVec S16 32) a x).toNat < S4096.size a := fun v325 k0_hw309 => k0_hw309

def k0_chk310 (v337 : IVec S16 32) : Prop :=
  (∀ a x, ((![v337] : Fin 1 → IVec S16 32) a x).toNat < S4096.size a)
theorem k0_idx342_inb : ∀ (v337 : IVec S16 32) (k0_hw310 : k0_chk310 v337), ∀ a x, ((![v337] : Fin 1 → IVec S16 32) a x).toNat < S4096.size a := fun v337 k0_hw310 => k0_hw310

def k0_chk311 (v349 : IVec S16 32) : Prop :=
  (∀ a x, ((![v349] : Fin 1 → IVec S16 32) a x).toNat < S4096.size a)
theorem k0_idx343_inb : ∀ (v349 : IVec S16 32) (k0_hw311 : k0_chk311 v349), ∀ a x, ((![v349] : Fin 1 → IVec S16 32) a x).toNat < S4096.size a := fun v349 k0_hw311 => k0_hw311

def k0_chk312 (v361 : IVec S16 32) : Prop :=
  (∀ a x, ((![v361] : Fin 1 → IVec S16 32) a x).toNat < S4096.size a)
theorem k0_idx344_inb : ∀ (v361 : IVec S16 32) (k0_hw312 : k0_chk312 v361), ∀ a x, ((![v361] : Fin 1 → IVec S16 32) a x).toNat < S4096.size a := fun v361 k0_hw312 => k0_hw312
def k0_off33 (k0_t23 : Fin k0_t23_loop.trips) : Fin 1 → Nat :=
  let c0_i32_198 : BitVec 32 := 0#32
  let c0_i32_181 : BitVec 32 := 0#32
  let c1_i32_183 : BitVec 32 := 1#32
  let arg11 : BitVec 32 := Scf.iv c0_i32_181 c1_i32_183 k0_t23
  let c16_i32_197 : BitVec 32 := 16#32
  let v170 : BitVec 32 := Scalar.muli arg11 c16_i32_197
  let v171 : BitVec 32 := Scalar.addi c0_i32_198 v170
  let v365 : Index := Scalar.indexCast v171
  ![v365.toNat]
@[reducible] def k0_t24_loop : Scf.Loop 32 :=
  let c0_i32_189 : BitVec 32 := 0#32
  let c16_i32_190 : BitVec 32 := 16#32
  let v165 : BitVec 32 := Scalar.addi c0_i32_189 c16_i32_190
  let c1_i32_191 : BitVec 32 := 1#32
  ⟨c0_i32_189, v165, c1_i32_191⟩

def k0_chk313 (v181 : IVec S16 32) : Prop :=
  (∀ a x, ((![v181] : Fin 1 → IVec S16 32) a x).toNat < S4096.size a)
theorem k0_idx345_inb : ∀ (v181 : IVec S16 32) (k0_hw313 : k0_chk313 v181), ∀ a x, ((![v181] : Fin 1 → IVec S16 32) a x).toNat < S4096.size a := fun v181 k0_hw313 => k0_hw313

def k0_chk314 (v193 : IVec S16 32) : Prop :=
  (∀ a x, ((![v193] : Fin 1 → IVec S16 32) a x).toNat < S4096.size a)
theorem k0_idx346_inb : ∀ (v193 : IVec S16 32) (k0_hw314 : k0_chk314 v193), ∀ a x, ((![v193] : Fin 1 → IVec S16 32) a x).toNat < S4096.size a := fun v193 k0_hw314 => k0_hw314

def k0_chk315 (v205 : IVec S16 32) : Prop :=
  (∀ a x, ((![v205] : Fin 1 → IVec S16 32) a x).toNat < S4096.size a)
theorem k0_idx347_inb : ∀ (v205 : IVec S16 32) (k0_hw315 : k0_chk315 v205), ∀ a x, ((![v205] : Fin 1 → IVec S16 32) a x).toNat < S4096.size a := fun v205 k0_hw315 => k0_hw315

def k0_chk316 (v217 : IVec S16 32) : Prop :=
  (∀ a x, ((![v217] : Fin 1 → IVec S16 32) a x).toNat < S4096.size a)
theorem k0_idx348_inb : ∀ (v217 : IVec S16 32) (k0_hw316 : k0_chk316 v217), ∀ a x, ((![v217] : Fin 1 → IVec S16 32) a x).toNat < S4096.size a := fun v217 k0_hw316 => k0_hw316

def k0_chk317 (v229 : IVec S16 32) : Prop :=
  (∀ a x, ((![v229] : Fin 1 → IVec S16 32) a x).toNat < S4096.size a)
theorem k0_idx349_inb : ∀ (v229 : IVec S16 32) (k0_hw317 : k0_chk317 v229), ∀ a x, ((![v229] : Fin 1 → IVec S16 32) a x).toNat < S4096.size a := fun v229 k0_hw317 => k0_hw317

def k0_chk318 (v241 : IVec S16 32) : Prop :=
  (∀ a x, ((![v241] : Fin 1 → IVec S16 32) a x).toNat < S4096.size a)
theorem k0_idx350_inb : ∀ (v241 : IVec S16 32) (k0_hw318 : k0_chk318 v241), ∀ a x, ((![v241] : Fin 1 → IVec S16 32) a x).toNat < S4096.size a := fun v241 k0_hw318 => k0_hw318

def k0_chk319 (v253 : IVec S16 32) : Prop :=
  (∀ a x, ((![v253] : Fin 1 → IVec S16 32) a x).toNat < S4096.size a)
theorem k0_idx351_inb : ∀ (v253 : IVec S16 32) (k0_hw319 : k0_chk319 v253), ∀ a x, ((![v253] : Fin 1 → IVec S16 32) a x).toNat < S4096.size a := fun v253 k0_hw319 => k0_hw319

def k0_chk320 (v265 : IVec S16 32) : Prop :=
  (∀ a x, ((![v265] : Fin 1 → IVec S16 32) a x).toNat < S4096.size a)
theorem k0_idx352_inb : ∀ (v265 : IVec S16 32) (k0_hw320 : k0_chk320 v265), ∀ a x, ((![v265] : Fin 1 → IVec S16 32) a x).toNat < S4096.size a := fun v265 k0_hw320 => k0_hw320

def k0_chk321 (v277 : IVec S16 32) : Prop :=
  (∀ a x, ((![v277] : Fin 1 → IVec S16 32) a x).toNat < S4096.size a)
theorem k0_idx353_inb : ∀ (v277 : IVec S16 32) (k0_hw321 : k0_chk321 v277), ∀ a x, ((![v277] : Fin 1 → IVec S16 32) a x).toNat < S4096.size a := fun v277 k0_hw321 => k0_hw321

def k0_chk322 (v289 : IVec S16 32) : Prop :=
  (∀ a x, ((![v289] : Fin 1 → IVec S16 32) a x).toNat < S4096.size a)
theorem k0_idx354_inb : ∀ (v289 : IVec S16 32) (k0_hw322 : k0_chk322 v289), ∀ a x, ((![v289] : Fin 1 → IVec S16 32) a x).toNat < S4096.size a := fun v289 k0_hw322 => k0_hw322

def k0_chk323 (v301 : IVec S16 32) : Prop :=
  (∀ a x, ((![v301] : Fin 1 → IVec S16 32) a x).toNat < S4096.size a)
theorem k0_idx355_inb : ∀ (v301 : IVec S16 32) (k0_hw323 : k0_chk323 v301), ∀ a x, ((![v301] : Fin 1 → IVec S16 32) a x).toNat < S4096.size a := fun v301 k0_hw323 => k0_hw323

def k0_chk324 (v313 : IVec S16 32) : Prop :=
  (∀ a x, ((![v313] : Fin 1 → IVec S16 32) a x).toNat < S4096.size a)
theorem k0_idx356_inb : ∀ (v313 : IVec S16 32) (k0_hw324 : k0_chk324 v313), ∀ a x, ((![v313] : Fin 1 → IVec S16 32) a x).toNat < S4096.size a := fun v313 k0_hw324 => k0_hw324

def k0_chk325 (v325 : IVec S16 32) : Prop :=
  (∀ a x, ((![v325] : Fin 1 → IVec S16 32) a x).toNat < S4096.size a)
theorem k0_idx357_inb : ∀ (v325 : IVec S16 32) (k0_hw325 : k0_chk325 v325), ∀ a x, ((![v325] : Fin 1 → IVec S16 32) a x).toNat < S4096.size a := fun v325 k0_hw325 => k0_hw325

def k0_chk326 (v337 : IVec S16 32) : Prop :=
  (∀ a x, ((![v337] : Fin 1 → IVec S16 32) a x).toNat < S4096.size a)
theorem k0_idx358_inb : ∀ (v337 : IVec S16 32) (k0_hw326 : k0_chk326 v337), ∀ a x, ((![v337] : Fin 1 → IVec S16 32) a x).toNat < S4096.size a := fun v337 k0_hw326 => k0_hw326

def k0_chk327 (v349 : IVec S16 32) : Prop :=
  (∀ a x, ((![v349] : Fin 1 → IVec S16 32) a x).toNat < S4096.size a)
theorem k0_idx359_inb : ∀ (v349 : IVec S16 32) (k0_hw327 : k0_chk327 v349), ∀ a x, ((![v349] : Fin 1 → IVec S16 32) a x).toNat < S4096.size a := fun v349 k0_hw327 => k0_hw327

def k0_chk328 (v361 : IVec S16 32) : Prop :=
  (∀ a x, ((![v361] : Fin 1 → IVec S16 32) a x).toNat < S4096.size a)
theorem k0_idx360_inb : ∀ (v361 : IVec S16 32) (k0_hw328 : k0_chk328 v361), ∀ a x, ((![v361] : Fin 1 → IVec S16 32) a x).toNat < S4096.size a := fun v361 k0_hw328 => k0_hw328
def k0_off34 (k0_t24 : Fin k0_t24_loop.trips) : Fin 1 → Nat :=
  let c0_i32_198 : BitVec 32 := 0#32
  let c0_i32_189 : BitVec 32 := 0#32
  let c1_i32_191 : BitVec 32 := 1#32
  let arg11 : BitVec 32 := Scf.iv c0_i32_189 c1_i32_191 k0_t24
  let c16_i32_197 : BitVec 32 := 16#32
  let v170 : BitVec 32 := Scalar.muli arg11 c16_i32_197
  let v171 : BitVec 32 := Scalar.addi c0_i32_198 v170
  let v365 : Index := Scalar.indexCast v171
  ![v365.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== HistRefIdeal.lean ====
abbrev S2097152x64 : Shape := ⟨2, ![2097152, 64]⟩
abbrev S10x2097152 : Shape := ⟨2, ![10, 2097152]⟩
abbrev S10 : Shape := ⟨1, ![10]⟩
abbrev S10x1x1 : Shape := ⟨3, ![10, 1, 1]⟩
abbrev S64 : Shape := ⟨1, ![64]⟩
abbrev S1x1x64 : Shape := ⟨3, ![1, 1, 64]⟩
abbrev S10x2097152x1 : Shape := ⟨3, ![10, 2097152, 1]⟩
abbrev S10x2097152x64 : Shape := ⟨3, ![10, 2097152, 64]⟩
abbrev S_ : Shape := ⟨0, ![]⟩
abbrev S10x64x256 : Shape := ⟨3, ![10, 64, 256]⟩
abbrev S1x2097152x64 : Shape := ⟨3, ![1, 2097152, 64]⟩
abbrev S10x2097152x64x1 : Shape := ⟨4, ![10, 2097152, 64, 1]⟩
abbrev S10x2097152x64x3 : Shape := ⟨4, ![10, 2097152, 64, 3]⟩

abbrev nBuf : Space → Nat
  | .hbm => 43
  | .vmem => 0
  | .smem => 0
  | _ => 0

abbrev bufTy : (tb : Table) → Fin (tcTables nBuf tb) → BufTy
  | .hbm, ⟨0, _⟩ => ⟨S2097152x64, .i8⟩
  | .hbm, ⟨1, _⟩ => ⟨S10x2097152, .i16⟩
  | .hbm, ⟨2, _⟩ => ⟨S10, .i32⟩
  | .hbm, ⟨3, _⟩ => ⟨S10x1x1, .i32⟩
  | .hbm, ⟨4, _⟩ => ⟨S64, .i32⟩
  | .hbm, ⟨5, _⟩ => ⟨S1x1x64, .i32⟩
  | .hbm, ⟨6, _⟩ => ⟨S10x2097152, .bf16⟩
  | .hbm, ⟨7, _⟩ => ⟨S10x2097152, .f32⟩
  | .hbm, ⟨8, _⟩ => ⟨S10x2097152x1, .f32⟩
  | .hbm, ⟨9, _⟩ => ⟨S10x2097152x64, .f32⟩
  | .hbm, ⟨10, _⟩ => ⟨S_, .f32⟩
  | .hbm, ⟨11, _⟩ => ⟨S10x64x256, .f32⟩
  | .hbm, ⟨12, _⟩ => ⟨S2097152x64, .i32⟩
  | .hbm, ⟨13, _⟩ => ⟨S1x2097152x64, .i32⟩
  | .hbm, ⟨14, _⟩ => ⟨S_, .i32⟩
  | .hbm, ⟨15, _⟩ => ⟨S10x1x1, .i32⟩
  | .hbm, ⟨16, _⟩ => ⟨S10x1x1, .i1⟩
  | .hbm, ⟨17, _⟩ => ⟨S_, .i32⟩
  | .hbm, ⟨18, _⟩ => ⟨S10x1x1, .i32⟩
  | .hbm, ⟨19, _⟩ => ⟨S10x1x1, .i32⟩
  | .hbm, ⟨20, _⟩ => ⟨S10x1x1, .i32⟩
  | .hbm, ⟨21, _⟩ => ⟨S_, .i32⟩
  | .hbm, ⟨22, _⟩ => ⟨S1x1x64, .i32⟩
  | .hbm, ⟨23, _⟩ => ⟨S1x1x64, .i1⟩
  | .hbm, ⟨24, _⟩ => ⟨S_, .i32⟩
  | .hbm, ⟨25, _⟩ => ⟨S1x1x64, .i32⟩
  | .hbm, ⟨26, _⟩ => ⟨S1x1x64, .i32⟩
  | .hbm, ⟨27, _⟩ => ⟨S1x1x64, .i32⟩
  | .hbm, ⟨28, _⟩ => ⟨S_, .i32⟩
  | .hbm, ⟨29, _⟩ => ⟨S1x2097152x64, .i32⟩
  | .hbm, ⟨30, _⟩ => ⟨S1x2097152x64, .i1⟩
  | .hbm, ⟨31, _⟩ => ⟨S_, .i32⟩
  | .hbm, ⟨32, _⟩ => ⟨S1x2097152x64, .i32⟩
  | .hbm, ⟨33, _⟩ => ⟨S1x2097152x64, .i32⟩
  | .hbm, ⟨34, _⟩ => ⟨S1x2097152x64, .i32⟩
  | .hbm, ⟨35, _⟩ => ⟨S10x2097152x64, .i32⟩
  | .hbm, ⟨36, _⟩ => ⟨S10x2097152x64, .i32⟩
  | .hbm, ⟨37, _⟩ => ⟨S10x2097152x64, .i32⟩
  | .hbm, ⟨38, _⟩ => ⟨S10x2097152x64x1, .i32⟩
  | .hbm, ⟨39, _⟩ => ⟨S10x2097152x64x1, .i32⟩
  | .hbm, ⟨40, _⟩ => ⟨S10x2097152x64x1, .i32⟩
  | .hbm, ⟨41, _⟩ => ⟨S10x2097152x64x3, .i32⟩
  | .hbm, ⟨42, _⟩ => ⟨S10x64x256, .f32⟩
  | _, _ => ⟨S2097152x64, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Grads.lean ====
abbrev S10x64x256 : Shape := ⟨3, ![10, 64, 256]⟩
abbrev S64x256x2 : Shape := ⟨3, ![64, 256, 2]⟩
abbrev S10x128 : Shape := ⟨2, ![10, 128]⟩
abbrev S10x64x2 : Shape := ⟨3, ![10, 64, 2]⟩
abbrev S2x10x64 : Shape := ⟨3, ![2, 10, 64]⟩
abbrev S2x10x64x1 : Shape := ⟨4, ![2, 10, 64, 1]⟩
abbrev S2x64x256 : Shape := ⟨3, ![2, 64, 256]⟩
abbrev S64x256 : Shape := ⟨2, ![64, 256]⟩
abbrev S1x64x256 : Shape := ⟨3, ![1, 64, 256]⟩
abbrev S64 : Shape := ⟨1, ![64]⟩
abbrev S64x1 : Shape := ⟨2, ![64, 1]⟩
abbrev S1x1x64x1 : Shape := ⟨4, ![1, 1, 64, 1]⟩

abbrev nBuf : Space → Nat
  | .hbm => 15
  | .vmem => 5
  | .smem => 0
  | _ => 0

abbrev bufTy : (tb : Table) → Fin (tcTables nBuf tb) → BufTy
  | .hbm, ⟨0, _⟩ => ⟨S10x64x256, .f32⟩
  | .hbm, ⟨1, _⟩ => ⟨S64x256x2, .f32⟩
  | .hbm, ⟨2, _⟩ => ⟨S10x128, .bf16⟩
  | .hbm, ⟨3, _⟩ => ⟨S10x128, .f32⟩
  | .hbm, ⟨4, _⟩ => ⟨S10x64x2, .f32⟩
  | .hbm, ⟨5, _⟩ => ⟨S2x10x64, .f32⟩
  | .hbm, ⟨6, _⟩ => ⟨S2x10x64x1, .f32⟩
  | .hbm, ⟨7, _⟩ => ⟨S2x64x256, .f32⟩
  | .hbm, ⟨8, _⟩ => ⟨S2x10x64x1, .f32⟩
  | .hbm, ⟨9, _⟩ => ⟨S2x64x256, .f32⟩
  | .hbm, ⟨10, _⟩ => ⟨S2x10x64, .f32⟩
  | .hbm, ⟨11, _⟩ => ⟨S10x64x2, .f32⟩
  | .hbm, ⟨12, _⟩ => ⟨S10x128, .f32⟩
  | .hbm, ⟨13, _⟩ => ⟨S10x128, .bf16⟩
  | .hbm, ⟨14, _⟩ => ⟨S64x256x2, .f32⟩
  | .local _ .vmem, ⟨0, _⟩ => ⟨S10x64x256, .f32⟩
  | .local _ .vmem, ⟨1, _⟩ => ⟨S2x64x256, .f32⟩
  | .local _ .vmem, ⟨2, _⟩ => ⟨S2x10x64x1, .f32⟩
  | .local _ .vmem, ⟨3, _⟩ => ⟨S2x10x64x1, .f32⟩
  | .local _ .vmem, ⟨4, _⟩ => ⟨S2x64x256, .f32⟩
  | _, _ => ⟨S10x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S10x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x10x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x10x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GradsRefIdeal.lean ====
abbrev S10x64x256 : Shape := ⟨3, ![10, 64, 256]⟩
abbrev S64x256x2 : Shape := ⟨3, ![64, 256, 2]⟩
abbrev S10x128 : Shape := ⟨2, ![10, 128]⟩
abbrev S_ : Shape := ⟨0, ![]⟩
abbrev S10x64 : Shape := ⟨2, ![10, 64]⟩
abbrev S64x256 : Shape := ⟨2, ![64, 256]⟩
abbrev S10x64x2 : Shape := ⟨3, ![10, 64, 2]⟩
abbrev S10x64x1 : Shape := ⟨3, ![10, 64, 1]⟩
abbrev S64x2x10 : Shape := ⟨3, ![64, 2, 10]⟩
abbrev S64x256x1 : Shape := ⟨3, ![64, 256, 1]⟩

abbrev nBuf : Space → Nat
  | .hbm => 28
  | .vmem => 0
  | .smem => 0
  | _ => 0

abbrev bufTy : (tb : Table) → Fin (tcTables nBuf tb) → BufTy
  | .hbm, ⟨0, _⟩ => ⟨S10x64x256, .f32⟩
  | .hbm, ⟨1, _⟩ => ⟨S64x256x2, .f32⟩
  | .hbm, ⟨2, _⟩ => ⟨S10x128, .bf16⟩
  | .hbm, ⟨3, _⟩ => ⟨S_, .f32⟩
  | .hbm, ⟨4, _⟩ => ⟨S10x64, .f32⟩
  | .hbm, ⟨5, _⟩ => ⟨S_, .f32⟩
  | .hbm, ⟨6, _⟩ => ⟨S64x256, .f32⟩
  | .hbm, ⟨7, _⟩ => ⟨S10x128, .f32⟩
  | .hbm, ⟨8, _⟩ => ⟨S10x64x2, .f32⟩
  | .hbm, ⟨9, _⟩ => ⟨S10x64x1, .f32⟩
  | .hbm, ⟨10, _⟩ => ⟨S10x64x2, .f32⟩
  | .hbm, ⟨11, _⟩ => ⟨S10x64x2, .f32⟩
  | .hbm, ⟨12, _⟩ => ⟨S64x2x10, .f32⟩
  | .hbm, ⟨13, _⟩ => ⟨S10x64x2, .f32⟩
  | .hbm, ⟨14, _⟩ => ⟨S10x64x2, .f32⟩
  | .hbm, ⟨15, _⟩ => ⟨S_, .f32⟩
  | .hbm, ⟨16, _⟩ => ⟨S10x64x2, .f32⟩
  | .hbm, ⟨17, _⟩ => ⟨S10x64x2, .f32⟩
  | .hbm, ⟨18, _⟩ => ⟨S10x128, .f32⟩
  | .hbm, ⟨19, _⟩ => ⟨S10x128, .bf16⟩
  | .hbm, ⟨20, _⟩ => ⟨S64x256x1, .f32⟩
  | .hbm, ⟨21, _⟩ => ⟨S64x256x2, .f32⟩
  | .hbm, ⟨22, _⟩ => ⟨S64x256x2, .f32⟩
  | .hbm, ⟨23, _⟩ => ⟨S64x256x2, .f32⟩
  | .hbm, ⟨24, _⟩ => ⟨S64x256x2, .f32⟩
  | .hbm, ⟨25, _⟩ => ⟨S_, .f32⟩
  | .hbm, ⟨26, _⟩ => ⟨S64x256x2, .f32⟩
  | .hbm, ⟨27, _⟩ => ⟨S64x256x2, .f32⟩
  | _, _ => ⟨S10x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.GradsBlock.lean ====
/-
  What the body of the gradients' kernel leaves in its two result blocks, element by element, over the extended reals.
-/
module

public import proofs.«01_k».proof.Proof.Gen.GradsIdeal.Frame
public import Idealize.ShloMosaic.Lib.Pipeline.ValueKit
public import Idealize.ShloMosaic.Lib.Pointwise

@[expose] public section

set_option maxRecDepth 16384

noncomputable section

open Idealize.ShloMosaic Idealize.SL.Sem

namespace Cert.GradsIdeal.Block

open Cert.GradsIdeal Cert.GradsIdeal.Gen

/-- The gradient of one element of `x`: `2 (cnt · x − ∑ hist · codebook)`, `cnt` the sum of the histogram's row. -/
def gx (h : Vec Ideal S10x64x256 .f32) (cb : Vec Ideal S2x64x256 .f32) (x : Vec Ideal S2x10x64x1 .f32)
    (d : Fin 2) (b : Fin 10) (m : Fin 64) : EReal :=
  Ideal.ofBits .f32 0x40000000#32 * ((∑ k : Fin 256, h (ix3 b m k)) * x (ix4 d b m 0) - ∑ k : Fin 256, h (ix3 b m k) * cb (ix3 d m k))

set_option maxHeartbeats 4000000 in
/-- The first result block. -/
theorem out3 (h : Vec Ideal S10x64x256 .f32) (cb : Vec Ideal S2x64x256 .f32) (x : Vec Ideal S2x10x64x1 .f32) (y : S2x10x64x1.Idx) :
    out0_3 h cb x y = gx h cb x (y 0) (y 1) (y 2) := by
  unfold_out out0_3
  unfold gx
  canon_tiles z hz
  all_goals (unfold_payloads; pointwise)
  all_goals blk_point

/-- The gradient of one element of the codebooks: `2 (hsum · codebook − ∑ hist · x)`, `hsum` the histogram's sum over the batch. -/
def gc (h : Vec Ideal S10x64x256 .f32) (cb : Vec Ideal S2x64x256 .f32) (x : Vec Ideal S2x10x64x1 .f32)
    (d : Fin 2) (m : Fin 64) (k : Fin 256) : EReal :=
  Ideal.ofBits .f32 0x40000000#32 * ((∑ b : Fin 10, h (ix3 b m k)) * cb (ix3 d m k) - ∑ b : Fin 10, h (ix3 b m k) * x (ix4 d b m 0))

/-- The sum of ten terms, first to last. -/
theorem sum_ten (f : Fin 10 → EReal) : ∑ b : Fin 10, f b = f 0 + f 1 + f 2 + f 3 + f 4 + f 5 + f 6 + f 7 + f 8 + f 9 := by
  simp only [Fin.sum_univ_castSucc, Fin.sum_univ_zero, zero_add]; rfl

set_option maxHeartbeats 4000000 in
/-- The second result block. -/
theorem out4 (h : Vec Ideal S10x64x256 .f32) (cb : Vec Ideal S2x64x256 .f32) (x : Vec Ideal S2x10x64x1 .f32) (y : S2x64x256.Idx) :
    out0_4 h cb x y = gc h cb x (y 0) (y 1) (y 2) := by
  unfold_out out0_4
  unfold gc
  rw [sum_ten, sum_ten]
  canon_tiles z hz
  all_goals (unfold_payloads; pointwise)
  all_goals try blk_point
end Cert.GradsIdeal.Block
-- ==== Proof.GradsValue.lean ====
/-
  What the program of the gradients' call leaves in its two results, over the extended reals.
-/
module

public import proofs.«01_k».proof.Proof.GradsBlock
public import Idealize.ShloMosaic.Lib.StableHlo.Run

@[expose] public section

set_option maxRecDepth 16384

noncomputable section

open Idealize.ShloMosaic Idealize.ShloMosaic.TcCoe Idealize.SL.Sem Idealize.ShloMosaic.StableHlo

namespace Cert.GradsIdeal.Block

open Cert.GradsIdeal Cert.GradsIdeal.Gen

variable (m : (ℓ : Loc nD τ sig) → Buf (Elt Ideal) ℓ) (ρ : Dev nD → PrngReg)

/-- The call's second operand: the codebooks, coordinates first. -/
abbrev cbOf (c : Dev nD) : Vec Ideal S2x64x256 .f32 :=
  transpose S2x64x256 [2, 0, 1] (m ((c.tc : Thread nD τ).loc main_arg1)) transposes_S64x256x2_S2x64x256_2_0_1
/-- The call's third operand: `x` in f32, coordinates first. -/
abbrev xOf (c : Dev nD) : FVec Ideal S2x10x64x1 .f32 :=
  broadcastInDim S2x10x64x1 ![0, 1, 2] bcast_S2x10x64_S2x10x64x1_0_1_2
    (transpose S2x10x64 [2, 0, 1] (shapeCast S10x64x2 (extf .f32 (m ((c.tc : Thread nD τ).loc main_arg2) : FVec Ideal S10x128 .bf16) bitsLt_bf16_f32 : FVec Ideal S10x128 .f32) shapeCasts_S10x128_S10x64x2)
      transposes_S10x64x2_S2x10x64_2_0_1)

theorem V_cb (c : Dev nD) : V m c main_v4 = cbOf m c := by
  unfold V V0
  simp only [hostOps0, List.flatten_cons, List.flatten_nil, List.append_nil]
  after_results <;> rfl
theorem V_x (c : Dev nD) : V m c main_v3 = xOf m c := by
  unfold V V0
  simp only [hostOps0, List.flatten_cons, List.flatten_nil, List.append_nil]
  after_results <;> rfl

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0, 0] := by decide +kernel
theorem idx3 : ∀ t : Fin cfg0.N, win0_3.index t = ![0, 0, 0, 0] := by decide +kernel
theorem idx4 : ∀ t : Fin cfg0.N, win0_4.index t = ![0, 0, 0] := by decide +kernel

theorem iblk0 (c : Dev nD) (t : Fin cfg0.N) : iblk m c 0 t = m ((c.tc : Thread nD τ).loc main_arg0) := by
  funext y; unfold iblk; rw [V_main_arg0]; blk_ext [idx0 t]
theorem iblk1 (c : Dev nD) (t : Fin cfg0.N) : iblk m c 1 t = cbOf m c := by
  rw [← V_cb]; funext y; unfold iblk; blk_ext [idx1 t]
theorem iblk2 (c : Dev nD) (t : Fin cfg0.N) : iblk m c 2 t = xOf m c := by
  rw [← V_x]; funext y; unfold iblk; blk_ext [idx2 t]

/-- The first result array of the call. -/
abbrev arr3 (c : Dev nD) : Vec Ideal S2x10x64x1 .f32 := fun i => gx (m ((c.tc : Thread nD τ).loc main_arg0)) (cbOf m c) (xOf m c) (i 0) (i 1) (i 2)
/-- The second result array of the call. -/
abbrev arr4 (c : Dev nD) : Vec Ideal S2x64x256 .f32 := fun i => gc (m ((c.tc : Thread nD τ).loc main_arg0)) (cbOf m c) (xOf m c) (i 0) (i 1) (i 2)

theorem final3 (c : Dev nD) : (dats m 0 c).arrAt 3 cfg0.N = arr3 m c := by
  refine (dats m 0 c).arrAt_eq_of_covers 3 _ (by decide +kernel) fun t hf y => ?_
  blk_simp
  rw [after0_3, out3, iblk0, iblk1, iblk2]
  unfold arr3
  congr 1 <;> (apply Fin.ext; blk_simp [idx3 t]) <;> simp
theorem final4 (c : Dev nD) : (dats m 0 c).arrAt 4 cfg0.N = arr4 m c := by
  refine (dats m 0 c).arrAt_eq_of_covers 4 _ (by decide +kernel) fun t hf y => ?_
  blk_simp
  rw [after0_4, out4, iblk0, iblk1, iblk2]
  unfold arr4
  congr 1 <;> (apply Fin.ext; blk_simp [idx4 t]) <;> simp

/-- The gradient of `x`. -/
abbrev res9 (c : Dev nD) : FVec Ideal S10x128 .bf16 :=
  truncf .bf16 (shapeCast S10x128 (transpose S10x64x2 [1, 2, 0] (shapeCast S2x10x64 (arr3 m c) shapeCasts_S2x10x64x1_S2x10x64) transposes_S2x10x64_S10x64x2_1_2_0)
    shapeCasts_S10x64x2_S10x128 : FVec Ideal S10x128 .f32) bitsLt_bf16_f32
/-- The gradient of the codebooks. -/
abbrev res10 (c : Dev nD) : Vec Ideal S64x256x2 .f32 := transpose S64x256x2 [1, 2, 0] (arr4 m c) transposes_S2x64x256_S64x256x2_1_2_0

theorem tail9 (c : Dev nD) : Pipeline.afterTail₀ cfgs (dats m) 0 (V0 m) [hostOps1] c main_v9 = res9 m c := by
  have h : Pipeline.withArrays spec0 c (V0 m c) (fun w => (dats m 0 c).arrAt w cfg0.N) main_v5_0 = arr3 m c :=
    (Pipeline.withArrays_arr spec0 (by decide) c _ _ 3).trans (final3 m c)
  unfold Pipeline.afterTail₀
  simp only [hostOps1, List.flatten_cons, List.flatten_nil, List.append_nil]
  after_results
  unfold res9; rw [← h]; rfl
theorem tail10 (c : Dev nD) : Pipeline.afterTail₀ cfgs (dats m) 0 (V0 m) [hostOps1] c main_v10 = res10 m c := by
  have h : Pipeline.withArrays spec0 c (V0 m c) (fun w => (dats m 0 c).arrAt w cfg0.N) main_v5_1 = arr4 m c :=
    (Pipeline.withArrays_arr spec0 (by decide) c _ _ 4).trans (final4 m c)
  unfold Pipeline.afterTail₀
  simp only [hostOps1, List.flatten_cons, List.flatten_nil, List.append_nil]
  after_results
  unfold res10; rw [← h]

/-- The run, read: both results, the arguments unchanged. -/
theorem run : θ_run defs (onTc (τ := τ) (main (F := Ideal))) ⟨m, fun _ => 0, ρ⟩ fun r => ∀ c : Dev nD,
      r.2.mem ((c.tc : Thread nD τ).loc main_v9) = res9 m c
      ∧ r.2.mem ((c.tc : Thread nD τ).loc main_v10) = res10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v9 (Pipeline.mem_restRefs_of main_v9 (by decide) (by decide))).trans (tail9 m c),
    ((h.1 c).2 main_v10 (Pipeline.mem_restRefs_of main_v10 (by decide) (by decide))).trans (tail10 m c), h.2 c⟩)
    (θ_run_and (run_main m ρ) (unchanged m ρ))

end Cert.GradsIdeal.Block
-- ==== Proof.GradsEq.lean ====
/-
  The gradients' call and the plain formulas of the gradients leave the same results over the extended reals.
-/
module

public import proofs.«01_k».proof.Defs
public import proofs.«01_k».proof.Proof.GradsValue
public import proofs.«01_k».proof.Proof.Gen.GradsRefIdeal
public import proofs.«01_k».proof.Proof.Gen.GradsRefIdeal.Run

@[expose] public section

set_option maxRecDepth 16384

noncomputable section

open Idealize.ShloMosaic Idealize.ShloMosaic.TcCoe Idealize.SL.Sem Idealize.ShloMosaic.StableHlo

namespace Cert.Proof.GradsEq

/-- Both programs compute the same function of the histogram, the codebooks and `x`. -/
theorem algebraic : Cert.algebraic_GradsIdeal_GradsRefIdeal := by
  intro m g m' g' _ hag
  refine ⟨fun c => Cert.GradsIdeal.Block.res9 m c, fun c => Cert.GradsIdeal.Block.res10 m c, Cert.GradsIdeal.Block.run m g, ?_⟩
  refine (θ_run Cert.GradsRefIdeal.defs _ _).mono (fun r h c => ?_) (Cert.GradsRefIdeal.Value.run m' g')
  obtain ⟨h13, h20, hargs⟩ := h c
  obtain ⟨e0, e1, e2⟩ := hag c
  refine ⟨h13.trans ?_, h20.trans ?_, hargs⟩
  · rw [e0, e1, e2]
    unfold Cert.GradsIdeal.Block.res9
    funext i
    pointwise [Cert.GradsIdeal.Block.arr3, Cert.GradsIdeal.Block.gx, Cert.GradsIdeal.Block.cbOf, Cert.GradsIdeal.Block.xOf]
    refine congrArg _ (congrArg _ (Finset.sum_congr rfl fun k _ => mul_comm _ _))
  · rw [e0, e1, e2]
    unfold Cert.GradsIdeal.Block.res10
    funext i
    pointwise [Cert.GradsIdeal.Block.arr4, Cert.GradsIdeal.Block.gc, Cert.GradsIdeal.Block.cbOf, Cert.GradsIdeal.Block.xOf]

end Cert.Proof.GradsEq
-- ==== Proof.HistProg.lean ====
/-
  The histogram kernel's program in short: one definition for each step that the printed text repeats, and the
  printed parts as those definitions put in sequence.
-/
module

public import proofs.«01_k».proof.Proof.Gen.HistIdeal
public import Idealize.ShloMosaic.Lib.Tactic

@[expose] public section

noncomputable section

namespace Cert.Proof.HistIdeal

open Cert.HistIdeal Cert.HistIdeal.Gen
open Idealize.ShloMosaic Idealize.SL.Sem

variable {F : FTy → Type} [FloatOps F]

/-- The effects of the tile at grid coordinates `i`. -/
abbrev PT (F : FTy → Type) [FloatOps F] (i : grid0.Coords) : Type → Type _ :=
  TpuEff nD τ sig (Elt F) Λ₀ (.scVector ((i 0).castLE hcore0) ((i 1).castLE hsub0))

/-- The lane numbers. -/
abbrev lanes : IVec S16 32 := iota .scVector S16 32 [0] iota_S16_d0_w32_scVector

/-- One gather of the final sum: lane `k` adds the scratch's word at `16 (v + k) + (k + l mod 16)`. -/
def gAcc (i : grid0.Coords) (B : Memref sig .scVector .vmem S4096 .f32) (ln : IVec S16 32) (v l : BitVec 32) (acc : FVec F S16 .f32) :
    Prog (PT F i) (FVec F S16 .f32) := do
  have ix : IVec S16 32 := addi (muli (addi (broadcast S16 v) ln) (broadcast S16 16#32)) (andi (addi ln (broadcast S16 l)) (broadcast S16 15#32))
  have hw : k0_chk9 ix := (← Prog.lift (TpuEff.assume (k0_chk9 ix) (k0_chk9.dec ix))).down
  let x : Vec F S16 .f32 ← SparseCore.vectorLoadIdx B ![ix] (k0_idx41_inb ix hw) (View.loads_vmem h_S4096)
  pure (addf acc x)

/-- The sum of sixteen centroids' sixteen lanes, one rotation of the lanes at a time. -/
def gSum (i : grid0.Coords) (B : Memref sig .scVector .vmem S4096 .f32) (ln : IVec S16 32) (v : BitVec 32) : Prog (PT F i) (FVec F S16 .f32) := do
  let a ← gAcc i B ln v 0#32 (broadcast S16 (Scalar.ofBits .f32 0x00000000#32))
  let a ← gAcc i B ln v 1#32 a
  let a ← gAcc i B ln v 2#32 a
  let a ← gAcc i B ln v 3#32 a
  let a ← gAcc i B ln v 4#32 a
  let a ← gAcc i B ln v 5#32 a
  let a ← gAcc i B ln v 6#32 a
  let a ← gAcc i B ln v 7#32 a
  let a ← gAcc i B ln v 8#32 a
  let a ← gAcc i B ln v 9#32 a
  let a ← gAcc i B ln v 10#32 a
  let a ← gAcc i B ln v 11#32 a
  let a ← gAcc i B ln v 12#32 a
  let a ← gAcc i B ln v 13#32 a
  let a ← gAcc i B ln v 14#32 a
  gAcc i B ln v 15#32 a

/-- One trip of a final loop: sixteen centroids' sums into sixteen words of the output row. -/
def redTrip (i : grid0.Coords) (B : Memref sig .scVector .vmem S4096 .f32) (O : Memref sig .scVector .vmem S256 .f32) (ln : IVec S16 32)
    (k : Fin k0_t5_loop.trips) : Prog (PT F i) PUnit := do
  let a ← gSum i B ln (Scalar.addi 0#32 (Scalar.muli (Scf.iv 0#32 1#32 k) 16#32))
  let _ ← Prog.lift (.load O (Rect.unit (s := S256) (k0_off14 k) S16.size (k0_off14_inb k)).toLoadRect (View.loadsAt_vmem h_S16))
  Prog.lift (.store O (Rect.unit (s := S256) (k0_off14 k) S16.size (k0_off14_inb k)) a Finset.univ (View.stores_vmem_bits_univ h_S16 rfl) (.inl rfl))
  pure ⟨⟩

/-- A final loop: the 256 centroids of one row. -/
def redLoop (i : grid0.Coords) (B : Memref sig .scVector .vmem S4096 .f32) (O : Memref sig .scVector .vmem S256 .f32) (ln : IVec S16 32) : Prog (PT F i) PUnit :=
  Scf.Loop.for k0_t5_loop k0_t5_ok ⟨⟩ fun k _ => redTrip i B O ln k

/-- The row quadruple that the tile at grid coordinates `i` works on, as the kernel computes it. -/
def quad (i : grid0.Coords) : BitVec 32 :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  v18

/-- The half of the batch that the tile at grid coordinates `i` works on, as the kernel computes it. -/
def half (i : grid0.Coords) : BitVec 32 :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  v28

theorem cD_inb (s : Fin 2) : ∀ a, (![4096 * s.val] : Fin 1 → Nat) a + S4096.size a ≤ S8192.size a := by
  intro a; fin_cases s <;> fin_cases a <;> decide

theorem gD_inb (s : Fin 2) (p : Fin 3) : ∀ a, (![12288 * s.val + 4096 * p.val] : Fin 1 → Nat) a + S4096.size a ≤ S24576.size a := by
  intro a; fin_cases s <;> fin_cases p <;> fin_cases a <;> decide

theorem sem_inb (s : Fin 2) : ∀ a, (![s.val] : Fin 1 → Nat) a + S1.size a ≤ S2.size a := by
  intro a; fin_cases s <;> fin_cases a <;> decide

theorem hB_inb (j : Fin 20) : ∀ a, (![4096 * j.val] : Fin 1 → Nat) a + S4096.size a ≤ S81920.size a := by
  intro a; fin_cases j <;> fin_cases a <;> decide

/-- Slot `s` of the scratch that receives code words. -/
def cD (s : Fin 2) : Memref sig .scVector .vmem S4096 .i32 :=
  (Memref.whole cc0_scratch0).slice (Rect.unit (s := S8192) ![4096 * s.val] S4096.size (cD_inb s)) (fun _ => rfl)

/-- Row `p` of slot `s` of the scratch that receives gradient words. -/
def gD (s : Fin 2) (p : Fin 3) : Memref sig .scVector .vmem S4096 .i32 :=
  (Memref.whole cc0_scratch1).slice (Rect.unit (s := S24576) ![12288 * s.val + 4096 * p.val] S4096.size (gD_inb s p)) (fun _ => rfl)

/-- Block `j` of the histogram scratch: the batch row `j mod 5` at the subspace `j div 5` of the tile's. -/
def hB (j : Fin 20) : Memref sig .scVector .vmem S4096 .f32 :=
  (Memref.whole cc0_scratch2).slice (Rect.unit (s := S81920) ![4096 * j.val] S4096.size (hB_inb j)) (fun _ => rfl)

/-- The semaphore of slot `s` for code words. -/
def cSem (s : Fin 2) : DmaSems sig S_ := (cc0_scratch4.slice (Rect.unit (s := S2) ![s.val] S1.size (sem_inb s))).squeeze S_ squeezes_S1_S_

/-- The semaphore of slot `s` for gradient words. -/
def gSem (s : Fin 2) : DmaSems sig S_ := (cc0_scratch5.slice (Rect.unit (s := S2) ![s.val] S1.size (sem_inb s))).squeeze S_ squeezes_S1_S_

/-- 4096 code words from the offsets `o`. -/
def cS (o : Fin 2 → Nat) (h : ∀ a, o a + S1x4096.size a ≤ S16x2097152.size a) : Memref sig .scVector .hbm S4096 .i32 :=
  ((Memref.whole main_v3_scv).slice (Rect.unit (s := S16x2097152) o S1x4096.size h) (fun _ => rfl)).squeeze S4096 squeezes_S1x4096_S4096

/-- 4096 gradient words from the offsets `o`. -/
def gS (o : Fin 2 → Nat) (h : ∀ a, o a + S1x4096.size a ≤ S5x2097152.size a) : Memref sig .scVector .hbm S4096 .i32 :=
  ((Memref.whole main_v6_scv).slice (Rect.unit (s := S5x2097152) o S1x4096.size h) (fun _ => rfl)).squeeze S4096 squeezes_S1x4096_S4096

/-- The start of one copy of code words. -/
def enqC (i : grid0.Coords) (s : Fin 2) (o : Fin 2 → Nat) (h : ∀ a, o a + S1x4096.size a ≤ S16x2097152.size a) : Prog (PT F i) PUnit :=
  Prog.lift (.enqueueDma (cS o h) (.here (cD s)) (.dma (cSem s).sem) ((View.wordExact_bits rfl).reshape _ _) (View.wordExact_bits rfl) ⟨Or.inl rfl, trivial⟩)

/-- The start of one copy of gradient words. -/
def enqG (i : grid0.Coords) (s : Fin 2) (p : Fin 3) (o : Fin 2 → Nat) (h : ∀ a, o a + S1x4096.size a ≤ S5x2097152.size a) : Prog (PT F i) PUnit :=
  Prog.lift (.enqueueDma (gS o h) (.here (gD s p)) (.dma (gSem s).sem) ((View.wordExact_bits rfl).reshape _ _) (View.wordExact_bits rfl) ⟨Or.inl rfl, trivial⟩)

/-- The wait for one copy of code words. -/
def waitC (i : grid0.Coords) (s : Fin 2) (o : Fin 2 → Nat) (h : ∀ a, o a + S1x4096.size a ≤ S16x2097152.size a) : Prog (PT F i) PUnit :=
  Prog.lift (.waitDma2 (cSem s).sem (cS o h) (cD s) ((View.wordExact_bits rfl).reshape _ _) (View.wordExact_bits rfl))

/-- The wait for one copy of gradient words. -/
def waitG (i : grid0.Coords) (s : Fin 2) (p : Fin 3) (o : Fin 2 → Nat) (h : ∀ a, o a + S1x4096.size a ≤ S5x2097152.size a) : Prog (PT F i) PUnit :=
  Prog.lift (.waitDma2 (gSem s).sem (gS o h) (gD s p) ((View.wordExact_bits rfl).reshape _ _) (View.wordExact_bits rfl))

/-- The start of a chunk's four copies into slot `s`. -/
def issue (i : grid0.Coords) (s : Fin 2) (o : Fin 2 → Nat) (h : ∀ a, o a + S1x4096.size a ≤ S16x2097152.size a)
    (q : Fin 3 → Fin 2 → Nat) (hq : ∀ p a, q p a + S1x4096.size a ≤ S5x2097152.size a) : Prog (PT F i) PUnit := do
  enqC i s o h
  enqG i s 0 (q 0) (hq 0)
  enqG i s 1 (q 1) (hq 1)
  enqG i s 2 (q 2) (hq 2)

/-- The wait for a chunk's four copies into slot `s`. -/
def drain (i : grid0.Coords) (s : Fin 2) (o : Fin 2 → Nat) (h : ∀ a, o a + S1x4096.size a ≤ S16x2097152.size a)
    (q : Fin 3 → Fin 2 → Nat) (hq : ∀ p a, q p a + S1x4096.size a ≤ S5x2097152.size a) : Prog (PT F i) PUnit := do
  waitC i s o h
  waitG i s 0 (q 0) (hq 0)
  waitG i s 1 (q 1) (hq 1)
  waitG i s 2 (q 2) (hq 2)

/-- The start of the scratch loop: sixteen words of the histogram scratch set to zero. -/
def zeroTrip (i : grid0.Coords) (k : Fin k0_t1_loop.trips) : Prog (PT F i) PUnit := do
  let _ ← Prog.lift (.load (Memref.whole cc0_scratch2) (Rect.unit (s := S81920) (k0_off1 k) S16.size (k0_off1_inb k)).toLoadRect (View.loadsAt_vmem h_S16))
  Prog.lift (.store (Memref.whole cc0_scratch2) (Rect.unit (s := S81920) (k0_off1 k) S16.size (k0_off1_inb k)) (broadcast S16 (Scalar.ofBits (F := F) .f32 0x00000000#32)) Finset.univ
    (View.stores_vmem_bits_univ h_S16 rfl) (.inl rfl))
  pure ⟨⟩

/-- The loop that clears the histogram scratch. -/
def zeroLoop (i : grid0.Coords) : Prog (PT F i) PUnit :=
  Scf.Loop.for k0_t1_loop k0_t1_ok ⟨⟩ fun k _ => zeroTrip i k

/-- The scratch index of sixteen codes `x` (times sixteen, in bits 4 to 11): the code's sixteen words, each lane its own. -/
def cIdx (x ln : IVec S16 32) : IVec S16 32 := ori (andi x (broadcast S16 4080#32)) ln

/-- The low and the high half of sixteen words, each read as the upper half of a 32-bit float. -/
def loF (w : IVec S16 32) : FVec F S16 .f32 := bitcastToFloat .f32 (shli w (broadcast S16 16#32))
@[inherit_doc loF] def hiF (w : IVec S16 32) : FVec F S16 .f32 := bitcastToFloat .f32 (andi w (broadcast S16 4294901760#32))

/-- The five batch rows' sixteen gradients out of three words each, by the half of the batch. -/
def gVals (v28 : BitVec 32) (w0 w1 w2 : IVec S16 32) : Fin 5 → FVec F S16 .f32 :=
  ![Scalar.select (Scalar.cmpi .eq v28 0#32) (loF w0) (hiF w0), Scalar.select (Scalar.cmpi .eq v28 0#32) (hiF w0) (loF w1),
    Scalar.select (Scalar.cmpi .eq v28 0#32) (loF w1) (hiF w1), Scalar.select (Scalar.cmpi .eq v28 0#32) (hiF w1) (loF w2),
    Scalar.select (Scalar.cmpi .eq v28 0#32) (loF w2) (hiF w2)]

/-- The addition of sixteen values into block `j` at the indices `ix`. -/
def scSt (i : grid0.Coords) (j : Fin 20) (ix : IVec S16 32) (hw : k0_chk1 ix) (x : FVec F S16 .f32) : Prog (PT F i) PUnit :=
  SparseCore.vectorStoreIdx (hB j) ![ix] x (fun _ => 1#1) true (k0_idx1_inb ix hw) (View.stores_vmem_bits_univ h_S4096 rfl)

/-- The addition of the five batch rows' values into the blocks of subspace `m`. -/
def scM (i : grid0.Coords) (m : Fin 4) (ix : IVec S16 32) (g : Fin 5 → FVec F S16 .f32) : Prog (PT F i) PUnit := do
  have hw : k0_chk1 ix := (← Prog.lift (TpuEff.assume (k0_chk1 ix) (k0_chk1.dec ix))).down
  scSt i ⟨5 * m.val + 0, by omega⟩ ix hw (g 0)
  scSt i ⟨5 * m.val + 1, by omega⟩ ix hw (g 1)
  scSt i ⟨5 * m.val + 2, by omega⟩ ix hw (g 2)
  scSt i ⟨5 * m.val + 3, by omega⟩ ix hw (g 3)
  scSt i ⟨5 * m.val + 4, by omega⟩ ix hw (g 4)

/-- One trip of a chunk's loop: sixteen code words and the gradients that go with them, from the offsets `o` and `q`. -/
def scTrip (i : grid0.Coords) (v28 : BitVec 32) (ln : IVec S16 32) (o : Fin 1 → Nat) (h : ∀ a, o a + S16.size a ≤ S8192.size a)
    (q : Fin 3 → Fin 1 → Nat) (hq : ∀ p a, q p a + S16.size a ≤ S24576.size a) : Prog (PT F i) PUnit := do
  let c : Vec F S16 .i32 ← Prog.lift (.load (Memref.whole cc0_scratch0) (Rect.unit (s := S8192) o S16.size h).toLoadRect (View.loadsAt_vmem h_S16))
  let w0 : Vec F S16 .i32 ← Prog.lift (.load (Memref.whole cc0_scratch1) (Rect.unit (s := S24576) (q 0) S16.size (hq 0)).toLoadRect (View.loadsAt_vmem h_S16))
  let w1 : Vec F S16 .i32 ← Prog.lift (.load (Memref.whole cc0_scratch1) (Rect.unit (s := S24576) (q 1) S16.size (hq 1)).toLoadRect (View.loadsAt_vmem h_S16))
  let w2 : Vec F S16 .i32 ← Prog.lift (.load (Memref.whole cc0_scratch1) (Rect.unit (s := S24576) (q 2) S16.size (hq 2)).toLoadRect (View.loadsAt_vmem h_S16))
  scM i 0 (cIdx (shli c (broadcast S16 4#32)) ln) (gVals v28 w0 w1 w2)
  scM i 1 (cIdx (shrui c (broadcast S16 4#32)) ln) (gVals v28 w0 w1 w2)
  scM i 2 (cIdx (shrui c (broadcast S16 12#32)) ln) (gVals v28 w0 w1 w2)
  scM i 3 (cIdx (shrui c (broadcast S16 20#32)) ln) (gVals v28 w0 w1 w2)

/-- The loop over a chunk in slot 0, and in slot 1. -/
def scLoop0 (i : grid0.Coords) (v28 : BitVec 32) (ln : IVec S16 32) : Prog (PT F i) PUnit :=
  Scf.Loop.for k0_t3_loop k0_t3_ok ⟨⟩ fun k _ =>
    scTrip i v28 ln (k0_off8 k) (k0_off8_inb k) (fun p => k0_off9 k (BitVec.ofNat 32 (4096 * p.val))) (fun p => k0_off9_inb k p)
@[inherit_doc scLoop0] def scLoop1 (i : grid0.Coords) (v28 : BitVec 32) (ln : IVec S16 32) : Prog (PT F i) PUnit :=
  Scf.Loop.for k0_t4_loop k0_t4_ok ⟨⟩ fun k _ =>
    scTrip i v28 ln (k0_off12 k) (k0_off12_inb k) (fun p => k0_off13 k (BitVec.ofNat 32 (12288 + 4096 * p.val))) (fun p => k0_off13_inb k p)

/-- The two chunks of one trip of the main loop. -/
def chunkTrip (i : grid0.Coords) (v28 : BitVec 32) (ln : IVec S16 32) (t : Fin k0_t2_loop.trips) : Prog (PT F i) PUnit := do
  issue i 1 (k0_off4 i t) (k0_off4_inb i t) (fun p => k0_off5 i t (BitVec.ofNat 32 p.val)) (fun p => k0_off5_inb i t p)
  drain i 0 (k0_off6 i t) (k0_off6_inb i t) (fun p => k0_off7 i t (BitVec.ofNat 32 p.val)) (fun p => k0_off7_inb i t p)
  scLoop0 i v28 ln
  if h : k0_cond1 t = 1#1 then
    issue i 0 (k0_off10 i t) (k0_off10_inb i t h) (fun p => k0_off11 i t (BitVec.ofNat 32 p.val)) (fun p => k0_off11_inb i t h p)
  else
    pure ⟨⟩
  drain i 1 (k0_off4 i t) (k0_off4_inb i t) (fun p => k0_off5 i t (BitVec.ofNat 32 p.val)) (fun p => k0_off5_inb i t p)
  scLoop1 i v28 ln

/-- The main loop. -/
def chunkLoop (i : grid0.Coords) (v28 : BitVec 32) (ln : IVec S16 32) : Prog (PT F i) PUnit :=
  Scf.Loop.for k0_t2_loop k0_t2_ok ⟨⟩ fun t _ => chunkTrip i v28 ln t

/-- The semaphores of the twenty copies out. -/
def oSem : Fin 20 → DmaSems sig S_ :=
  ![cc0_scoped0, cc0_scoped1, cc0_scoped2, cc0_scoped3, cc0_scoped4, cc0_scoped5, cc0_scoped6, cc0_scoped7, cc0_scoped8, cc0_scoped9, cc0_scoped10, cc0_scoped11, cc0_scoped12, cc0_scoped13, cc0_scoped14, cc0_scoped15, cc0_scoped16, cc0_scoped17, cc0_scoped18, cc0_scoped19]

/-- The row of the result that block `j` goes to. -/
def oRow (i : grid0.Coords) (j : Fin 20) : Memref sig .scVector .hbm S256 .f32 :=
  ((Memref.whole main_v7_scv).slice (Rect.unit (s := S10x64x256) (k0_off15 i (BitVec.ofNat 32 (⟨j.val % 5, Nat.mod_lt _ (by decide)⟩ : Fin 5).val) (BitVec.ofNat 32 (⟨j.val / 5, by omega⟩ : Fin 4).val)) S1x1x256.size
    (k0_off15_inb i ⟨j.val % 5, Nat.mod_lt _ (by decide)⟩ ⟨j.val / 5, by omega⟩)) (fun _ => rfl)).squeeze S256 squeezes_S1x1x256_S256

/-- The start of the copy out of row `j`, and the wait for it. -/
def enqO (i : grid0.Coords) (j : Fin 20) : Prog (PT F i) PUnit :=
  Prog.lift (.enqueueDma (Memref.whole cc0_scratch3) (.here (oRow i j)) (.dma (oSem j).sem) (Memref.isWhole_whole cc0_scratch3).wordExact ((View.wordExact_bits rfl).reshape _ _) ⟨Or.inl rfl, trivial⟩)
@[inherit_doc enqO] def waitO (i : grid0.Coords) (j : Fin 20) : Prog (PT F i) PUnit :=
  Prog.lift (.waitDma2 (oSem j).sem (Memref.whole cc0_scratch3) (oRow i j) (Memref.isWhole_whole cc0_scratch3).wordExact ((View.wordExact_bits rfl).reshape _ _))

/-- Row `j` of the result: summed, copied out and waited for. -/
def outRow (i : grid0.Coords) (ln : IVec S16 32) (j : Fin 20) : Prog (PT F i) PUnit := do
  redLoop i (hB j) (Memref.whole cc0_scratch3) ln
  enqO i j
  waitO i j

/-- The last `n` rows of the result. -/
def outRows (i : grid0.Coords) (ln : IVec S16 32) : Nat → Prog (PT F i) PUnit
  | 0 => pure ⟨⟩
  | n + 1 => do
    outRow i ln (Fin.ofNat 20 (19 - n))
    outRows i ln n

/-- The whole tile. -/
def tile (i : grid0.Coords) : Prog (PT F i) PUnit := do
  zeroLoop i
  issue i 0 (k0_off2 i) (k0_off2_inb i) (fun p => k0_off3 i (BitVec.ofNat 32 p.val)) (fun p => k0_off3_inb i p)
  chunkLoop i (half i) lanes
  outRows i lanes 20

end Cert.Proof.HistIdeal
-- ==== Proof.HistBase.lean ====
/-
  The histogram kernel's copies: what a tile holds of a slot of its scratch when nothing is in flight, when the copies into it
  are in flight, and when they have landed.
-/
module

public import proofs.«01_k».proof.Proof.HistProg
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Ring
public import Idealize.ShloMosaic.Lib.Tactic

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

abbrev UH : Type := URounds (GSem nD τ sig) ℕ
abbrev UU : Type := UH × Counters

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0
/-- The thread of the tile at grid coordinates `L` of device `d`. -/
abbrev thr (d : Dev nD) (L : grid0.Coords) : Thread nD τ := V d (cV L) (jV L)

/-- The transfers' counters in the resource algebra. -/
abbrev EC : UEmb Counters (MT nD τ sig (HIx 1) (Elt F) ℕ UU ℕ) := countersEmb (U := UU)

variable [FloatOps F]

/-- A tile's program establishes a postcondition. -/
abbrev WP (d : Dev nD) (L : grid0.Coords) (p : Prog (PT F L) PUnit) (Q : PUnit → sProp 𝕄) : sProp 𝕄 :=
  wp frame (wpE (defs₀ (F := F)) 𝒱₀ (thr d L) none) Set.univ p Q

/-- Two programs in sequence. -/
theorem wp_seq {d : Dev nD} {L : grid0.Coords} {p : Prog (PT F L) PUnit} {k : PUnit → Prog (PT F L) PUnit} {A B : sProp 𝕄} {Q : PUnit → sProp 𝕄}
    (h : A ⊢ WP d L p fun _ => B) : A ⊢ iprop((B -∗ WP d L (k ⟨⟩) Q) -∗ WP d L (p >>= k) Q) := by
  unfold WP at *
  rw [wp_bind]
  iintro HA HK
  iapply (wp_wand_r frame (wpE (defs₀ (F := F)) 𝒱₀ (thr d L) none) Set.univ)
  isplitl [HA]
  · iapply h; iexact HA
  · iintro %_ HB
    iapply HK; iexact HB

/-- What the tile owes, whatever it has waited for, and its leave to wait. -/
def OW (d : Dev nD) (L : grid0.Coords) (O : CellTallies nD τ sig (HIx 1)) : sProp 𝕄 :=
  iprop(MayWaits (thr d L) (default : HIx 1) O ∗ ∃ W, owes (thr d L) O W)

section Copies

variable (d : Dev nD) (L : grid0.Coords)

/-- What a copy from `src` to `dst` delivers: the destination at what the source reads, and the source's share back. -/
def dlv {sp sp' : Space} {s : Shape} {e : EltTy} (src : Memref sig .scVector sp s e) (dst : Memref sig .scVector sp' s e) (q : PosShare TreeShare)
    (fs : Buf (Elt F) (src.view.loc (thr d L))) : sProp 𝕄 :=
  iprop(∃ f : Buf (Elt F) (dst.view.loc (thr d L)), ⌜dst.view.read (Elt F) f = src.view.read (Elt F) fs⌝
    ∗ (dst.view.loc (thr d L) ↦[dst.view.set]{fullShare} f) ∗ (src.view.loc (thr d L) ↦[src.view.set]{q} fs))

instance dlv_storable {sp sp' : Space} {s : Shape} {e : EltTy} (src : Memref sig .scVector sp s e) (dst : Memref sig .scVector sp' s e) (q : PosShare TreeShare)
    (fs : Buf (Elt F) (src.view.loc (thr d L))) : BI.Storable (upEmb : UEmb _ 𝕄) (dlv d L src dst q fs) := by
  unfold dlv; infer_instance

theorem dlv_intro {sp sp' : Space} {s : Shape} {e : EltTy} (src : Memref sig .scVector sp s e) (dst : Memref sig .scVector sp' s e) (q : PosShare TreeShare)
    (fs : Buf (Elt F) (src.view.loc (thr d L))) (fd : Buf (Elt F) (dst.view.loc (thr d L))) :
    iprop((dst.view.loc (thr d L) ↦[dst.view.set]{fullShare} (dst.view.write (Elt F) fd (ReadAs.same.apply (src.view.read (Elt F) fs)) Finset.univ))
        ∗ (src.view.loc (thr d L) ↦[src.view.set]{q} fs)) ⊢ (dlv d L src dst q fs : sProp 𝕄) := by
  unfold dlv
  iintro ⟨Hd, Hs⟩
  iexists _
  isplitr
  swap
  · isplitl [Hd] <;> iassumption
  · ipureintro
    exact View.read_write_univ _ _

/-- The credit of a copy into code slot `s`. -/
theorem amount_cD (s : Fin 2) : (cD s).view.amount (.dma (cSem s).sem) = (cD 0).view.dmaCredit := rfl
theorem amount_gD (s : Fin 2) (p : Fin 3) : (gD s p).view.amount (.dma (gSem s).sem) = (gD 0 0).view.dmaCredit := rfl
theorem credit_pos_c : 0 < (cD 0).view.dmaCredit := by decide
theorem credit_pos_g : 0 < (gD 0 0).view.dmaCredit := by decide

/-- The code words and the gradient words in the device's memory, as the tile addresses them. -/
abbrev cLoc : Loc nD τ sig := (thr d L).loc main_v3_scv
abbrev gLoc : Loc nD τ sig := (thr d L).loc main_v6_scv

variable (fC : Buf (Elt F) (cLoc d L)) (fG : Buf (Elt F) (gLoc d L)) (q : PosShare TreeShare) (qg : Fin 3 → PosShare TreeShare) (s : Fin 2)

/-- The code slot at the contents `w`; the gradient row at the contents `w`. -/
def cAt (w : Vec F S4096 .i32) : sProp 𝕄 :=
  iprop(∃ f : Buf (Elt F) ((cD s).view.loc (thr d L)), ⌜(cD s).view.read (Elt F) f = w⌝ ∗ ((cD s).view.loc (thr d L) ↦[(cD s).view.set]{fullShare} f))
@[inherit_doc cAt] def gAt (p : Fin 3) (w : Vec F S4096 .i32) : sProp 𝕄 :=
  iprop(∃ f : Buf (Elt F) ((gD s p).view.loc (thr d L)), ⌜(gD s p).view.read (Elt F) f = w⌝ ∗ ((gD s p).view.loc (thr d L) ↦[(gD s p).view.set]{fullShare} f))

/-- A code slot with nothing in flight, at the contents `w`. -/
def CLand (w : Vec F S4096 .i32) : sProp 𝕄 :=
  iprop(cAt d L s w ∗ (cLoc d L ↦{q} fC) ∗ semVal (thr d L, .dma (cSem s).sem) 0)

/-- A code slot with the copy from the offsets `o` in flight. -/
def CFly (o : Fin 2 → Nat) (h : ∀ a, o a + S1x4096.size a ≤ S16x2097152.size a) : sProp 𝕄 :=
  iprop(Batch (EC (F := F)) (thr d L) (.dma (cSem s).sem) (default : HIx 1) (cD 0).view.dmaCredit (fun _ : Fin 1 => dlv d L (cS o h) (cD s) q fC) 1 0
    ∗ (cLoc d L ↦[Finset.univ \ (cS o h).view.set]{q} fC))

/-- A gradient slot's three rows with nothing in flight, at the contents `w`. -/
def GLand (w : Fin 3 → Vec F S4096 .i32) : sProp 𝕄 :=
  iprop((gAt d L s 0 (w 0) ∗ gAt d L s 1 (w 1) ∗ gAt d L s 2 (w 2))
    ∗ ((gLoc d L ↦{qg 0} fG) ∗ (gLoc d L ↦{qg 1} fG) ∗ (gLoc d L ↦{qg 2} fG)) ∗ semVal (thr d L, .dma (gSem s).sem) 0)

/-- A gradient slot with the three copies from the offsets `o` in flight. -/
def GFly (o : Fin 3 → Fin 2 → Nat) (h : ∀ p a, o p a + S1x4096.size a ≤ S5x2097152.size a) : sProp 𝕄 :=
  iprop(Batch (EC (F := F)) (thr d L) (.dma (gSem s).sem) (default : HIx 1) (gD 0 0).view.dmaCredit
      (fun p : Fin 3 => dlv d L (gS (o p) (h p)) (gD s p) (qg p) fG) 3 0
    ∗ (gLoc d L ↦[Finset.univ \ (gS (o 0) (h 0)).view.set]{qg 0} fG) ∗ (gLoc d L ↦[Finset.univ \ (gS (o 1) (h 1)).view.set]{qg 1} fG)
    ∗ (gLoc d L ↦[Finset.univ \ (gS (o 2) (h 2)).view.set]{qg 2} fG))

/-- The delivery of the code slot's copy. -/
abbrev cDlv (o : Fin 2 → Nat) (h : ∀ a, o a + S1x4096.size a ≤ S16x2097152.size a) (_ : Fin 1) : sProp 𝕄 := dlv d L (cS o h) (cD s) q fC

theorem enqC_spec (w : Vec F S4096 .i32) (o : Fin 2 → Nat) (h : ∀ a, o a + S1x4096.size a ≤ S16x2097152.size a) :
    CLand d L fC q s w ⊢ WP d L (enqC L s o h) fun _ => CFly d L fC q s o h := by
  unfold CLand CFly cAt WP enqC
  haveI : ∀ t : Fin 1, BI.Storable (upEmb : UEmb _ 𝕄) (cDlv d L fC q s o h t) := fun _ => dlv_storable d L (cS o h) (cD s) q fC
  iintro ⟨⟨%f, -, Hd⟩, Hs, Hv⟩
  imod (batch_alloc' (EC (F := F)) (thr d L) (default : HIx 1) (cD 0).view.dmaCredit (cDlv d L fC q s o h) (sm := .dma (cSem s).sem) (E := Set.univ)) $$ Hv with HB
  ihave Hs' := (pointsTo_split_subset (Finset.subset_univ (cS o h).view.set)).1 $$ Hs
  icases Hs' with ⟨Hs, Hr⟩
  iapply (wp_dmaBatch (EC (F := F)) 𝒱₀ (thr d L) none (src := cS o h) (dst := cD s) (sm := .dma (cSem s).sem) (fs := fC) (q := q) (via := ReadAs.same) (D := cDlv d L fC q s o h) (j := 0)
    (default : HIx 1) (cD 0).view.dmaCredit (amount_cD s) (Finset.Subset.refl _) Nat.one_pos (Nat.zero_le _) (dlv_intro d L (cS o h) (cD s) q fC f)) $$ [Hs Hd HB]
  · isplitl [Hs]; · iexact Hs
    isplitl [Hd]; · iexact Hd
    iexact HB
  iintro HB
  rw [wp_ret]
  imodintro
  isplitl [HB]; · iexact HB
  iexact Hr

theorem waitC_spec (O : CellTallies nD τ sig (HIx 1)) (o : Fin 2 → Nat) (h : ∀ a, o a + S1x4096.size a ≤ S16x2097152.size a)
    (o' : Fin 2 → Nat) (h' : ∀ a, o' a + S1x4096.size a ≤ S16x2097152.size a) :
    iprop(CFly d L fC q s o h ∗ OW d L O) ⊢ WP d L (waitC L s o' h') fun _ =>
      iprop(CLand d L fC q s ((cS o h).view.read (Elt F) fC) ∗ OW d L O) := by
  unfold CLand CFly cAt WP waitC OW
  iintro ⟨⟨HB, Hr⟩, #Hmw, ⟨%W, HO⟩⟩
  ihave Hm := (MayWaits.elim (SemLoc.dma (cSem s).sem)) $$ Hmw
  iapply (wp_waitBatchLastO (EC (F := F)) 𝒱₀ (thr d L) none (srcw := cS o' h') (dstw := cD s) (default : HIx 1) (N := (cD 0).view.dmaCredit) rfl credit_pos_c
    (n := 1) (D := cDlv d L fC q s o h) (u := 0) (by omega)) $$ [HB HO Hm]
  · isplitl [HB]; · iexact HB
    isplitl [HO]; · iexact HO
    iexact Hm
  iintro ⟨HD, Hv, HO⟩
  rw [wp_ret]
  imodintro
  ihave HD' := (Entails.of_eq (bigSep_univ_of_subsingleton (0 : Fin 1))) $$ HD
  unfold cDlv dlv
  icases HD' with ⟨%f, %hf, Hd, Hs⟩
  isplitr [HO]
  · isplitl [Hd]
    · iexists f
      isplitr; · ipureintro; exact hf
      iexact Hd
    isplitl [Hs Hr]
    · iapply (pointsTo_split_subset (Finset.subset_univ (cS o h).view.set)).2
      isplitl [Hs]; · iexact Hs
      iexact Hr
    iexact Hv
  · isplitr; · iexact Hmw
    iexists _; iexact HO

/-- The delivery of the gradient slot's row `p`. -/
abbrev gDlv (o : Fin 3 → Fin 2 → Nat) (h : ∀ p a, o p a + S1x4096.size a ≤ S5x2097152.size a) (p : Fin 3) : sProp 𝕄 :=
  dlv d L (gS (o p) (h p)) (gD s p) (qg p) fG

theorem enqG_spec (o : Fin 3 → Fin 2 → Nat) (h : ∀ p a, o p a + S1x4096.size a ≤ S5x2097152.size a) (p : Fin 3) (w : Vec F S4096 .i32) :
    iprop(gAt d L s p w ∗ (gLoc d L ↦{qg p} fG)
        ∗ Batch (EC (F := F)) (thr d L) (.dma (gSem s).sem) (default : HIx 1) (gD 0 0).view.dmaCredit (gDlv d L fG qg s o h) p.val 0)
      ⊢ WP d L (enqG L s p (o p) (h p)) fun _ =>
        iprop(Batch (EC (F := F)) (thr d L) (.dma (gSem s).sem) (default : HIx 1) (gD 0 0).view.dmaCredit (gDlv d L fG qg s o h) (p.val + 1) 0
          ∗ (gLoc d L ↦[Finset.univ \ (gS (o p) (h p)).view.set]{qg p} fG)) := by
  unfold gAt WP enqG
  iintro ⟨⟨%f, -, Hd⟩, Hs, HB⟩
  ihave Hs' := (pointsTo_split_subset (Finset.subset_univ (gS (o p) (h p)).view.set)).1 $$ Hs
  icases Hs' with ⟨Hs, Hr⟩
  iapply (wp_dmaBatch (EC (F := F)) 𝒱₀ (thr d L) none (src := gS (o p) (h p)) (dst := gD s p) (sm := .dma (gSem s).sem) (fs := fG) (q := qg p) (via := ReadAs.same)
    (D := gDlv d L fG qg s o h) (j := p.val)
    (default : HIx 1) (gD 0 0).view.dmaCredit (amount_gD s p) (Finset.Subset.refl _) p.isLt (Nat.zero_le _) (dlv_intro d L (gS (o p) (h p)) (gD s p) (qg p) fG f)) $$ [Hs Hd HB]
  · isplitl [Hs]; · iexact Hs
    isplitl [Hd]; · iexact Hd
    iexact HB
  iintro HB
  rw [wp_ret]
  imodintro
  isplitl [HB]; · iexact HB
  iexact Hr

/-- The start of a chunk's copies. -/
theorem issue_spec (w : Vec F S4096 .i32) (wg : Fin 3 → Vec F S4096 .i32) (o : Fin 2 → Nat) (h : ∀ a, o a + S1x4096.size a ≤ S16x2097152.size a)
    (r : Fin 3 → Fin 2 → Nat) (hr : ∀ p a, r p a + S1x4096.size a ≤ S5x2097152.size a) :
    iprop(CLand d L fC q s w ∗ GLand d L fG qg s wg) ⊢ WP d L (issue L s o h r hr) fun _ =>
      iprop(CFly d L fC q s o h ∗ GFly d L fG qg s r hr) := by
  unfold issue GLand GFly
  haveI : ∀ t : Fin 3, BI.Storable (upEmb : UEmb _ 𝕄) (gDlv d L fG qg s r hr t) := fun t => dlv_storable d L (gS (r t) (hr t)) (gD s t) (qg t) fG
  iintro ⟨HC, ⟨H0, H1, H2⟩, ⟨G0, G1, G2⟩, Hv⟩
  iapply (wp_seq (enqC_spec d L fC q s w o h)) $$ HC
  iintro HC
  unfold WP
  imod (batch_alloc' (EC (F := F)) (thr d L) (default : HIx 1) (gD 0 0).view.dmaCredit (gDlv d L fG qg s r hr) (sm := .dma (gSem s).sem) (E := Set.univ)) $$ Hv with HB
  iapply (wp_seq (enqG_spec d L fG qg s r hr 0 (wg 0))) $$ [H0 G0 HB]
  · isplitl [H0]; · iexact H0
    isplitl [G0]; · iexact G0
    iexact HB
  iintro ⟨HB, R0⟩
  iapply (wp_seq (enqG_spec d L fG qg s r hr 1 (wg 1))) $$ [H1 G1 HB]
  · isplitl [H1]; · iexact H1
    isplitl [G1]; · iexact G1
    iexact HB
  iintro ⟨HB, R1⟩
  iapply (wp_wand_r frame (wpE (defs₀ (F := F)) 𝒱₀ (thr d L) none) Set.univ)
  isplitl [H2 G2 HB]
  · iapply (enqG_spec d L fG qg s r hr 2 (wg 2))
    isplitl [H2]; · iexact H2
    isplitl [G2]; · iexact G2
    iexact HB
  iintro %_ ⟨HB, R2⟩
  isplitl [HC]; · iexact HC
  isplitl [HB]; · iexact HB
  isplitl [R0]; · iexact R0
  isplitl [R1]; · iexact R1
  iexact R2

/-- The wait for a chunk's copies. -/
theorem drain_spec (O : CellTallies nD τ sig (HIx 1)) (o : Fin 2 → Nat) (h : ∀ a, o a + S1x4096.size a ≤ S16x2097152.size a)
    (r : Fin 3 → Fin 2 → Nat) (hr : ∀ p a, r p a + S1x4096.size a ≤ S5x2097152.size a)
    (o' : Fin 2 → Nat) (h' : ∀ a, o' a + S1x4096.size a ≤ S16x2097152.size a)
    (r' : Fin 3 → Fin 2 → Nat) (hr' : ∀ p a, r' p a + S1x4096.size a ≤ S5x2097152.size a) :
    iprop(CFly d L fC q s o h ∗ GFly d L fG qg s r hr ∗ OW d L O) ⊢ WP d L (drain L s o' h' r' hr') fun _ =>
      iprop(CLand d L fC q s ((cS o h).view.read (Elt F) fC) ∗ GLand d L fG qg s (fun p => (gS (r p) (hr p)).view.read (Elt F) fG) ∗ OW d L O) := by
  unfold drain
  iintro ⟨HC, HG, HO⟩
  iapply (wp_seq (waitC_spec d L fC q s O o h o' h')) $$ [HC HO]
  · isplitl [HC] <;> iassumption
  iintro ⟨HC, HO⟩
  unfold GFly GLand WP waitG OW gAt
  icases HG with ⟨HB, R0, R1, R2⟩
  icases HO with ⟨#Hmw, ⟨%W, HO⟩⟩
  ihave Hm := (MayWaits.elim (SemLoc.dma (gSem s).sem)) $$ Hmw
  iapply (wp_waitBatchO (EC (F := F)) 𝒱₀ (thr d L) none (srcw := gS (r' 0) (hr' 0)) (dstw := gD s 0) (default : HIx 1) (N := (gD 0 0).view.dmaCredit) rfl
    (n := 3) (D := gDlv d L fG qg s r hr) (u := 0) (by have := credit_pos_g; omega)) $$ [HB HO Hm]
  · isplitl [HB]; · iexact HB
    isplitl [HO]; · iexact HO
    iexact Hm
  iintro ⟨HB, HO⟩
  ihave Hm := (MayWaits.elim (SemLoc.dma (gSem s).sem)) $$ Hmw
  iapply (wp_waitBatchO (EC (F := F)) 𝒱₀ (thr d L) none (srcw := gS (r' 1) (hr' 1)) (dstw := gD s 1) (default : HIx 1) (N := (gD 0 0).view.dmaCredit) rfl
    (n := 3) (D := gDlv d L fG qg s r hr) (u := 0 + (gD 0 0).view.dmaCredit) (by have := credit_pos_g; omega)) $$ [HB HO Hm]
  · isplitl [HB]; · iexact HB
    isplitl [HO]; · iexact HO
    iexact Hm
  iintro ⟨HB, HO⟩
  ihave Hm := (MayWaits.elim (SemLoc.dma (gSem s).sem)) $$ Hmw
  iapply (wp_waitBatchLastO (EC (F := F)) 𝒱₀ (thr d L) none (srcw := gS (r' 2) (hr' 2)) (dstw := gD s 2) (default : HIx 1) (N := (gD 0 0).view.dmaCredit) rfl credit_pos_g
    (n := 3) (D := gDlv d L fG qg s r hr) (u := 0 + (gD 0 0).view.dmaCredit + (gD 0 0).view.dmaCredit) (by omega)) $$ [HB HO Hm]
  · isplitl [HB]; · iexact HB
    isplitl [HO]; · iexact HO
    iexact Hm
  iintro ⟨HD, Hv, HO⟩
  rw [wp_ret]
  imodintro
  ihave HD' := (Entails.of_eq (Ring.bigSep_fin3 (gDlv d L fG qg s r hr))) $$ HD
  unfold gDlv dlv
  icases HD' with ⟨⟨%f0, %hf0, Hd0, Hs0⟩, ⟨%f1, %hf1, Hd1, Hs1⟩, ⟨%f2, %hf2, Hd2, Hs2⟩⟩
  isplitl [HC]; · iexact HC
  isplitr [HO]
  · isplitl [Hd0 Hd1 Hd2]
    · isplitl [Hd0]
      · iexists f0
        isplitr; · ipureintro; exact hf0
        iexact Hd0
      isplitl [Hd1]
      · iexists f1
        isplitr; · ipureintro; exact hf1
        iexact Hd1
      iexists f2
      isplitr; · ipureintro; exact hf2
      iexact Hd2
    isplitr [Hv]
    · isplitl [Hs0 R0]
      · iapply (pointsTo_split_subset (Finset.subset_univ (gS (r 0) (hr 0)).view.set)).2
        isplitl [Hs0]; · iexact Hs0
        iexact R0
      isplitl [Hs1 R1]
      · iapply (pointsTo_split_subset (Finset.subset_univ (gS (r 1) (hr 1)).view.set)).2
        isplitl [Hs1]; · iexact Hs1
        iexact R1
      iapply (pointsTo_split_subset (Finset.subset_univ (gS (r 2) (hr 2)).view.set)).2
      isplitl [Hs2]; · iexact Hs2
      iexact R2
    iexact Hv
  · isplitr; · iexact Hmw
    iexists _; iexact HO

end Copies

end Cert.Proof.HistIdeal
-- ==== Proof.HistMem.lean ====
/-
  The histogram kernel's scratch: what the twenty blocks of the histogram hold, cleared, after sixteen codes, after a chunk; and
  the row of 256 sums that one block becomes.
-/
module

public import proofs.«01_k».proof.Proof.HistBase

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Indices -/

/-- The one coordinate of an index of a rank-one shape determines it. -/
theorem idx1_ext {n : Nat} {x y : (⟨1, ![n]⟩ : Shape).Idx} (h : (x 0).val = (y 0).val) : x = y := by
  funext a; obtain rfl : a = 0 := Subsingleton.elim _ _; exact Fin.ext h

theorem cIdx_bits (x l : BitVec 32) (hl : l.toNat < 16) : ((x &&& 4080#32) ||| l).toNat < 4096 := by
  have h : l < 16#32 := by rw [BitVec.lt_def]; exact hl
  have h2 : ((x &&& 4080#32) ||| l) < 4096#32 := by
    have h1 : l = l &&& 15#32 := by
      apply BitVec.eq_of_toNat_eq
      rw [BitVec.toNat_and]
      show l.toNat = l.toNat &&& (2 ^ 4 - 1)
      rw [Nat.and_two_pow_sub_one_eq_mod, Nat.mod_eq_of_lt hl]
    rw [BitVec.lt_def, h1, BitVec.toNat_or, BitVec.toNat_and, BitVec.toNat_and]
    refine Nat.or_lt_two_pow (n := 12) ?_ ?_
    · exact lt_of_le_of_lt Nat.and_le_right (by decide)
    · exact lt_of_le_of_lt Nat.and_le_right (by decide)
  exact h2

theorem lanes_toNat (x : S16.Idx) : (lanes x).toNat = (x 0).val := by
  obtain ⟨k, rfl⟩ : ∃ k : Fin 16, x = Shape.ofLane (d := ![16]) k := ⟨x 0, idx1_ext rfl⟩
  revert k; decide +kernel

theorem cIdx_lt (x : IVec S16 32) : ∀ a y, ((![cIdx x lanes] : Fin 1 → IVec S16 32) a y).toNat < S4096.size a := by
  intro a y
  obtain rfl : a = 0 := Subsingleton.elim _ _
  exact cIdx_bits _ _ (by rw [lanes_toNat]; exact (y 0).isLt)

theorem chk1 (x : IVec S16 32) : k0_chk1 (cIdx x lanes) := by
  unfold k0_chk1
  exact ⟨cIdx_lt x, cIdx_lt x, cIdx_lt x, cIdx_lt x, cIdx_lt x⟩

/-- The words that gather `l` of the sum of centroids `16 k` to `16 k + 15` reads. -/
def gIx (k l : Fin 16) : IVec S16 32 :=
  addi (muli (addi (broadcast S16 (BitVec.ofNat 32 (16 * k.val))) lanes) (broadcast S16 16#32))
    (andi (addi lanes (broadcast S16 (BitVec.ofNat 32 l.val))) (broadcast S16 15#32))

theorem gIx_toNat (k l : Fin 16) (y : S16.Idx) : (gIx k l y).toNat = 16 * (16 * k.val + (y 0).val) + ((y 0).val + l.val) % 16 := by
  obtain ⟨j, rfl⟩ : ∃ k : Fin 16, y = Shape.ofLane (d := ![16]) k := ⟨y 0, idx1_ext rfl⟩
  revert k l j; decide +kernel

theorem chk9 (k l : Fin 16) : k0_chk9 (gIx k l) := by
  unfold k0_chk9
  intro a y
  obtain rfl : a = 0 := Subsingleton.elim _ _
  show (gIx k l y).toNat < 4096
  rw [gIx_toNat]
  have h1 := k.isLt
  have h2 : (y 0).val < 16 := (y 0).isLt
  omega

/-! ## The histogram's twenty blocks -/

section Pure

variable [FloatOps F]

/-- The twenty blocks of the histogram. -/
abbrev HT (F : FTy → Type) : Type := Fin 20 → Vec F S4096 .f32

/-- The cleared histogram. -/
def hZero : HT F := fun _ _ => Scalar.ofBits (F := F) .f32 0x00000000#32

/-- Sixteen words of a slot's row, from word `16 k`. -/
def sl16 (w : Vec F S4096 .i32) (k : Nat) : Vec F S16 .i32 := fun x => w (Shape.ofLane (d := ![4096]) ⟨(16 * k + (x 0).val) % 4096, Nat.mod_lt _ (by decide)⟩)

/-- The bits 4 to 11 of the shifted word are the code of subspace `m`. -/
def sh (m : Fin 4) (c : IVec S16 32) : IVec S16 32 :=
  ![shli c (broadcast S16 4#32), shrui c (broadcast S16 4#32), shrui c (broadcast S16 12#32), shrui c (broadcast S16 20#32)] m

/-- The subspace and the batch row of block `j`. -/
abbrev jm (j : Fin 20) : Fin 4 := ⟨j.val / 5, by omega⟩
abbrev jb (j : Fin 20) : Fin 5 := ⟨j.val % 5, Nat.mod_lt _ (by decide)⟩

/-- One block after sixteen values `g` are added at the codes in the words `x`. -/
def addB (h : Vec F S4096 .f32) (x : IVec S16 32) (g : FVec F S16 .f32) : Vec F S4096 .f32 :=
  storeIdx h ![cIdx x lanes] g (fun _ => 1#1) true (cIdx_lt x)

/-- The histogram after the blocks of subspace `m` have been added to. -/
def stepM (H : HT F) (m : Fin 4) (x : IVec S16 32) (g : Fin 5 → FVec F S16 .f32) : HT F :=
  fun j => if jm j = m then addB (H j) x (g (jb j)) else H j

/-- The histogram after one trip: sixteen code words and their gradient words. -/
def tripH (v28 : BitVec 32) (c w0 w1 w2 : IVec S16 32) (H : HT F) : HT F :=
  fun j => addB (H j) (sh (jm j) c) (gVals v28 w0 w1 w2 (jb j))

/-- The histogram after `n` trips over the code words `C` and the gradient words `G`. -/
def tripsH (v28 : BitVec 32) (C : Vec F S4096 .i32) (G : Fin 3 → Vec F S4096 .i32) (H : HT F) : Nat → HT F
  | 0 => H
  | n + 1 => tripH v28 (sl16 C n) (sl16 (G 0) n) (sl16 (G 1) n) (sl16 (G 2) n) (tripsH v28 C G H n)

/-- The sum of the first `n` gathers, for the centroids `16 k` to `16 k + 15`. -/
def redAcc (h : Vec F S4096 .f32) (k : Fin 16) : Nat → FVec F S16 .f32
  | 0 => broadcast S16 (Scalar.ofBits .f32 0x00000000#32)
  | n + 1 => addf (redAcc h k n) (loadIdx h ![gIx k (Fin.ofNat 16 n)] (k0_idx41_inb _ (chk9 k (Fin.ofNat 16 n))))

/-- The row of 256 sums that a block becomes. -/
def redRow (h : Vec F S4096 .f32) : Vec F S256 .f32 :=
  fun y => redAcc h ⟨(y 0).val / 16, by have : (y 0).val < 256 := (y 0).isLt; omega⟩ 16 (Shape.ofLane (d := ![16]) ⟨(y 0).val % 16, Nat.mod_lt _ (by decide)⟩)

end Pure

/-! ## Memory -/

section Mem

variable [FloatOps F] (d : Dev nD) (L : grid0.Coords)

abbrev hLoc : Loc nD τ sig := (thr d L).loc cc0_scratch2
abbrev rLoc : Loc nD τ sig := (thr d L).loc cc0_scratch3

/-- What block `j` holds. -/
def hRead (f : Buf (Elt F) (hLoc d L)) (j : Fin 20) : Vec F S4096 .f32 := ((hB j).access (.whole S4096)).read (Elt F) f

/-- The contents after block `j` is rewritten. -/
def hWrite (f : Buf (Elt F) (hLoc d L)) (j : Fin 20) (w : Vec F S4096 .f32) : Buf (Elt F) (hLoc d L) :=
  ((hB j).access (.whole S4096)).write (Elt F) f w Finset.univ

theorem hEmb (j : Fin 20) (x : S4096.Idx) : ((((hB j).access (.whole S4096)).emb x) (0 : Fin 1)).val = 4096 * j.val + (x 0).val := by
  show 4096 * j.val + 1 * (0 + 1 * (x 0).val) = _
  omega

theorem hRead_hWrite (f : Buf (Elt F) (hLoc d L)) (j j' : Fin 20) (w : Vec F S4096 .f32) :
    hRead d L (hWrite d L f j w) j' = if j' = j then w else hRead d L f j' := by
  by_cases h : j' = j
  · subst h
    rw [if_pos rfl]
    exact View.read_write_univ _ _
  · rw [if_neg h]
    funext x
    refine congrArg (_root_.cast (congrArg (Elt F) ((hB j').access (.whole S4096)).elt_eq)) (View.write_of_not_mem (v := (hB j).access (.whole S4096)) f w Finset.univ ?_)
    intro hm
    obtain ⟨y, -, hy⟩ := Finset.mem_map.mp hm
    have h1 := hEmb j y
    have h2 := hEmb j' x
    have h3 := congrArg (fun z : S81920.Idx => (z (0 : Fin 1)).val) hy
    have h4 : (x 0).val < 4096 := (x 0).isLt
    have h5 : (y 0).val < 4096 := (y 0).isLt
    apply h
    apply Fin.ext
    have h6 : 4096 * j.val + (y 0).val = 4096 * j'.val + (x 0).val := by rw [← h1, ← h2]; exact h3
    omega

/-- The scratch holds the histogram `H`. -/
def Hist (H : HT F) : sProp 𝕄 :=
  iprop(∃ f : Buf (Elt F) (hLoc d L), ⌜∀ j, hRead d L f j = H j⌝ ∗ (hLoc d L ↦{fullShare} f))

theorem scSt_spec (H : HT F) (j : Fin 20) (x : IVec S16 32) (hw : k0_chk1 (cIdx x lanes)) (g : FVec F S16 .f32) :
    Hist d L H ⊢ WP d L (scSt L j (cIdx x lanes) hw g) fun _ => Hist d L (Function.update H j (addB (H j) x g)) := by
  have e : scSt L j (cIdx x lanes) hw g = .op (.load (hB j) (.whole S4096) (View.loadsAt_rect (View.Stores.loads (View.stores_vmem_bits_univ h_S4096 rfl)))) fun f =>
      .op (.store (hB j) (.whole S4096) (storeIdx f ![cIdx x lanes] g (fun _ => 1#1) true (k0_idx1_inb _ hw)) Finset.univ (View.stores_vmem_bits_univ h_S4096 rfl) (.inl rfl)) Prog.ret := rfl
  rw [e]
  unfold Hist WP
  iintro ⟨%f, %hf, H⟩
  iapply (wp_load_rect (defs := defs₀ (F := F)) 𝒱₀ (thr d L) none Set.univ (m := hB j) (r := Rect.whole S4096) (q := fullShare) (f := f) (S := Finset.univ) (Finset.subset_univ _)) $$ [H]
  · iexact H
  iintro H
  iapply (wp_store (defs := defs₀ (F := F)) 𝒱₀ (thr d L) none Set.univ (m := hB j) (r := .whole S4096) (Mk := Finset.univ) (f := f) (S := Finset.univ) (Finset.subset_univ _)) $$ [H]
  · iexact H
  iintro H
  rw [wp_ret]
  imodintro
  iexists (hWrite d L f j (addB (H j) x g))
  isplitr
  · ipureintro
    intro j'
    rw [hRead_hWrite]
    by_cases h : j' = j
    · subst h; simp
    · rw [if_neg h, Function.update_of_ne h, hf]
  · have e : hWrite d L f j (addB (H j) x g) = ((hB j).access (.whole S4096)).write (Elt F) f
        (storeIdx (((hB j).access (.whole S4096)).read (Elt F) f) ![cIdx x lanes] g (fun _ => 1#1) true (k0_idx1_inb _ hw)) Finset.univ := by
      rw [← hf j]; rfl
    rw [e]
    iexact H

end Mem

end Cert.Proof.HistIdeal
-- ==== Proof.HistTrip.lean ====
/-
  The histogram kernel's loops over the scratch: clearing the histogram, adding a chunk to it, and summing one block's lanes.
-/
module

public import proofs.«01_k».proof.Proof.HistMem

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## Sixteen codes -/

/-- The histogram after the blocks of subspace `m` and the first `n` batch rows have been added to. -/
def partM (H : HT F) (m : Fin 4) (x : IVec S16 32) (g : Fin 5 → FVec F S16 .f32) (n : Nat) : HT F :=
  fun j => if jm j = m ∧ (jb j).val < n then addB (H j) x (g (jb j)) else H j

theorem partM_zero (H : HT F) (m : Fin 4) (x : IVec S16 32) (g : Fin 5 → FVec F S16 .f32) : partM H m x g 0 = H :=
  funext fun _ => if_neg fun h => absurd h.2 (Nat.not_lt_zero _)

theorem partM_five (H : HT F) (m : Fin 4) (x : IVec S16 32) (g : Fin 5 → FVec F S16 .f32) : partM H m x g 5 = stepM H m x g := by
  funext j
  unfold partM stepM
  simp only [(jb j).isLt, and_true]

theorem partM_succ (H : HT F) (m : Fin 4) (x : IVec S16 32) (g : Fin 5 → FVec F S16 .f32) (n : Fin 5) :
    Function.update (partM H m x g n.val) ⟨5 * m.val + n.val, by omega⟩ (addB (partM H m x g n.val ⟨5 * m.val + n.val, by omega⟩) x (g n)) = partM H m x g (n.val + 1) := by
  have hm : jm ⟨5 * m.val + n.val, by omega⟩ = m := Fin.ext (by show (5 * m.val + n.val) / 5 = m.val; omega)
  have hb : jb ⟨5 * m.val + n.val, by omega⟩ = n := Fin.ext (by show (5 * m.val + n.val) % 5 = n.val; omega)
  funext j
  by_cases e : j = ⟨5 * m.val + n.val, by omega⟩
  · subst e
    rw [Function.update_self]
    unfold partM
    rw [hm, hb, if_neg (by omega), if_pos ⟨rfl, by omega⟩]
  · rw [Function.update_of_ne e]
    unfold partM
    have : (jm j = m ∧ (jb j).val < n.val) ↔ (jm j = m ∧ (jb j).val < n.val + 1) := by
      refine and_congr_right fun hj => ⟨fun h => by omega, fun h => ?_⟩
      by_contra hc
      apply e
      apply Fin.ext
      have h1 : j.val / 5 = m.val := congrArg Fin.val hj
      have h2 : j.val % 5 = n.val := by show (jb j).val = n.val; omega
      show j.val = 5 * m.val + n.val
      omega
    simp only [this]

theorem scSt_part (H : HT F) (m : Fin 4) (x : IVec S16 32) (g : Fin 5 → FVec F S16 .f32) (n : Fin 5) (hj : 5 * m.val + n.val < 20) :
    Hist d L (partM H m x g n.val) ⊢ WP d L (scSt L ⟨5 * m.val + n.val, hj⟩ (cIdx x lanes) (chk1 x) (g n)) fun _ => Hist d L (partM H m x g (n.val + 1)) := by
  rw [← partM_succ]
  exact scSt_spec d L _ _ x (chk1 x) (g n)

theorem scM_spec (H : HT F) (m : Fin 4) (x : IVec S16 32) (g : Fin 5 → FVec F S16 .f32) :
    Hist d L H ⊢ WP d L (scM L m (cIdx x lanes) g) fun _ => Hist d L (stepM H m x g) := by
  unfold WP scM
  show _ ⊢ wp _ _ _ (Prog.op (TpuEff.assume _ _) _) _
  rw [wp_assume_of (c := thr d L) (bd := none) (h := chk1 x), ← partM_five H m x g]
  show _ ⊢ WP d L _ _
  iintro H
  ihave H := (Entails.of_eq (congrArg (Hist d L) (partM_zero H m x g).symm)) $$ H
  iapply (wp_seq (scSt_part d L H m x g 0 _)) $$ [H]
  · iexact H
  iintro H
  iapply (wp_seq (scSt_part d L H m x g 1 _)) $$ [H]
  · iexact H
  iintro H
  iapply (wp_seq (scSt_part d L H m x g 2 _)) $$ [H]
  · iexact H
  iintro H
  iapply (wp_seq (scSt_part d L H m x g 3 _)) $$ [H]
  · iexact H
  iintro H
  iapply (scSt_part d L H m x g 4 _)
  iexact H

theorem step4_eq (H : HT F) (v28 : BitVec 32) (c w0 w1 w2 : IVec S16 32) :
    stepM (stepM (stepM (stepM H 0 (sh 0 c) (gVals v28 w0 w1 w2)) 1 (sh 1 c) (gVals v28 w0 w1 w2)) 2 (sh 2 c) (gVals v28 w0 w1 w2)) 3 (sh 3 c) (gVals v28 w0 w1 w2)
      = tripH v28 c w0 w1 w2 H := by
  funext j
  unfold stepM tripH
  obtain ⟨m, hm⟩ : ∃ m, jm j = m := ⟨_, rfl⟩
  rw [hm]
  fin_cases m <;> simp

/-! ## The loads of sixteen words -/

theorem cD_emb (s : Fin 2) (x : S4096.Idx) : (((cD s).view.emb x) (0 : Fin 1)).val = 4096 * s.val + (x 0).val := by
  show 4096 * s.val + 1 * (x 0).val = _
  omega

theorem gD_emb (s : Fin 2) (p : Fin 3) (x : S4096.Idx) : (((gD s p).view.emb x) (0 : Fin 1)).val = 12288 * s.val + 4096 * p.val + (x 0).val := by
  show 12288 * s.val + 4096 * p.val + 1 * (x 0).val = _
  omega

theorem emb_c (s : Fin 2) (n : Nat) (hn : n < 256) (o : Fin 1 → Nat) (ho : o = ![4096 * s.val + 16 * n]) (h : ∀ a, o a + S16.size a ≤ S8192.size a) (x : S16.Idx) :
    (((Memref.whole cc0_scratch0 : Memref sig .scVector _ _ _).access (Rect.unit (s := S8192) o S16.size h)).emb x : S8192.Idx)
      = (cD s).view.emb (Shape.ofLane (d := ![4096]) ⟨(16 * n + (x 0).val) % 4096, Nat.mod_lt _ (by decide)⟩) := by
  subst ho
  refine idx1_ext ?_
  rw [cD_emb]
  have : (x 0).val < 16 := (x 0).isLt
  show 4096 * s.val + 16 * n + 1 * (x 0).val = 4096 * s.val + (16 * n + (x 0).val) % 4096
  omega

theorem emb_g (s : Fin 2) (p : Fin 3) (n : Nat) (hn : n < 256) (o : Fin 1 → Nat) (ho : o = ![12288 * s.val + 4096 * p.val + 16 * n]) (h : ∀ a, o a + S16.size a ≤ S24576.size a) (x : S16.Idx) :
    (((Memref.whole cc0_scratch1 : Memref sig .scVector _ _ _).access (Rect.unit (s := S24576) o S16.size h)).emb x : S24576.Idx)
      = (gD s p).view.emb (Shape.ofLane (d := ![4096]) ⟨(16 * n + (x 0).val) % 4096, Nat.mod_lt _ (by decide)⟩) := by
  subst ho
  refine idx1_ext ?_
  rw [gD_emb]
  have : (x 0).val < 16 := (x 0).isLt
  show 12288 * s.val + 4096 * p.val + 16 * n + 1 * (x 0).val = 12288 * s.val + 4096 * p.val + (16 * n + (x 0).val) % 4096
  omega

theorem loadC (s : Fin 2) (n : Nat) (hn : n < 256) (o : Fin 1 → Nat) (ho : o = ![4096 * s.val + 16 * n]) (h : ∀ a, o a + S16.size a ≤ S8192.size a)
    (w : Vec F S4096 .i32) {hl : (Memref.whole cc0_scratch0 : Memref sig .scVector _ _ _).view.LoadsAt (Rect.unit (s := S8192) o S16.size h).toLoadRect}
    {k : Vec F S16 .i32 → Prog (PT F L) PUnit} {Q : PUnit → sProp 𝕄} :
    cAt d L s w ⊢ iprop((cAt d L s w -∗ WP d L (k (sl16 w n)) Q)
      -∗ WP d L (Prog.lift (.load (Memref.whole cc0_scratch0) (Rect.unit (s := S8192) o S16.size h).toLoadRect hl) >>= k) Q) := by
  unfold cAt WP
  have hS : ((Memref.whole cc0_scratch0 : Memref sig .scVector _ _ _).access (Rect.unit (s := S8192) o S16.size h)).set ⊆ (cD s).view.set := by
    intro y hy
    obtain ⟨x, -, rfl⟩ := Finset.mem_map.mp hy
    have e := emb_c s n hn o ho h x
    exact Finset.mem_map.mpr ⟨_, Finset.mem_univ _, e.symm⟩
  iintro ⟨%f, %hf, H⟩ HK
  iapply (wp_load_rect (defs := defs₀ (F := F)) 𝒱₀ (thr d L) none Set.univ (m := Memref.whole cc0_scratch0) (r := Rect.unit (s := S8192) o S16.size h) (k := k) (hl := hl)
    (q := fullShare) (f := f) (S := (cD s).view.set) hS) $$ [H]
  · iexact H
  · iintro H
    have e : ((Memref.whole cc0_scratch0 : Memref sig .scVector _ _ _).access (Rect.unit (s := S8192) o S16.size h)).read (Elt F) f = sl16 w n := by
      subst hf
      funext x
      exact congrArg (fun y : S8192.Idx => (f y : BitVec 32)) (emb_c s n hn o ho h x)
    rw [e]
    iapply HK
    iexists f
    isplitr; · ipureintro; exact hf
    iexact H

theorem loadG (s : Fin 2) (p : Fin 3) (n : Nat) (hn : n < 256) (o : Fin 1 → Nat) (ho : o = ![12288 * s.val + 4096 * p.val + 16 * n]) (h : ∀ a, o a + S16.size a ≤ S24576.size a)
    (w : Vec F S4096 .i32) {hl : (Memref.whole cc0_scratch1 : Memref sig .scVector _ _ _).view.LoadsAt (Rect.unit (s := S24576) o S16.size h).toLoadRect}
    {k : Vec F S16 .i32 → Prog (PT F L) PUnit} {Q : PUnit → sProp 𝕄} :
    gAt d L s p w ⊢ iprop((gAt d L s p w -∗ WP d L (k (sl16 w n)) Q)
      -∗ WP d L (Prog.lift (.load (Memref.whole cc0_scratch1) (Rect.unit (s := S24576) o S16.size h).toLoadRect hl) >>= k) Q) := by
  unfold gAt WP
  have hS : ((Memref.whole cc0_scratch1 : Memref sig .scVector _ _ _).access (Rect.unit (s := S24576) o S16.size h)).set ⊆ (gD s p).view.set := by
    intro y hy
    obtain ⟨x, -, rfl⟩ := Finset.mem_map.mp hy
    have e := emb_g s p n hn o ho h x
    exact Finset.mem_map.mpr ⟨_, Finset.mem_univ _, e.symm⟩
  iintro ⟨%f, %hf, H⟩ HK
  iapply (wp_load_rect (defs := defs₀ (F := F)) 𝒱₀ (thr d L) none Set.univ (m := Memref.whole cc0_scratch1) (r := Rect.unit (s := S24576) o S16.size h) (k := k) (hl := hl)
    (q := fullShare) (f := f) (S := (gD s p).view.set) hS) $$ [H]
  · iexact H
  · iintro H
    have e : ((Memref.whole cc0_scratch1 : Memref sig .scVector _ _ _).access (Rect.unit (s := S24576) o S16.size h)).read (Elt F) f = sl16 w n := by
      subst hf
      funext x
      exact congrArg (fun y : S24576.Idx => (f y : BitVec 32)) (emb_g s p n hn o ho h x)
    rw [e]
    iapply HK
    iexists f
    isplitr; · ipureintro; exact hf
    iexact H

/-- A slot's landed words. -/
def Slot (s : Fin 2) (C : Vec F S4096 .i32) (G : Fin 3 → Vec F S4096 .i32) : sProp 𝕄 :=
  iprop(cAt d L s C ∗ gAt d L s 0 (G 0) ∗ gAt d L s 1 (G 1) ∗ gAt d L s 2 (G 2))

theorem scTrip_spec (s : Fin 2) (n : Nat) (hn : n < 256) (v28 : BitVec 32) (C : Vec F S4096 .i32) (G : Fin 3 → Vec F S4096 .i32) (H : HT F)
    (o : Fin 1 → Nat) (ho : o = ![4096 * s.val + 16 * n]) (h : ∀ a, o a + S16.size a ≤ S8192.size a)
    (q : Fin 3 → Fin 1 → Nat) (hq : ∀ p, q p = ![12288 * s.val + 4096 * p.val + 16 * n]) (hq' : ∀ p a, q p a + S16.size a ≤ S24576.size a) :
    iprop(Slot d L s C G ∗ Hist d L H) ⊢ WP d L (scTrip L v28 lanes o h q hq') fun _ =>
      iprop(Slot d L s C G ∗ Hist d L (tripH v28 (sl16 C n) (sl16 (G 0) n) (sl16 (G 1) n) (sl16 (G 2) n) H)) := by
  unfold Slot scTrip
  iintro ⟨⟨HC, H0, H1, H2⟩, HH⟩
  iapply (loadC d L s n hn o ho h C) $$ HC
  iintro HC
  iapply (loadG d L s 0 n hn (q 0) (hq 0) (hq' 0) (G 0)) $$ H0
  iintro H0
  iapply (loadG d L s 1 n hn (q 1) (hq 1) (hq' 1) (G 1)) $$ H1
  iintro H1
  iapply (loadG d L s 2 n hn (q 2) (hq 2) (hq' 2) (G 2)) $$ H2
  iintro H2
  iapply (wp_seq (scM_spec d L H 0 (sh 0 (sl16 C n)) _)) $$ HH
  iintro HH
  iapply (wp_seq (scM_spec d L _ 1 (sh 1 (sl16 C n)) _)) $$ HH
  iintro HH
  iapply (wp_seq (scM_spec d L _ 2 (sh 2 (sl16 C n)) _)) $$ HH
  iintro HH
  unfold WP
  iapply (wp_wand_r frame (wpE (defs₀ (F := F)) 𝒱₀ (thr d L) none) Set.univ)
  isplitl [HH]
  · iapply (scM_spec d L _ 3 (sh 3 (sl16 C n)) _); iexact HH
  iintro %_ HH
  rw [step4_eq]
  isplitl [HC H0 H1 H2]
  · isplitl [HC]; · iexact HC
    isplitl [H0]; · iexact H0
    isplitl [H1]; · iexact H1
    iexact H2
  iexact HH

theorem scLoop0_spec (v28 : BitVec 32) (C : Vec F S4096 .i32) (G : Fin 3 → Vec F S4096 .i32) (H : HT F) :
    iprop(Slot d L 0 C G ∗ Hist d L H) ⊢ WP d L (scLoop0 L v28 lanes) fun _ => iprop(Slot d L 0 C G ∗ Hist d L (tripsH v28 C G H 256)) := by
  unfold WP scLoop0
  iintro HH
  iapply (Scf.wp_for frame (wpE (defs₀ (F := F)) 𝒱₀ (thr d L) none) Set.univ _ _ _ k0_t3_ok _ _
    (fun n _ => iprop(Slot d L 0 C G ∗ Hist d L (tripsH v28 C G H n)))
    (fun k _ => scTrip_spec d L 0 k.val (lt_of_lt_of_eq k.isLt (by decide)) v28 C G _ _ (by rw [k0_off8_eq]; simp) _ _ (fun p => by rw [k0_off9_eq]; simp) _))
  isplitl [HH]; · iexact HH
  iintro %_ HH
  iexact HH

theorem scLoop1_spec (v28 : BitVec 32) (C : Vec F S4096 .i32) (G : Fin 3 → Vec F S4096 .i32) (H : HT F) :
    iprop(Slot d L 1 C G ∗ Hist d L H) ⊢ WP d L (scLoop1 L v28 lanes) fun _ => iprop(Slot d L 1 C G ∗ Hist d L (tripsH v28 C G H 256)) := by
  unfold WP scLoop1
  iintro HH
  iapply (Scf.wp_for frame (wpE (defs₀ (F := F)) 𝒱₀ (thr d L) none) Set.univ _ _ _ k0_t4_ok _ _
    (fun n _ => iprop(Slot d L 1 C G ∗ Hist d L (tripsH v28 C G H n)))
    (fun k _ => scTrip_spec d L 1 k.val (lt_of_lt_of_eq k.isLt (by decide)) v28 C G _ _ (by rw [k0_off12_eq]; congr 1; simp; omega) _ _
      (fun p => by rw [k0_off13_eq]; congr 1; simp; omega) _))
  isplitl [HH]; · iexact HH
  iintro %_ HH
  iexact HH

end Cert.Proof.HistIdeal
-- ==== Proof.HistRow.lean ====
/-
  The histogram kernel's first loop, which clears the histogram, and its last twenty, each of which sums one block's lanes into a
  row and copies the row out.
-/
module

public import proofs.«01_k».proof.Proof.HistTrip

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]

local notation "𝕄" => MT nD τ sig (HIx 1) (Elt F) ℕ UU ℕ

variable (d : Dev nD) (L : grid0.Coords)

/-! ## Clearing -/

/-- Zero, as the kernel writes it. -/
abbrev z32 : Elt F .f32 := Scalar.ofBits (F := F) .f32 0x00000000#32

/-- The first `16 n` words of the histogram scratch are zero. -/
def Cleared (n : Nat) : sProp 𝕄 :=
  iprop(∃ f : Buf (Elt F) (hLoc d L), ⌜∀ y : S81920.Idx, (y 0).val < 16 * n → (f y : Elt F .f32) = z32⌝ ∗ (hLoc d L ↦{fullShare} f))

theorem zeroTrip_spec (k : Fin k0_t1_loop.trips) : Cleared (F := F) d L k.val ⊢ WP d L (zeroTrip L k) fun _ => Cleared d L (k.val + 1) := by
  unfold Cleared WP zeroTrip
  iintro ⟨%f, %hf, H⟩
  iapply (wp_load_rect (defs := defs₀ (F := F)) 𝒱₀ (thr d L) none Set.univ (m := Memref.whole cc0_scratch2) (r := Rect.unit (s := S81920) (k0_off1 k) S16.size (k0_off1_inb k))
    (q := fullShare) (f := f) (S := Finset.univ) (Finset.subset_univ _)) $$ [H]
  · iexact H
  iintro H
  iapply (wp_store (defs := defs₀ (F := F)) 𝒱₀ (thr d L) none Set.univ (m := Memref.whole cc0_scratch2) (r := Rect.unit (s := S81920) (k0_off1 k) S16.size (k0_off1_inb k))
    (Mk := Finset.univ) (f := f) (S := Finset.univ) (Finset.subset_univ _)) $$ [H]
  · iexact H
  iintro H
  rw [show ((Prog.ret PUnit.unit).bind fun (_ : PUnit) => (Pure.pure PUnit.unit : Prog (PT F L) PUnit)) = Prog.ret PUnit.unit from rfl, wp_ret]
  imodintro
  iexists _
  isplitr
  swap
  · iexact H
  · ipureintro
    intro y hy
    by_cases h : (y 0).val < 16 * k.val
    · refine Eq.trans (View.write_of_not_mem (Val := Elt F) (v := (Memref.whole cc0_scratch2 : Memref sig .scVector _ _ _).access (Rect.unit (s := S81920) (k0_off1 k) S16.size (k0_off1_inb k))) f (broadcast S16 z32) Finset.univ ?_) (hf y h)
      intro hm
      obtain ⟨x, -, hx⟩ := Finset.mem_map.mp hm
      have h3 := congrArg (fun z : S81920.Idx => (z (0 : Fin 1)).val) hx
      have h4 : k0_off1 k 0 + 1 * (x 0).val = (y 0).val := h3
      have h6 : k0_off1 k 0 = 16 * k.val := congrFun (k0_off1_eq k) 0
      rw [h6] at h4
      omega
    · have hlt : (y 0).val - 16 * k.val < 16 := by omega
      have e : y = ((Memref.whole cc0_scratch2 : Memref sig .scVector _ _ _).access (Rect.unit (s := S81920) (k0_off1 k) S16.size (k0_off1_inb k))).emb
          (Shape.ofLane (d := ![16]) ⟨(y 0).val - 16 * k.val, hlt⟩) := by
        refine idx1_ext ?_
        show (y 0).val = k0_off1 k 0 + 1 * ((y 0).val - 16 * k.val)
        rw [k0_off1_eq]
        show (y 0).val = 16 * k.val + 1 * ((y 0).val - 16 * k.val)
        omega
      rw [e]
      exact View.write_emb_of_mem (Val := Elt F) (v := (Memref.whole cc0_scratch2 : Memref sig .scVector _ _ _).access (Rect.unit (s := S81920) (k0_off1 k) S16.size (k0_off1_inb k))) f (broadcast S16 z32) (Finset.mem_univ _)

theorem zeroLoop_spec : iprop(∃ f : Buf (Elt F) (hLoc d L), hLoc d L ↦{fullShare} f) ⊢ WP d L (zeroLoop L) fun _ => Hist d L hZero := by
  unfold WP zeroLoop
  iintro ⟨%f, HH⟩
  iapply (Scf.wp_for frame (wpE (defs₀ (F := F)) 𝒱₀ (thr d L) none) Set.univ _ _ _ k0_t1_ok _ _
    (fun n _ => Cleared d L n) (fun k _ => zeroTrip_spec d L k))
  isplitl [HH]
  · unfold Cleared
    iexists f
    isplitr; · ipureintro; intro y hy; exact absurd hy (by omega)
    iexact HH
  iintro %_ HH
  unfold Cleared Hist
  icases HH with ⟨%g, %hg, HH⟩
  iexists g
  isplitr
  · ipureintro
    intro j
    funext x
    have h1 := hEmb j x
    have h2 : (x 0).val < 4096 := (x 0).isLt
    refine hg (((hB j).access (.whole S4096)).emb x) (lt_of_eq_of_lt h1 ?_)
    have h3 : 5120 ≤ k0_t1_loop.trips := by decide
    have h4 := j.isLt
    show 4096 * j.val + (x 0).val < 16 * k0_t1_loop.trips
    omega
  iexact HH

/-! ## Summing -/

theorem gIx_nat (k : Fin 16) (l : Nat) (hl : l < 16) :
    addi (muli (addi (broadcast S16 (BitVec.ofNat 32 (16 * k.val))) lanes) (broadcast S16 16#32))
      (andi (addi lanes (broadcast S16 (BitVec.ofNat 32 l))) (broadcast S16 15#32)) = gIx k (Fin.ofNat 16 l) := by
  unfold gIx
  rw [show (Fin.ofNat 16 l).val = l from Nat.mod_eq_of_lt hl]

theorem gAcc_spec (H : HT F) (j : Fin 20) (k : Fin 16) (l : Nat) (hl : l < 16) {kk : FVec F S16 .f32 → Prog (PT F L) PUnit} {Q : PUnit → sProp 𝕄} :
    Hist d L H ⊢ iprop((Hist d L H -∗ WP d L (kk (redAcc (H j) k (l + 1))) Q)
      -∗ WP d L (gAcc L (hB j) lanes (BitVec.ofNat 32 (16 * k.val)) (BitVec.ofNat 32 l) (redAcc (H j) k l) >>= kk) Q) := by
  unfold gAcc
  generalize hix : addi (muli (addi (broadcast S16 (BitVec.ofNat 32 (16 * k.val))) lanes) (broadcast S16 16#32))
      (andi (addi lanes (broadcast S16 (BitVec.ofNat 32 l))) (broadcast S16 15#32)) = ix
  rw [gIx_nat k l hl] at hix
  subst hix
  have e : WP d L (((do
      have hw : k0_chk9 (gIx k (Fin.ofNat 16 l)) := (← Prog.lift (TpuEff.assume (k0_chk9 (gIx k (Fin.ofNat 16 l))) (k0_chk9.dec (gIx k (Fin.ofNat 16 l))))).down
      let x : Vec F S16 .f32 ← SparseCore.vectorLoadIdx (hB j) ![gIx k (Fin.ofNat 16 l)] (k0_idx41_inb (gIx k (Fin.ofNat 16 l)) hw) (View.loads_vmem h_S4096)
      pure (addf (redAcc (H j) k l) x)) : Prog (PT F L) (FVec F S16 .f32)) >>= kk) Q
    = WP d L (SparseCore.vectorLoadIdx (hB j) ![gIx k (Fin.ofNat 16 l)] (k0_idx41_inb (gIx k (Fin.ofNat 16 l)) (chk9 k (Fin.ofNat 16 l))) (View.loads_vmem h_S4096)
        >>= fun x => kk (addf (redAcc (H j) k l) x)) Q :=
    wp_assume_of (c := thr d L) (bd := none) (E := Set.univ) (h := chk9 k (Fin.ofNat 16 l))
  rw [e]
  unfold WP Hist
  iintro ⟨%f, %hf, H⟩ HK
  iapply (SparseCore.wp_vectorLoadIdx (defs := defs₀ (F := F)) 𝒱₀ (thr d L) none Set.univ (q := fullShare) (f := f) (S := Finset.univ) (Finset.subset_univ _)) $$ [H]
  · iexact H
  iintro H
  have e2 : ((hB j).access (.whole S4096)).read (Elt F) f = H j := hf j
  rw [e2]
  iapply HK
  iexists f
  isplitr; · ipureintro; exact hf
  iexact H

theorem gSum_spec (H : HT F) (j : Fin 20) (k : Fin 16) {kk : FVec F S16 .f32 → Prog (PT F L) PUnit} {Q : PUnit → sProp 𝕄} :
    Hist d L H ⊢ iprop((Hist d L H -∗ WP d L (kk (redAcc (H j) k 16)) Q)
      -∗ WP d L (gSum L (hB j) lanes (BitVec.ofNat 32 (16 * k.val)) >>= kk) Q) := by
  unfold gSum
  simp only [bind_assoc]
  iintro HH HK
  iapply (gAcc_spec d L H j k 0 (by decide)) $$ HH
  iintro HH
  iapply (gAcc_spec d L H j k 1 (by decide)) $$ HH
  iintro HH
  iapply (gAcc_spec d L H j k 2 (by decide)) $$ HH
  iintro HH
  iapply (gAcc_spec d L H j k 3 (by decide)) $$ HH
  iintro HH
  iapply (gAcc_spec d L H j k 4 (by decide)) $$ HH
  iintro HH
  iapply (gAcc_spec d L H j k 5 (by decide)) $$ HH
  iintro HH
  iapply (gAcc_spec d L H j k 6 (by decide)) $$ HH
  iintro HH
  iapply (gAcc_spec d L H j k 7 (by decide)) $$ HH
  iintro HH
  iapply (gAcc_spec d L H j k 8 (by decide)) $$ HH
  iintro HH
  iapply (gAcc_spec d L H j k 9 (by decide)) $$ HH
  iintro HH
  iapply (gAcc_spec d L H j k 10 (by decide)) $$ HH
  iintro HH
  iapply (gAcc_spec d L H j k 11 (by decide)) $$ HH
  iintro HH
  iapply (gAcc_spec d L H j k 12 (by decide)) $$ HH
  iintro HH
  iapply (gAcc_spec d L H j k 13 (by decide)) $$ HH
  iintro HH
  iapply (gAcc_spec d L H j k 14 (by decide)) $$ HH
  iintro HH
  iapply (gAcc_spec d L H j k 15 (by decide)) $$ HH
  iintro HH
  iapply HK
  iexact HH

/-- The first `16 n` words of the row scratch are those of `v`. -/
def RowTo (v : Vec F S256 .f32) (n : Nat) : sProp 𝕄 :=
  iprop(∃ f : Buf (Elt F) (rLoc d L), ⌜∀ y : S256.Idx, (y 0).val < 16 * n → (f y : Elt F .f32) = v y⌝ ∗ (rLoc d L ↦{fullShare} f))

theorem iv16 (k : Fin k0_t5_loop.trips) : Scalar.addi 0#32 (Scalar.muli (Scf.iv 0#32 1#32 k) 16#32) = BitVec.ofNat 32 (16 * k.val) := by
  revert k; decide +kernel

theorem redTrip_spec (H : HT F) (j : Fin 20) (k : Fin k0_t5_loop.trips) :
    iprop(Hist d L H ∗ RowTo d L (redRow (H j)) k.val) ⊢ WP d L (redTrip L (hB j) (Memref.whole cc0_scratch3) lanes k) fun _ =>
      iprop(Hist d L H ∗ RowTo d L (redRow (H j)) (k.val + 1)) := by
  have hk : k.val < 16 := lt_of_lt_of_eq k.isLt (by decide)
  unfold redTrip
  rw [iv16]
  iintro ⟨HH, HR⟩
  iapply (gSum_spec d L H j ⟨k.val, hk⟩) $$ HH
  iintro HH
  unfold RowTo WP
  icases HR with ⟨%f, %hf, HR⟩
  iapply (wp_load_rect (defs := defs₀ (F := F)) 𝒱₀ (thr d L) none Set.univ (m := Memref.whole cc0_scratch3) (r := Rect.unit (s := S256) (k0_off14 k) S16.size (k0_off14_inb k))
    (q := fullShare) (f := f) (S := Finset.univ) (Finset.subset_univ _)) $$ [HR]
  · iexact HR
  iintro HR
  iapply (wp_store (defs := defs₀ (F := F)) 𝒱₀ (thr d L) none Set.univ (m := Memref.whole cc0_scratch3) (r := Rect.unit (s := S256) (k0_off14 k) S16.size (k0_off14_inb k))
    (Mk := Finset.univ) (f := f) (S := Finset.univ) (Finset.subset_univ _)) $$ [HR]
  · iexact HR
  iintro HR
  rw [show ((Prog.ret PUnit.unit).bind fun (_ : PUnit) => (Pure.pure PUnit.unit : Prog (PT F L) PUnit)) = Prog.ret PUnit.unit from rfl, wp_ret]
  imodintro
  isplitl [HH]; · iexact HH
  iexists _
  isplitr
  swap
  · iexact HR
  · ipureintro
    intro y hy
    by_cases h : (y 0).val < 16 * k.val
    · refine Eq.trans (View.write_of_not_mem (Val := Elt F) (v := (Memref.whole cc0_scratch3 : Memref sig .scVector _ _ _).access (Rect.unit (s := S256) (k0_off14 k) S16.size (k0_off14_inb k))) f (redAcc (H j) ⟨k.val, hk⟩ 16) Finset.univ ?_) (hf y h)
      intro hm
      obtain ⟨x, -, hx⟩ := Finset.mem_map.mp hm
      have h3 := congrArg (fun z : S256.Idx => (z (0 : Fin 1)).val) hx
      have h4 : k0_off14 k 0 + 1 * (x 0).val = (y 0).val := h3
      have h6 : k0_off14 k 0 = 16 * k.val := congrFun (k0_off14_eq k) 0
      rw [h6] at h4
      omega
    · have hlt : (y 0).val - 16 * k.val < 16 := by omega
      have e : y = ((Memref.whole cc0_scratch3 : Memref sig .scVector _ _ _).access (Rect.unit (s := S256) (k0_off14 k) S16.size (k0_off14_inb k))).emb
          (Shape.ofLane (d := ![16]) ⟨(y 0).val - 16 * k.val, hlt⟩) := by
        refine idx1_ext ?_
        show (y 0).val = k0_off14 k 0 + 1 * ((y 0).val - 16 * k.val)
        rw [k0_off14_eq]
        show (y 0).val = 16 * k.val + 1 * ((y 0).val - 16 * k.val)
        omega
      refine Eq.trans (congrArg _ e) (Eq.trans (View.write_emb_of_mem (Val := Elt F) (v := (Memref.whole cc0_scratch3 : Memref sig .scVector _ _ _).access (Rect.unit (s := S256) (k0_off14 k) S16.size (k0_off14_inb k))) f (redAcc (H j) ⟨k.val, hk⟩ 16) (Finset.mem_univ _)) ?_)
      show redAcc (H j) ⟨k.val, hk⟩ 16 (Shape.ofLane (d := ![16]) ⟨(y 0).val - 16 * k.val, hlt⟩) = redRow (H j) y
      unfold redRow
      congr 1
      · congr 1
        omega
      · refine idx1_ext ?_
        show (y 0).val - 16 * k.val = (y 0).val % 16
        omega

theorem redLoop_spec (H : HT F) (j : Fin 20) :
    iprop(Hist d L H ∗ ∃ f : Buf (Elt F) (rLoc d L), rLoc d L ↦{fullShare} f) ⊢ WP d L (redLoop L (hB j) (Memref.whole cc0_scratch3) lanes) fun _ =>
      iprop(Hist d L H ∗ ∃ f : Buf (Elt F) (rLoc d L), ⌜(Memref.whole cc0_scratch3 : Memref sig .scVector _ _ _).view.read (Elt F) f = redRow (H j)⌝ ∗ (rLoc d L ↦{fullShare} f)) := by
  unfold WP redLoop
  iintro ⟨HH, ⟨%f, HR⟩⟩
  iapply (Scf.wp_for frame (wpE (defs₀ (F := F)) 𝒱₀ (thr d L) none) Set.univ _ _ _ k0_t5_ok _ _
    (fun n _ => iprop(Hist d L H ∗ RowTo d L (redRow (H j)) n)) (fun k _ => redTrip_spec d L H j k))
  isplitl [HH HR]
  · isplitl [HH]; · iexact HH
    unfold RowTo
    iexists f
    isplitr; · ipureintro; intro y hy; exact absurd hy (by omega)
    iexact HR
  iintro %_ ⟨HH, HR⟩
  isplitl [HH]; · iexact HH
  unfold RowTo
  icases HR with ⟨%g, %hg, HR⟩
  iexists g
  isplitr
  · ipureintro
    funext y
    have h3 : 16 ≤ k0_t5_loop.trips := by decide
    have h4 : (y 0).val < 256 := (y 0).isLt
    exact hg y (show (y 0).val < 16 * k0_t5_loop.trips by omega)
  iexact HR

/-! ## Copying a row out -/

/-- The result array, the tile's view of it. -/
abbrev oLoc : Loc nD τ sig := (thr d L).loc main_v7_scv

/-- Row `j` of the result, at any contents, and the semaphore of its copy. -/
def Todo (j : Fin 20) : sProp 𝕄 :=
  iprop((∃ f : Buf (Elt F) (oLoc d L), oLoc d L ↦[(oRow L j).view.set]{fullShare} f) ∗ semVal (sig := sig) (thr d L, .dma (oSem j).sem) (0 : Nat))

/-- Row `j` of the result, holding `v`. -/
def Done (v : Vec F S256 .f32) (j : Fin 20) : sProp 𝕄 :=
  iprop((∃ f : Buf (Elt F) (oLoc d L), ⌜(oRow L j).view.read (Elt F) f = v⌝ ∗ (oLoc d L ↦[(oRow L j).view.set]{fullShare} f)) ∗ semVal (sig := sig) (thr d L, .dma (oSem j).sem) (0 : Nat))

/-- The row scratch at any contents. -/
def RowAny : sProp 𝕄 := iprop(∃ f : Buf (Elt F) (rLoc d L), rLoc d L ↦{fullShare} f)

/-- What the copy of row `j` delivers. -/
abbrev oDlv (j : Fin 20) (fs : Buf (Elt F) (rLoc d L)) : Fin 1 → sProp 𝕄 :=
  fun _ => dlv d L (Memref.whole cc0_scratch3) (oRow L j) fullShare fs

theorem outRow_spec (O : CellTallies nD τ sig (HIx 1)) (H : HT F) (j : Fin 20) :
    iprop(Hist d L H ∗ RowAny d L ∗ Todo d L j ∗ OW d L O) ⊢ WP d L (outRow L lanes j) fun _ =>
      iprop(Hist d L H ∗ RowAny d L ∗ Done d L (redRow (H j)) j ∗ OW d L O) := by
  unfold outRow
  iintro ⟨HH, HR, HT, HO⟩
  iapply (wp_seq (redLoop_spec d L H j)) $$ [HH HR]
  · isplitl [HH]; · iexact HH
    unfold RowAny
    iexact HR
  iintro ⟨HH, ⟨%f, %hf, HR⟩⟩
  unfold WP Todo Done RowAny enqO waitO OW
  icases HT with ⟨⟨%fo, Ho⟩, Hv⟩
  icases HO with ⟨#Hmw, ⟨%W, HO⟩⟩
  haveI : ∀ t : Fin 1, BI.Storable (upEmb : UEmb _ 𝕄) (oDlv d L j f t) := fun _ => dlv_storable d L (Memref.whole cc0_scratch3) (oRow L j) fullShare f
  imod (batch_alloc' (EC (F := F)) (thr d L) (default : HIx 1) (oRow L j).view.dmaCredit (oDlv d L j f) (sm := .dma (oSem j).sem) (E := Set.univ)) $$ Hv with HB
  iapply (wp_dmaBatch (EC (F := F)) 𝒱₀ (thr d L) none (src := Memref.whole cc0_scratch3) (dst := oRow L j) (sm := .dma (oSem j).sem) (fs := f) (q := fullShare) (via := ReadAs.same) (D := oDlv d L j f) (j := 0)
    (default : HIx 1) (oRow L j).view.dmaCredit rfl (Finset.Subset.refl _) Nat.one_pos (Nat.zero_le _) (dlv_intro d L (Memref.whole cc0_scratch3) (oRow L j) fullShare f fo)) $$ [HR Ho HB]
  · isplitl [HR]
    · rw [show (Memref.whole cc0_scratch3 : Memref sig .scVector _ _ _).view.set = Finset.univ from View.set_whole _]
      iexact HR
    isplitl [Ho]; · iexact Ho
    iexact HB
  iintro HB
  ihave Hm := (MayWaits.elim (SemLoc.dma (oSem j).sem)) $$ Hmw
  iapply (wp_waitBatchLastO (EC (F := F)) 𝒱₀ (thr d L) none (srcw := Memref.whole cc0_scratch3) (dstw := oRow L j) (default : HIx 1) (N := (oRow L j).view.dmaCredit) rfl
    (View.dmaCredit_pos _ (by decide)) (n := 1) (D := oDlv d L j f) (u := 0) (by omega)) $$ [HB HO Hm]
  · isplitl [HB]; · iexact HB
    isplitl [HO]; · iexact HO
    iexact Hm
  iintro ⟨HD, Hv, HO⟩
  rw [wp_ret]
  imodintro
  ihave HD' := (Entails.of_eq (bigSep_univ_of_subsingleton (0 : Fin 1))) $$ HD
  unfold oDlv dlv
  rw [show (Memref.whole cc0_scratch3 : Memref sig .scVector _ _ _).view.set = Finset.univ from View.set_whole _]
  icases HD' with ⟨%g, %hg, Ho, HR⟩
  isplitl [HH]; · iexact HH
  isplitl [HR]
  · iexists f
    iexact HR
  isplitl [Ho Hv]
  · isplitl [Ho]
    · iexists g
      isplitr; · ipureintro; exact hg.trans hf
      iexact Ho
    iexact Hv
  isplitr; · iexact Hmw
  iexists _
  iexact HO

/-- The rows when the last `n` are still to do. -/
def Rows (H : HT F) (n : Nat) : sProp 𝕄 :=
  bigSep Finset.univ fun j : Fin 20 => if j.val + n < 20 then Done d L (redRow (H j)) j else Todo d L j

theorem outRows_spec (O : CellTallies nD τ sig (HIx 1)) (H : HT F) : ∀ n : Nat, n ≤ 20 →
    iprop(Hist d L H ∗ RowAny d L ∗ Rows d L H n ∗ OW d L O) ⊢ WP d L (outRows L lanes n) fun _ =>
      iprop(Hist d L H ∗ RowAny d L ∗ Rows d L H 0 ∗ OW d L O)
  | 0, _ => by
    unfold WP outRows
    show _ ⊢ wp _ _ _ (Prog.ret _) _
    rw [wp_ret]
    iintro H
    imodintro
    iexact H
  | n + 1, hn => by
    unfold outRows
    have hj : (Fin.ofNat 20 (19 - n)).val = 19 - n := Nat.mod_eq_of_lt (by omega)
    have e1 : (Rows d L H (n + 1) : sProp 𝕄) = iprop(Todo d L (Fin.ofNat 20 (19 - n))
        ∗ bigSep (Finset.univ.erase (Fin.ofNat 20 (19 - n))) fun j : Fin 20 => if j.val + n < 20 then Done d L (redRow (H j)) j else Todo d L j) := by
      unfold Rows
      rw [bigSep_univ_split (Fin.ofNat 20 (19 - n)), if_neg (by omega)]
      congr 1
      refine bigSep_congr fun j hj' => ?_
      have hne : j.val ≠ 19 - n := fun h => (Finset.mem_erase.mp hj').1 (Fin.ext (h.trans hj.symm))
      by_cases h : j.val + n < 20
      · rw [if_pos h, if_pos (by omega)]
      · rw [if_neg h, if_neg (by omega)]
    have e2 : (Rows d L H n : sProp 𝕄) = iprop(Done d L (redRow (H (Fin.ofNat 20 (19 - n)))) (Fin.ofNat 20 (19 - n))
        ∗ bigSep (Finset.univ.erase (Fin.ofNat 20 (19 - n))) fun j : Fin 20 => if j.val + n < 20 then Done d L (redRow (H j)) j else Todo d L j) := by
      unfold Rows
      rw [bigSep_univ_split (Fin.ofNat 20 (19 - n)), if_pos (by omega)]
      rfl
    rw [e1]
    iintro ⟨HH, HR, ⟨HT, HS⟩, HO⟩
    iapply (wp_seq (outRow_spec d L O H (Fin.ofNat 20 (19 - n)))) $$ [HH HR HT HO]
    · isplitl [HH]; · iexact HH
      isplitl [HR]; · iexact HR
      isplitl [HT]; · iexact HT
      iexact HO
    iintro ⟨HH, HR, HT, HO⟩
    iapply (outRows_spec O H n (by omega))
    isplitl [HH]; · iexact HH
    isplitl [HR]; · iexact HR
    isplitl [HT HS]
    · rw [e2]
      isplitl [HT]; · iexact HT
      iexact HS
    iexact HO

end Cert.Proof.HistIdeal
-- ==== Proof.HistOffs.lean ====
/-
  The offsets of the histogram kernel's copies in closed form: subcore `s` of core `c` reads row `s` of the packed codes and rows
  `2 c`, `2 c + 1`, `2 c + 2` of the packed gradients, a chunk of 4096 columns at a time, and writes the rows of the result for its
  five batch rows and its four subspaces.
-/
module

public import proofs.«01_k».proof.Proof.HistRow

@[expose] public section

noncomputable section

namespace Cert.Proof.HistIdeal

open Cert.HistIdeal Cert.HistIdeal.Gen

open Idealize.ShloMosaic

theorem two_ext {f : Fin 2 → Nat} {a b : Nat} (h0 : f 0 = a) (h1 : f 1 = b) : f = ![a, b] := by
  funext x
  match x with
  | 0 => exact h0
  | 1 => exact h1

theorem off2_0 : ∀ i : grid0.Coords, k0_off2 i 0 = (i 1).val := by decide +kernel
theorem off2_eq (i : grid0.Coords) : k0_off2 i = ![(i 1).val, 4096 * 0] := two_ext (off2_0 i) rfl
theorem off3_0 : ∀ (i : grid0.Coords) (p : Fin 3), k0_off3 i (BitVec.ofNat 32 p.val) 0 = 2 * (i 0).val + p.val := by decide +kernel
theorem off3_eq (i : grid0.Coords) (p : Fin 3) : k0_off3 i (BitVec.ofNat 32 p.val) = ![2 * (i 0).val + p.val, 4096 * 0] := two_ext (off3_0 i p) rfl

/-- One tile's coordinates, to evaluate what does not depend on them. -/
def i00 : grid0.Coords := fun | ⟨0, _⟩ => (⟨0, by decide⟩ : Fin 2) | ⟨1, _⟩ => (⟨0, by decide⟩ : Fin 16)

theorem off4_1 : ∀ t : Fin k0_t2_loop.trips, k0_off4 i00 t 1 = 4096 * (2 * t.val + 1) := by decide +kernel
theorem off4_eq (i : grid0.Coords) (t : Fin k0_t2_loop.trips) : k0_off4 i t = ![(i 1).val, 4096 * (2 * t.val + 1)] := two_ext (off2_0 i) (off4_1 t)
theorem off5_1 : ∀ t : Fin k0_t2_loop.trips, k0_off5 i00 t 0#32 1 = 4096 * (2 * t.val + 1) := by decide +kernel
theorem off5_eq (i : grid0.Coords) (t : Fin k0_t2_loop.trips) (p : Fin 3) : k0_off5 i t (BitVec.ofNat 32 p.val) = ![2 * (i 0).val + p.val, 4096 * (2 * t.val + 1)] :=
  two_ext (off3_0 i p) (off5_1 t)

theorem off10_1 : ∀ t : Fin k0_t2_loop.trips, k0_off10 i00 t 1 = 4096 * (2 * (t.val + 1)) := by decide +kernel
theorem off10_eq (i : grid0.Coords) (t : Fin k0_t2_loop.trips) : k0_off10 i t = ![(i 1).val, 4096 * (2 * (t.val + 1))] := two_ext (off2_0 i) (off10_1 t)
theorem off11_1 : ∀ t : Fin k0_t2_loop.trips, k0_off11 i00 t 0#32 1 = 4096 * (2 * (t.val + 1)) := by decide +kernel
theorem off11_eq (i : grid0.Coords) (t : Fin k0_t2_loop.trips) (p : Fin 3) : k0_off11 i t (BitVec.ofNat 32 p.val) = ![2 * (i 0).val + p.val, 4096 * (2 * (t.val + 1))] :=
  two_ext (off3_0 i p) (off11_1 t)

theorem cond1_iff : ∀ t : Fin k0_t2_loop.trips, k0_cond1 t = 1#1 ↔ t.val + 1 < 256 := by decide +kernel

theorem off15_eq : ∀ (i : grid0.Coords) (b : Fin 5) (m : Fin 4), k0_off15 i (BitVec.ofNat 32 b.val) (BitVec.ofNat 32 m.val) = ![5 * (i 0).val + b.val, 4 * (i 1).val + m.val, 0] := by
  decide +kernel

theorem half_eq : ∀ i : grid0.Coords, half i = BitVec.ofNat 32 (i 0).val := by decide +kernel

end Cert.Proof.HistIdeal
-- ==== Proof.HistTile.lean ====
/-
  One tile of the histogram kernel: what its copies bring in, what its main loop makes of them, and what it writes to the result.
-/
module

public import proofs.«01_k».proof.Proof.HistOffs

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]

local notation "𝕄" => MT nD τ sig (HIx 1) (Elt F) ℕ UU ℕ

/-- The index of column `c` of row `r`. -/
def ix2 {a b : Nat} (r : Fin a) (c : Fin b) : (⟨2, ![a, b]⟩ : Shape).Idx := fun | ⟨0, _⟩ => r | ⟨1, _⟩ => c

theorem ix2_ext {a b : Nat} {x y : (⟨2, ![a, b]⟩ : Shape).Idx} (h0 : (x 0).val = (y 0).val) (h1 : (x 1).val = (y 1).val) : x = y := by
  funext z
  match z with
  | ⟨0, _⟩ => exact Fin.ext h0
  | ⟨1, _⟩ => exact Fin.ext h1

/-- Column `x` of chunk `n`. -/
def col (n : Nat) (x : S4096.Idx) : Fin 2097152 := ⟨(4096 * n + (x 0).val) % 2097152, Nat.mod_lt _ (by decide)⟩

/-- The row of the packed gradients that is word row `p` of core `c`. -/
def gRow (c : Fin 2) (p : Fin 3) : Fin 5 := ⟨2 * c.val + p.val, by omega⟩

/-- Chunk `n` of row `s` of the packed codes, and of the three rows of the packed gradients that core `c` reads. -/
def cWord (C : Vec F S16x2097152 .i32) (s : Fin 16) (n : Nat) : Vec F S4096 .i32 := fun x => C (ix2 s (col n x))
@[inherit_doc cWord] def gWord (G : Vec F S5x2097152 .i32) (c : Fin 2) (n : Nat) (p : Fin 3) : Vec F S4096 .i32 := fun x => G (ix2 (gRow c p) (col n x))

/-- A tile's histogram after `n` chunks. -/
def HH (C : Vec F S16x2097152 .i32) (G : Vec F S5x2097152 .i32) (c : Fin 2) (s : Fin 16) : Nat → HT F
  | 0 => hZero
  | n + 1 => tripsH (BitVec.ofNat 32 c.val) (cWord C s n) (gWord G c n) (HH C G c s n) 256

variable (d : Dev nD) (L : grid0.Coords)

/-- The tile's core and its subcore. -/
abbrev co : Fin 2 := L 0
@[inherit_doc co] abbrev su : Fin 16 := L 1

variable (fC : Buf (Elt F) (cLoc d L)) (fG : Buf (Elt F) (gLoc d L))

theorem cS_read (n : Nat) (hn : n < 512) (o : Fin 2 → Nat) (ho : o = ![(L 1).val, 4096 * n]) (h : ∀ a, o a + S1x4096.size a ≤ S16x2097152.size a) :
    (cS o h).view.read (Elt F) fC = cWord (F := F) fC (su L) n := by
  funext x
  have hx : (x 0).val < 4096 := (x 0).isLt
  have e : (cS o h).view.emb x = ix2 (su L) (col n x) := by
    show ((Memref.whole main_v3_scv : Memref sig .scVector _ _ _).view.slice (Rect.unit (s := S16x2097152) o S1x4096.size h)).emb (Shape.reshapeEquiv _ x) = _
    rw [show Shape.reshapeEquiv _ x = _ from Shape.reshapeEquiv_cons_one (d := ![4096]) _ x]
    subst ho
    refine ix2_ext ?_ ?_
    · show (L 1).val + 1 * 0 = (L 1).val
      omega
    · show 4096 * n + 1 * (x 0).val = (4096 * n + (x 0).val) % 2097152
      rw [Nat.mod_eq_of_lt (by omega)]
      omega
  exact congrArg (fun y => (fC y : Elt F .i32)) e

theorem gS_read (n : Nat) (hn : n < 512) (p : Fin 3) (o : Fin 2 → Nat) (ho : o = ![2 * (L 0).val + p.val, 4096 * n]) (h : ∀ a, o a + S1x4096.size a ≤ S5x2097152.size a) :
    (gS o h).view.read (Elt F) fG = gWord (F := F) fG (co L) n p := by
  funext x
  have hx : (x 0).val < 4096 := (x 0).isLt
  have e : (gS o h).view.emb x = ix2 (gRow (co L) p) (col n x) := by
    show ((Memref.whole main_v6_scv : Memref sig .scVector _ _ _).view.slice (Rect.unit (s := S5x2097152) o S1x4096.size h)).emb (Shape.reshapeEquiv _ x) = _
    rw [show Shape.reshapeEquiv _ x = _ from Shape.reshapeEquiv_cons_one (d := ![4096]) _ x]
    subst ho
    refine ix2_ext ?_ ?_
    · show 2 * (L 0).val + p.val + 1 * 0 = 2 * (L 0).val + p.val
      omega
    · show 4096 * n + 1 * (x 0).val = (4096 * n + (x 0).val) % 2097152
      rw [Nat.mod_eq_of_lt (by omega)]
      omega
  exact congrArg (fun y => (fG y : Elt F .i32)) e

variable (q : Fin 2 → PosShare TreeShare) (qg : Fin 2 → Fin 3 → PosShare TreeShare)

theorem wp_post {A : sProp 𝕄} {p : Prog (PT F L) PUnit} {Q Q' : PUnit → sProp 𝕄} (h : A ⊢ WP d L p Q) (hQ : ∀ a, Q a ⊢ Q' a) : A ⊢ WP d L p Q' := by
  unfold WP at *
  exact h.trans (wp_mono _ _ _ hQ)

theorem wp_last {A B : sProp 𝕄} {p : Prog (PT F L) PUnit} {Q : PUnit → sProp 𝕄} (h : A ⊢ WP d L p fun _ => B) : A ⊢ iprop((B -∗ Q ⟨⟩) -∗ WP d L p Q) := by
  unfold WP at *
  iintro HA HK
  ihave HW := h $$ HA
  iapply (wp_wand_r _ _ _)
  isplitl [HW]; · iexact HW
  iintro %_ HB
  iapply HK
  iexact HB

/-- Slot `s` holding chunk `n`. -/
def Landed (s : Fin 2) (n : Nat) : sProp 𝕄 :=
  iprop(CLand d L fC (q s) s (cWord (F := F) fC (su L) n) ∗ GLand d L fG (qg s) s (gWord (F := F) fG (co L) n))

/-- Slot `s` with nothing in flight. -/
def Idle (s : Fin 2) : sProp 𝕄 := iprop(∃ w wg, CLand d L fC (q s) s w ∗ GLand d L fG (qg s) s wg)

/-- Chunk `n` in flight into slot `s`. -/
def Fly (s : Fin 2) (n : Nat) : sProp 𝕄 :=
  iprop(∃ o h r hr, ⌜o = ![(L 1).val, 4096 * n] ∧ ∀ p : Fin 3, r p = ![2 * (L 0).val + p.val, 4096 * n]⌝ ∗ CFly d L fC (q s) s o h ∗ GFly d L fG (qg s) s r hr)

theorem landed_idle (s : Fin 2) (n : Nat) : Landed d L fC fG q qg s n ⊢ Idle d L fC fG q qg s := by
  unfold Landed Idle
  iintro H
  iexists _; iexists _; iexact H

theorem issue_fly (s : Fin 2) (n : Nat) (o : Fin 2 → Nat) (h : ∀ a, o a + S1x4096.size a ≤ S16x2097152.size a)
    (r : Fin 3 → Fin 2 → Nat) (hr : ∀ p a, r p a + S1x4096.size a ≤ S5x2097152.size a)
    (ho : o = ![(L 1).val, 4096 * n]) (hr' : ∀ p : Fin 3, r p = ![2 * (L 0).val + p.val, 4096 * n]) :
    Idle d L fC fG q qg s ⊢ WP d L (issue L s o h r hr) fun _ => Fly d L fC fG q qg s n := by
  unfold Idle Fly
  iintro ⟨%w, %wg, H⟩
  iapply (wp_post d L (issue_spec d L fC fG (q s) (qg s) s w wg o h r hr) (Q' := fun _ => iprop(∃ o h r hr, ⌜o = ![(L 1).val, 4096 * n] ∧ ∀ p : Fin 3, r p = ![2 * (L 0).val + p.val, 4096 * n]⌝ ∗ CFly d L fC (q s) s o h ∗ GFly d L fG (qg s) s r hr)) (fun _ => by
    iintro H
    iexists o; iexists h; iexists r; iexists hr
    isplitr; · ipureintro; exact ⟨ho, hr'⟩
    iexact H)) $$ H

theorem drain_fly (O : CellTallies nD τ sig (HIx 1)) (s : Fin 2) (n : Nat) (hn : n < 512) (o' : Fin 2 → Nat) (h' : ∀ a, o' a + S1x4096.size a ≤ S16x2097152.size a)
    (r' : Fin 3 → Fin 2 → Nat) (hr' : ∀ p a, r' p a + S1x4096.size a ≤ S5x2097152.size a) :
    iprop(Fly d L fC fG q qg s n ∗ OW d L O) ⊢ WP d L (drain L s o' h' r' hr') fun _ => iprop(Landed d L fC fG q qg s n ∗ OW d L O) := by
  unfold Fly Landed
  iintro ⟨⟨%o, %h, %r, %hr, %he, HC, HG⟩, HO⟩
  rw [← cS_read d L fC n hn o he.1 h, show gWord (F := F) fG (co L) n = fun p => (gS (r p) (hr p)).view.read (Elt F) fG from
    funext fun p => (gS_read d L fG n hn p (r p) (he.2 p) (hr p)).symm]
  iapply (wp_post d L (drain_spec d L fC fG (q s) (qg s) s O o h r hr o' h' r' hr') (fun _ => by
    iintro ⟨HC, HG, HO⟩
    isplitr [HO]
    · isplitl [HC]; · iexact HC
      iexact HG
    iexact HO))
  isplitl [HC]; · iexact HC
  isplitl [HG]; · iexact HG
  iexact HO

theorem landed_slot (s : Fin 2) (n : Nat) : Landed d L fC fG q qg s n ⊢ iprop(Slot d L s (cWord (F := F) fC (su L) n) (gWord (F := F) fG (co L) n)
    ∗ (Slot d L s (cWord (F := F) fC (su L) n) (gWord (F := F) fG (co L) n) -∗ Landed d L fC fG q qg s n)) := by
  unfold Landed Slot CLand GLand
  iintro ⟨⟨HC, HC1, HC2⟩, ⟨⟨H0, H1, H2⟩, HG1, HG2⟩⟩
  isplitl [HC H0 H1 H2]
  · isplitl [HC]; · iexact HC
    isplitl [H0]; · iexact H0
    isplitl [H1]; · iexact H1
    iexact H2
  iintro ⟨HC, H0, H1, H2⟩
  isplitl [HC HC1 HC2]
  · isplitl [HC]; · iexact HC
    isplitl [HC1]; · iexact HC1
    iexact HC2
  isplitl [H0 H1 H2]
  · isplitl [H0]; · iexact H0
    isplitl [H1]; · iexact H1
    iexact H2
  isplitl [HG1]; · iexact HG1
  iexact HG2

/-- The tile's histogram after `n` chunks. -/
def HT' (n : Nat) : HT F := HH (F := F) fC fG (co L) (su L) n

theorem HT'_zero : HT' d L fC fG 0 = hZero := rfl
theorem HT'_succ (n : Nat) : HT' d L fC fG (n + 1) = tripsH (BitVec.ofNat 32 (co L).val) (cWord (F := F) fC (su L) n) (gWord (F := F) fG (co L) n) (HT' d L fC fG n) 256 := rfl

theorem sc0 (n : Nat) : iprop(Landed d L fC fG q qg 0 n ∗ Hist d L (HT' d L fC fG n)) ⊢ WP d L (scLoop0 L (half L) lanes) fun _ =>
    iprop(Landed d L fC fG q qg 0 n ∗ Hist d L (HT' d L fC fG (n + 1))) := by
  rw [HT'_succ]
  generalize HT' d L fC fG n = H
  have h := scLoop0_spec d L (half L) (cWord (F := F) fC (su L) n) (gWord (F := F) fG (co L) n) H
  iintro ⟨HL, HH⟩
  ihave HL' := (landed_slot d L fC fG q qg 0 n) $$ HL
  icases HL' with ⟨HS, HK⟩
  ihave HW := h $$ [HS HH]
  · isplitl [HS] <;> iassumption
  rw [← half_eq L]
  unfold WP
  iapply (wp_wand_r _ _ _)
  isplitl [HW]; · iexact HW
  iintro %_ ⟨HS, HH⟩
  isplitl [HS HK]
  · iapply HK
    iexact HS
  iexact HH

theorem sc1 (n : Nat) : iprop(Landed d L fC fG q qg 1 n ∗ Hist d L (HT' d L fC fG n)) ⊢ WP d L (scLoop1 L (half L) lanes) fun _ =>
    iprop(Landed d L fC fG q qg 1 n ∗ Hist d L (HT' d L fC fG (n + 1))) := by
  rw [HT'_succ]
  generalize HT' d L fC fG n = H
  have h := scLoop1_spec d L (half L) (cWord (F := F) fC (su L) n) (gWord (F := F) fG (co L) n) H
  iintro ⟨HL, HH⟩
  ihave HL' := (landed_slot d L fC fG q qg 1 n) $$ HL
  icases HL' with ⟨HS, HK⟩
  ihave HW := h $$ [HS HH]
  · isplitl [HS] <;> iassumption
  rw [← half_eq L]
  unfold WP
  iapply (wp_wand_r _ _ _)
  isplitl [HW]; · iexact HW
  iintro %_ ⟨HS, HH⟩
  isplitl [HS HK]
  · iapply HK
    iexact HS
  iexact HH

/-- The state between two trips of the main loop. -/
def MainInv (O : CellTallies nD τ sig (HIx 1)) (t : Nat) : sProp 𝕄 :=
  iprop((if t < 256 then Fly d L fC fG q qg 0 (2 * t) else Idle d L fC fG q qg 0) ∗ Idle d L fC fG q qg 1 ∗ Hist d L (HT' d L fC fG (2 * t)) ∗ OW d L O)

theorem trips_t2 : k0_t2_loop.trips = 256 := by decide

/-- The start of the copies of the next chunk, in every trip but the last. -/
def next (t : Fin k0_t2_loop.trips) : Prog (PT F L) PUnit :=
  if h : k0_cond1 t = 1#1 then
    issue L 0 (k0_off10 L t) (k0_off10_inb L t h) (fun p => k0_off11 L t (BitVec.ofNat 32 p.val)) (fun p => k0_off11_inb L t h p)
  else pure ⟨⟩

theorem next_spec (t : Fin k0_t2_loop.trips) :
    Idle d L fC fG q qg 0 ⊢ WP d L (next L t) fun _ => if t.val + 1 < 256 then Fly d L fC fG q qg 0 (2 * (t.val + 1)) else Idle d L fC fG q qg 0 := by
  unfold next
  by_cases h : k0_cond1 t = 1#1
  · rw [dif_pos h]
    have h2 := (cond1_iff t).mp h
    rw [show (fun _ : PUnit => if t.val + 1 < 256 then Fly d L fC fG q qg 0 (2 * (t.val + 1)) else Idle d L fC fG q qg 0) = fun _ => Fly d L fC fG q qg 0 (2 * (t.val + 1)) from funext fun _ => if_pos h2]
    exact issue_fly d L fC fG q qg 0 (2 * (t.val + 1)) _ _ _ _ (off10_eq L t) (off11_eq L t)
  · rw [dif_neg h]
    have h2 : ¬ (t.val + 1 < 256) := fun h' => h ((cond1_iff t).mpr h')
    rw [show (fun _ : PUnit => if t.val + 1 < 256 then Fly d L fC fG q qg 0 (2 * (t.val + 1)) else Idle d L fC fG q qg 0) = fun _ => Idle d L fC fG q qg 0 from funext fun _ => if_neg h2]
    unfold WP
    show _ ⊢ wp _ _ _ (Prog.ret _) _
    rw [wp_ret]
    iintro H
    imodintro
    iexact H

theorem chunkTrip_eq (v28 : BitVec 32) (ln : IVec S16 32) (t : Fin k0_t2_loop.trips) : chunkTrip (F := F) L v28 ln t = (do
    issue L 1 (k0_off4 L t) (k0_off4_inb L t) (fun p => k0_off5 L t (BitVec.ofNat 32 p.val)) (fun p => k0_off5_inb L t p)
    drain L 0 (k0_off6 L t) (k0_off6_inb L t) (fun p => k0_off7 L t (BitVec.ofNat 32 p.val)) (fun p => k0_off7_inb L t p)
    scLoop0 L v28 ln
    next L t
    drain L 1 (k0_off4 L t) (k0_off4_inb L t) (fun p => k0_off5 L t (BitVec.ofNat 32 p.val)) (fun p => k0_off5_inb L t p)
    scLoop1 L v28 ln) := by
  unfold chunkTrip next
  by_cases h : k0_cond1 t = 1#1
  · simp only [dif_pos h]
  · simp only [dif_neg h]
    rfl

theorem chunkTrip_spec (O : CellTallies nD τ sig (HIx 1)) (t : Fin k0_t2_loop.trips) :
    MainInv d L fC fG q qg O t.val ⊢ WP d L (chunkTrip L (half L) lanes t) fun _ => MainInv d L fC fG q qg O (t.val + 1) := by
  have ht : t.val < 256 := lt_of_lt_of_eq t.isLt trips_t2
  rw [chunkTrip_eq]
  unfold MainInv
  rw [if_pos ht]
  iintro ⟨H0, H1, HH, HO⟩
  iapply (wp_seq (issue_fly d L fC fG q qg 1 (2 * t.val + 1) _ _ _ _ (off4_eq L t) (off5_eq L t))) $$ H1
  iintro H1
  iapply (wp_seq (drain_fly d L fC fG q qg O 0 (2 * t.val) (by omega) _ _ _ _)) $$ [H0 HO]
  · isplitl [H0] <;> iassumption
  iintro ⟨H0, HO⟩
  iapply (wp_seq (sc0 d L fC fG q qg (2 * t.val))) $$ [H0 HH]
  · isplitl [H0] <;> iassumption
  iintro ⟨H0, HH⟩
  ihave H0 := (landed_idle d L fC fG q qg 0 (2 * t.val)) $$ H0
  have hbr := next_spec d L fC fG q qg t
  iapply (wp_seq hbr) $$ H0
  iintro H0
  iapply (wp_seq (drain_fly d L fC fG q qg O 1 (2 * t.val + 1) (by omega) _ _ _ _)) $$ [H1 HO]
  · isplitl [H1] <;> iassumption
  iintro ⟨H1, HO⟩
  iapply (wp_last d L (sc1 d L fC fG q qg (2 * t.val + 1))) $$ [H1 HH]
  · isplitl [H1] <;> iassumption
  iintro ⟨H1, HH⟩
  ihave H1 := (landed_idle d L fC fG q qg 1 (2 * t.val + 1)) $$ H1
  isplitl [H0]; · iexact H0
  isplitl [H1]; · iexact H1
  isplitl [HH]
  · rw [show 2 * (t.val + 1) = 2 * t.val + 1 + 1 from rfl]
    iexact HH
  iexact HO

theorem chunkLoop_spec (O : CellTallies nD τ sig (HIx 1)) :
    MainInv d L fC fG q qg O 0 ⊢ WP d L (chunkLoop L (half L) lanes) fun _ => MainInv d L fC fG q qg O 256 := by
  unfold WP chunkLoop
  iintro H
  iapply (Scf.wp_for frame (wpE (defs₀ (F := F)) 𝒱₀ (thr d L) none) Set.univ _ _ _ k0_t2_ok _ _
    (fun n _ => MainInv d L fC fG q qg O n) (fun t _ => chunkTrip_spec d L fC fG q qg O t))
  isplitl [H]; · iexact H
  iintro %_ H
  rw [show Scf.trips k0_t2_loop.lb k0_t2_loop.ub k0_t2_loop.st = 256 from trips_t2]
  iexact H

theorem rows_all (H : HT F) : (Rows d L H 20 : sProp 𝕄) = bigSep Finset.univ fun j : Fin 20 => Todo d L j := by
  unfold Rows
  exact bigSep_congr fun j _ => if_neg (by omega)

theorem rows_none (H : HT F) : (Rows d L H 0 : sProp 𝕄) = bigSep Finset.univ fun j : Fin 20 => Done d L (redRow (H j)) j := by
  unfold Rows
  exact bigSep_congr fun j _ => if_pos (by omega)

theorem hist_any (H : HT F) : Hist d L H ⊢ iprop(∃ f : Buf (Elt F) (hLoc d L), hLoc d L ↦{fullShare} f) := by
  unfold Hist
  iintro ⟨%f, -, HH⟩
  iexists f
  iexact HH

/-- The tile: from its scratch at any contents, its copies' sources and its rows of the result, to the rows holding what its
    histogram after the 512 chunks sums to. -/
theorem tile_spec (O : CellTallies nD τ sig (HIx 1)) :
    iprop((∃ f : Buf (Elt F) (hLoc d L), hLoc d L ↦{fullShare} f) ∗ RowAny d L ∗ (Idle d L fC fG q qg 0 ∗ Idle d L fC fG q qg 1)
        ∗ (bigSep Finset.univ fun j : Fin 20 => Todo d L j) ∗ OW d L O)
      ⊢ WP d L (tile (F := F) L) fun _ =>
        iprop((∃ f : Buf (Elt F) (hLoc d L), hLoc d L ↦{fullShare} f) ∗ RowAny d L ∗ (Idle d L fC fG q qg 0 ∗ Idle d L fC fG q qg 1)
          ∗ (bigSep Finset.univ fun j : Fin 20 => Done d L (redRow (HT' d L fC fG 512 j)) j) ∗ OW d L O) := by
  unfold tile
  iintro ⟨HH, HR, ⟨H0, H1⟩, HT, HO⟩
  iapply (wp_seq (zeroLoop_spec d L)) $$ HH
  iintro HH
  iapply (wp_seq (issue_fly d L fC fG q qg 0 0 _ _ _ _ (off2_eq L) (off3_eq L))) $$ H0
  iintro H0
  iapply (wp_seq (chunkLoop_spec d L fC fG q qg O)) $$ [H0 H1 HH HO]
  · unfold MainInv
    rw [if_pos (by decide : 0 < 256)]
    isplitl [H0]; · iexact H0
    isplitl [H1]; · iexact H1
    isplitl [HH]; · iexact HH
    iexact HO
  unfold MainInv
  rw [if_neg (by decide : ¬ 256 < 256)]
  iintro ⟨H0, H1, HH, HO⟩
  iapply (wp_last d L (outRows_spec d L O (HT' d L fC fG 512) 20 (by decide))) $$ [HH HR HT HO]
  · isplitl [HH]; · iexact HH
    isplitl [HR]; · iexact HR
    isplitl [HT]
    · rw [rows_all]
      iexact HT
    iexact HO
  rw [rows_none]
  iintro ⟨HH, HR, HT, HO⟩
  isplitl [HH]
  · iapply (hist_any d L _)
    iexact HH
  isplitl [HR]; · iexact HR
  isplitl [H0 H1]
  · isplitl [H0]; · iexact H0
    iexact H1
  isplitl [HT]; · iexact HT
  iexact HO

end Cert.Proof.HistIdeal
-- ==== Proof.HistScratch.lean ====
/-
  What a tile is given whole, in the pieces its program works on: its scratch buffers cut into slots, rows and blocks, its
  semaphores one by one, and the result cut into the rows of all the tiles.
-/
module

public import proofs.«01_k».proof.Proof.HistTile

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]

local notation "𝕄" => MT nD τ sig (HIx 1) (Elt F) ℕ UU ℕ

/-! ## A buffer cut along a function of its index -/

section Fibres

variable {ℓ : Loc nD τ sig} {A : Type} [Fintype A] [DecidableEq A] (K : A → Finset (Idx ℓ)) (φ : Idx ℓ → A) (h : ∀ t x, x ∈ K t ↔ φ x = t)

include h in
theorem fibres_disjoint : ∀ t ∈ (Finset.univ : Finset A), ∀ t' ∈ (Finset.univ : Finset A), t ≠ t' → Disjoint (K t) (K t') :=
  fun t _ t' _ hne => Finset.disjoint_left.mpr fun x hx hx' => hne (((h t x).mp hx).symm.trans ((h t' x).mp hx'))

include h in
theorem fibres_cover : (Finset.univ : Finset A).biUnion K = Finset.univ :=
  Finset.eq_univ_iff_forall.mpr fun x => Finset.mem_biUnion.mpr ⟨φ x, Finset.mem_univ _, (h _ x).mpr rfl⟩

include h in
/-- A whole buffer is its pieces. -/
theorem fibres_split (f : Buf (Elt F) ℓ) : (ℓ ↦{fullShare} f : sProp 𝕄) = bigSep Finset.univ fun t => ℓ ↦[K t]{fullShare} f := by
  rw [← pointsTo_biUnion Finset.univ K (fibres_disjoint K φ h), fibres_cover K φ h]

include h in
/-- Pieces each at contents of its own are a whole buffer at some contents. -/
theorem fibres_join [Nonempty (Buf (Elt F) ℓ)] : (bigSep Finset.univ fun t => iprop(∃ f : Buf (Elt F) ℓ, ℓ ↦[K t]{fullShare} f)) ⊢ (iprop(∃ f : Buf (Elt F) ℓ, ℓ ↦{fullShare} f) : sProp 𝕄) := by
  refine (bigSep_exists_pi Finset.univ (fun t (f : Buf (Elt F) ℓ) => (ℓ ↦[K t]{fullShare} f : sProp 𝕄))).trans ?_
  iintro ⟨%fs, H⟩
  ihave H' := (pointsTo_biUnion_join (ℓ := ℓ) (q := fullShare) (Val := Elt F) Finset.univ K fs (Classical.arbitrary _) (fibres_disjoint K φ h)) $$ H
  icases H' with ⟨%g, -, Hg⟩
  rw [fibres_cover K φ h]
  iexists g; iexact Hg

end Fibres

theorem fin_two (Φ : Fin 2 → sProp 𝕄) : bigSep Finset.univ Φ = iprop(Φ 0 ∗ Φ 1) := bigSep_fin_two Φ

theorem sep_assoc_eq (A B C : sProp 𝕄) : iprop((A ∗ B) ∗ C) = iprop(A ∗ B ∗ C) := by
  refine BI.Entails.antisymm ?_ ?_
  · show iprop((A ∗ B) ∗ C) ⊢ iprop(A ∗ B ∗ C)
    iintro ⟨⟨HA, HB⟩, HC⟩
    isplitl [HA]; · iexact HA
    isplitl [HB]; · iexact HB
    iexact HC
  · show iprop(A ∗ B ∗ C) ⊢ iprop((A ∗ B) ∗ C)
    iintro ⟨HA, HB, HC⟩
    isplitr [HC]
    · isplitl [HA]; · iexact HA
      iexact HB
    iexact HC

/-! ## The slots -/

/-- The elements of a code slot, and of a gradient row. -/
abbrev cSet (s : Fin 2) : Finset S8192.Idx := (cD s).view.set
@[inherit_doc cSet] abbrev gSet (k : Fin 2 × Fin 3) : Finset S24576.Idx := (gD k.1 k.2).view.set

theorem mem_cD (s : Fin 2) (x : S8192.Idx) : x ∈ cSet s ↔ (⟨(x 0).val / 4096, by have : (x 0).val < 8192 := (x 0).isLt; omega⟩ : Fin 2) = s := by
  have hx : (x 0).val < 8192 := (x 0).isLt
  have e : cSet s = (Rect.unit (s := S8192) ![4096 * s.val] S4096.size (cD_inb s)).set := View.set_slice_whole _ _
  rw [e, Rect.mem_set_unit, Fin.forall_fin_one, Fin.ext_iff]
  show 4096 * s.val ≤ (x 0).val ∧ (x 0).val < 4096 * s.val + 4096 ↔ (x 0).val / 4096 = s.val
  omega

theorem mem_gD (k : Fin 2 × Fin 3) (x : S24576.Idx) :
    x ∈ gSet k ↔ ((⟨(x 0).val / 12288, by have : (x 0).val < 24576 := (x 0).isLt; omega⟩, ⟨(x 0).val / 4096 % 3, by omega⟩) : Fin 2 × Fin 3) = k := by
  obtain ⟨s, p⟩ := k
  have hx : (x 0).val < 24576 := (x 0).isLt
  have e : gSet (s, p) = (Rect.unit (s := S24576) ![12288 * s.val + 4096 * p.val] S4096.size (gD_inb s p)).set := View.set_slice_whole _ _
  rw [e, Rect.mem_set_unit, Fin.forall_fin_one, Prod.ext_iff, Fin.ext_iff, Fin.ext_iff]
  show 12288 * s.val + 4096 * p.val ≤ (x 0).val ∧ (x 0).val < 12288 * s.val + 4096 * p.val + 4096 ↔ (x 0).val / 12288 = s.val ∧ (x 0).val / 4096 % 3 = p.val
  omega

/-- The tile at core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The elements of the result that the tile at `k.1`, `k.2.1` writes as its row `k.2.2`. -/
abbrev oSet (k : Fin 2 × Fin 16 × Fin 20) : Finset S10x64x256.Idx := (oRow (coordsV k.1 k.2.1) k.2.2).view.set

/-- The tile and the row that write element `x` of the result. -/
def oOf (x : S10x64x256.Idx) : Fin 2 × Fin 16 × Fin 20 :=
  (⟨(x 0).val / 5, by have : (x 0).val < 10 := (x 0).isLt; omega⟩, ⟨(x 1).val / 4, by have : (x 1).val < 64 := (x 1).isLt; omega⟩,
    ⟨5 * ((x 1).val % 4) + (x 0).val % 5, by omega⟩)

theorem mem_oSet (k : Fin 2 × Fin 16 × Fin 20) (x : S10x64x256.Idx) : x ∈ oSet k ↔ oOf x = k := by
  obtain ⟨c, s, j⟩ := k
  have h0 : (x 0).val < 10 := (x 0).isLt
  have h1 : (x 1).val < 64 := (x 1).isLt
  have h2 : (x 2).val < 256 := (x 2).isLt
  have e : oSet (c, s, j) = (Rect.unit (s := S10x64x256) (k0_off15 (coordsV c s) (BitVec.ofNat 32 (jb j).val) (BitVec.ofNat 32 (jm j).val)) S1x1x256.size
      (k0_off15_inb (coordsV c s) (jb j) (jm j))).set := by
    refine Eq.trans (View.set_reshape _ _) (View.set_slice_whole _ _)
  rw [e, Rect.mem_set_unit, off15_eq]
  have hb : (jb j).val = j.val % 5 := rfl
  have hm : (jm j).val = j.val / 5 := rfl
  have hj := j.isLt
  constructor
  · intro h
    have g0 : 5 * c.val + (jb j).val ≤ (x 0).val ∧ (x 0).val < 5 * c.val + (jb j).val + 1 := h 0
    have g1 : 4 * s.val + (jm j).val ≤ (x 1).val ∧ (x 1).val < 4 * s.val + (jm j).val + 1 := h 1
    refine Prod.ext (Fin.ext ?_) (Prod.ext (Fin.ext ?_) (Fin.ext ?_))
    · show (x 0).val / 5 = c.val
      omega
    · show (x 1).val / 4 = s.val
      omega
    · show 5 * ((x 1).val % 4) + (x 0).val % 5 = j.val
      omega
  · intro h
    have g0 : (x 0).val / 5 = c.val := congrArg (fun y => y.1.val) h
    have g1 : (x 1).val / 4 = s.val := congrArg (fun y => y.2.1.val) h
    have g2 : 5 * ((x 1).val % 4) + (x 0).val % 5 = j.val := congrArg (fun y => y.2.2.val) h
    intro a
    match a with
    | 0 => show 5 * c.val + (jb j).val ≤ (x 0).val ∧ (x 0).val < 5 * c.val + (jb j).val + 1; omega
    | 1 => show 4 * s.val + (jm j).val ≤ (x 1).val ∧ (x 1).val < 4 * s.val + (jm j).val + 1; omega
    | 2 => show 0 ≤ (x 2).val ∧ (x 2).val < 0 + 256; omega

/-! ## The slots of a tile -/

section Slots

variable (d : Dev nD) (L : grid0.Coords)

instance : Nonempty (Buf (Elt F) ((thr d L).loc cc0_scratch0)) := ⟨fun _ => (0#32 : BitVec 32)⟩
instance : Nonempty (Buf (Elt F) ((thr d L).loc cc0_scratch1)) := ⟨fun _ => (0#32 : BitVec 32)⟩

/-- A code slot at any contents, and a gradient row. -/
def cAny (s : Fin 2) : sProp 𝕄 := iprop(∃ f : Buf (Elt F) ((thr d L).loc cc0_scratch0), (thr d L).loc cc0_scratch0 ↦[cSet s]{fullShare} f)
@[inherit_doc cAny] def gAny (k : Fin 2 × Fin 3) : sProp 𝕄 := iprop(∃ f : Buf (Elt F) ((thr d L).loc cc0_scratch1), (thr d L).loc cc0_scratch1 ↦[gSet k]{fullShare} f)

theorem cAny_at (s : Fin 2) : (cAny d L s : sProp 𝕄) ⊢ iprop(∃ w, cAt d L s w) := by
  unfold cAny cAt
  iintro ⟨%f, H⟩
  iexists ((cD s).view.read (Elt F) f); iexists f
  isplitr; · ipureintro; rfl
  iexact H

theorem cAt_any (s : Fin 2) (w : Vec F S4096 .i32) : (cAt d L s w : sProp 𝕄) ⊢ cAny d L s := by
  unfold cAny cAt
  iintro ⟨%f, -, H⟩
  iexists f
  iexact H

theorem gAny_at (k : Fin 2 × Fin 3) : (gAny d L k : sProp 𝕄) ⊢ iprop(∃ w, gAt d L k.1 k.2 w) := by
  unfold gAny gAt
  iintro ⟨%f, H⟩
  iexists ((gD k.1 k.2).view.read (Elt F) f); iexists f
  isplitr; · ipureintro; rfl
  iexact H

theorem gAt_any (k : Fin 2 × Fin 3) (w : Vec F S4096 .i32) : (gAt d L k.1 k.2 w : sProp 𝕄) ⊢ gAny d L k := by
  unfold gAny gAt
  iintro ⟨%f, -, H⟩
  iexists f
  iexact H

/-- The scratch for codes is its two slots. -/
theorem c_split : iprop(∃ f : Buf (Elt F) ((thr d L).loc cc0_scratch0), (thr d L).loc cc0_scratch0 ↦{fullShare} f) ⊢ (iprop(cAny d L 0 ∗ cAny d L 1) : sProp 𝕄) := by
  iintro ⟨%f, H⟩
  ihave H' := (Entails.of_eq (fibres_split (ℓ := (thr d L).loc cc0_scratch0) cSet _ mem_cD f)) $$ H
  ihave H'' := (Entails.of_eq (fin_two _)) $$ H'
  icases H'' with ⟨H0, H1⟩
  unfold cAny
  isplitl [H0]
  · iexists f; iexact H0
  · iexists f; iexact H1

theorem c_join : iprop(cAny d L 0 ∗ cAny d L 1) ⊢ (iprop(∃ f : Buf (Elt F) ((thr d L).loc cc0_scratch0), (thr d L).loc cc0_scratch0 ↦{fullShare} f) : sProp 𝕄) := by
  refine BIBase.Entails.trans ?_ (fibres_join (ℓ := (thr d L).loc cc0_scratch0) cSet _ mem_cD)
  exact Entails.of_eq (fin_two (fun s => cAny (F := F) d L s)).symm

/-- The scratch for gradients is its six rows. -/
theorem g_rows : (bigSep Finset.univ fun k : Fin 2 × Fin 3 => gAny (F := F) d L k)
    = (iprop((gAny d L (0, 0) ∗ gAny d L (0, 1) ∗ gAny d L (0, 2)) ∗ (gAny d L (1, 0) ∗ gAny d L (1, 1) ∗ gAny d L (1, 2))) : sProp 𝕄) := by
  rw [bigSep_univ_prod]
  refine (bigSep_fin_two _).trans ?_
  rw [Ring.bigSep_fin3, Ring.bigSep_fin3]
  rfl

theorem g_split : iprop(∃ f : Buf (Elt F) ((thr d L).loc cc0_scratch1), (thr d L).loc cc0_scratch1 ↦{fullShare} f)
    ⊢ (iprop((gAny d L (0, 0) ∗ gAny d L (0, 1) ∗ gAny d L (0, 2)) ∗ (gAny d L (1, 0) ∗ gAny d L (1, 1) ∗ gAny d L (1, 2))) : sProp 𝕄) := by
  rw [← g_rows]
  iintro ⟨%f, H⟩
  ihave H' := (Entails.of_eq (fibres_split (ℓ := (thr d L).loc cc0_scratch1) gSet _ mem_gD f)) $$ H
  iapply (show (bigSep Finset.univ fun k => ((thr d L).loc cc0_scratch1 ↦[gSet k]{fullShare} f : sProp 𝕄)) ⊢ (bigSep Finset.univ fun k : Fin 2 × Fin 3 => gAny (F := F) d L k) from
    bigSep_mono fun k _ => by
      unfold gAny
      show ((thr d L).loc cc0_scratch1 ↦[gSet k]{fullShare} f : sProp 𝕄) ⊢ iprop(∃ f, (thr d L).loc cc0_scratch1 ↦[gSet k]{fullShare} f)
      iintro H
      iexists f; iexact H) $$ H'

theorem g_join : iprop((gAny d L (0, 0) ∗ gAny d L (0, 1) ∗ gAny d L (0, 2)) ∗ (gAny d L (1, 0) ∗ gAny d L (1, 1) ∗ gAny d L (1, 2)))
    ⊢ (iprop(∃ f : Buf (Elt F) ((thr d L).loc cc0_scratch1), (thr d L).loc cc0_scratch1 ↦{fullShare} f) : sProp 𝕄) := by
  rw [← g_rows]
  exact fibres_join (ℓ := (thr d L).loc cc0_scratch1) gSet _ mem_gD

/-! ## The shares of the arrays that a tile reads -/

/-- The share of slot `s`, and of row `p` of slot `s`, out of a tile's. -/
def qS (q : PosShare TreeShare) : Fin 2 → PosShare TreeShare | 0 => q.left | 1 => q.right
@[inherit_doc qS] def qG (q : PosShare TreeShare) : Fin 2 → Fin 3 → PosShare TreeShare := fun s => fun | 0 => (qS q s).left | 1 => (qS q s).right.left | 2 => (qS q s).right.right

variable {ℓ : Loc nD τ sig} (f : Buf (Elt F) ℓ) (q : PosShare TreeShare)

theorem share_two : (ℓ ↦{q} f : sProp 𝕄) = iprop((ℓ ↦{q.left} f) ∗ (ℓ ↦{q.right} f)) :=
  BI.Entails.antisymm (pointsTo_share (PosShare.mem_left_op_right q)).1 (pointsTo_share (PosShare.mem_left_op_right q)).2

theorem share_S : (ℓ ↦{q} f : sProp 𝕄) = iprop((ℓ ↦{qS q 0} f) ∗ (ℓ ↦{qS q 1} f)) := share_two f q

theorem share_G : (ℓ ↦{q} f : sProp 𝕄) = iprop(((ℓ ↦{qG q 0 0} f) ∗ (ℓ ↦{qG q 0 1} f) ∗ (ℓ ↦{qG q 0 2} f)) ∗ ((ℓ ↦{qG q 1 0} f) ∗ (ℓ ↦{qG q 1 1} f) ∗ (ℓ ↦{qG q 1 2} f))) := by
  rw [share_S f q, share_two f (qS q 0), share_two f (qS q 1), share_two f (qS q 0).right, share_two f (qS q 1).right]
  rfl

variable (fC : Buf (Elt F) (cLoc d L)) (fG : Buf (Elt F) (gLoc d L))

/-- The semaphores of the slots, each at zero. -/
def slotSems : sProp 𝕄 :=
  iprop((semVal (sig := sig) (thr d L, .dma (cSem 0).sem) (0 : Nat) ∗ semVal (sig := sig) (thr d L, .dma (cSem 1).sem) (0 : Nat))
    ∗ (semVal (sig := sig) (thr d L, .dma (gSem 0).sem) (0 : Nat) ∗ semVal (sig := sig) (thr d L, .dma (gSem 1).sem) (0 : Nat)))

/-- The two scratches, the shares of the arrays and the semaphores, as the two idle slots. -/
def slotsWhole : sProp 𝕄 :=
  iprop((∃ f : Buf (Elt F) ((thr d L).loc cc0_scratch0), (thr d L).loc cc0_scratch0 ↦{fullShare} f)
    ∗ (∃ f : Buf (Elt F) ((thr d L).loc cc0_scratch1), (thr d L).loc cc0_scratch1 ↦{fullShare} f)
    ∗ (cLoc d L ↦{q} fC) ∗ (gLoc d L ↦{q} fG) ∗ slotSems d L)

theorem idle_intro (s : Fin 2) (qg : Fin 2 → Fin 3 → PosShare TreeShare) (qc : Fin 2 → PosShare TreeShare) :
    iprop(cAny d L s ∗ (gAny d L (s, 0) ∗ gAny d L (s, 1) ∗ gAny d L (s, 2)) ∗ (cLoc d L ↦{qc s} fC)
      ∗ ((gLoc d L ↦{qg s 0} fG) ∗ (gLoc d L ↦{qg s 1} fG) ∗ (gLoc d L ↦{qg s 2} fG))
      ∗ semVal (sig := sig) (thr d L, .dma (cSem s).sem) (0 : Nat) ∗ semVal (sig := sig) (thr d L, .dma (gSem s).sem) (0 : Nat)) ⊢ Idle d L fC fG qc qg s := by
  unfold Idle CLand GLand
  iintro ⟨Hc, ⟨H0, H1, H2⟩, Sc, Sg, Vc, Vg⟩
  ihave Hc' := (cAny_at d L s) $$ Hc
  ihave H0' := (gAny_at d L (s, 0)) $$ H0
  ihave H1' := (gAny_at d L (s, 1)) $$ H1
  ihave H2' := (gAny_at d L (s, 2)) $$ H2
  icases Hc' with ⟨%w, Hc⟩
  icases H0' with ⟨%w0, H0⟩
  icases H1' with ⟨%w1, H1⟩
  icases H2' with ⟨%w2, H2⟩
  iexists w
  iexists (fun | 0 => w0 | 1 => w1 | 2 => w2)
  isplitl [Hc Sc Vc]
  · isplitl [Hc]; · iexact Hc
    isplitl [Sc]; · iexact Sc
    iexact Vc
  isplitl [H0 H1 H2]
  · isplitl [H0]; · iexact H0
    isplitl [H1]; · iexact H1
    iexact H2
  isplitl [Sg]; · iexact Sg
  iexact Vg

theorem idle_elim (s : Fin 2) (qg : Fin 2 → Fin 3 → PosShare TreeShare) (qc : Fin 2 → PosShare TreeShare) :
    Idle d L fC fG qc qg s ⊢ iprop(cAny d L s ∗ (gAny d L (s, 0) ∗ gAny d L (s, 1) ∗ gAny d L (s, 2)) ∗ (cLoc d L ↦{qc s} fC)
      ∗ ((gLoc d L ↦{qg s 0} fG) ∗ (gLoc d L ↦{qg s 1} fG) ∗ (gLoc d L ↦{qg s 2} fG))
      ∗ semVal (sig := sig) (thr d L, .dma (cSem s).sem) (0 : Nat) ∗ semVal (sig := sig) (thr d L, .dma (gSem s).sem) (0 : Nat)) := by
  unfold Idle CLand GLand
  iintro ⟨%w, %wg, ⟨Hc, Sc, Vc⟩, ⟨H0, H1, H2⟩, Sg, Vg⟩
  isplitl [Hc]; · iapply (cAt_any d L s w) $$ Hc
  isplitl [H0 H1 H2]
  · isplitl [H0]; · iapply (gAt_any d L (s, 0) (wg 0)) $$ H0
    isplitl [H1]; · iapply (gAt_any d L (s, 1) (wg 1)) $$ H1
    iapply (gAt_any d L (s, 2) (wg 2)) $$ H2
  isplitl [Sc]; · iexact Sc
  isplitl [Sg]; · iexact Sg
  isplitl [Vc]; · iexact Vc
  iexact Vg

theorem slots_in : slotsWhole d L q fC fG ⊢ iprop(Idle d L fC fG (qS q) (qG q) 0 ∗ Idle d L fC fG (qS q) (qG q) 1) := by
  unfold slotsWhole slotSems
  rw [share_S fC q, share_G fG q]
  iintro ⟨Hc, Hg, ⟨C0, C1⟩, ⟨G0, G1⟩, ⟨V0, V1⟩, ⟨W0, W1⟩⟩
  ihave Hc' := (c_split d L) $$ Hc
  icases Hc' with ⟨Hc0, Hc1⟩
  ihave Hg' := (g_split d L) $$ Hg
  icases Hg' with ⟨Hg0, Hg1⟩
  isplitl [Hc0 Hg0 C0 G0 V0 W0]
  · iapply (idle_intro d L fC fG 0 (qG q) (qS q))
    isplitl [Hc0]; · iexact Hc0
    isplitl [Hg0]; · iexact Hg0
    isplitl [C0]; · iexact C0
    isplitl [G0]; · iexact G0
    isplitl [V0]; · iexact V0
    iexact W0
  · iapply (idle_intro d L fC fG 1 (qG q) (qS q))
    isplitl [Hc1]; · iexact Hc1
    isplitl [Hg1]; · iexact Hg1
    isplitl [C1]; · iexact C1
    isplitl [G1]; · iexact G1
    isplitl [V1]; · iexact V1
    iexact W1

theorem slots_out : iprop(Idle d L fC fG (qS q) (qG q) 0 ∗ Idle d L fC fG (qS q) (qG q) 1) ⊢ slotsWhole d L q fC fG := by
  unfold slotsWhole slotSems
  rw [share_S fC q, share_G fG q]
  iintro ⟨H0, H1⟩
  ihave H0' := (idle_elim d L fC fG 0 (qG q) (qS q)) $$ H0
  ihave H1' := (idle_elim d L fC fG 1 (qG q) (qS q)) $$ H1
  icases H0' with ⟨Hc0, Hg0, C0, G0, V0, W0⟩
  icases H1' with ⟨Hc1, Hg1, C1, G1, V1, W1⟩
  isplitl [Hc0 Hc1]
  · iapply (c_join d L)
    isplitl [Hc0]; · iexact Hc0
    iexact Hc1
  isplitl [Hg0 Hg1]
  · iapply (g_join d L)
    isplitl [Hg0]; · iexact Hg0
    iexact Hg1
  isplitl [C0 C1]
  · isplitl [C0]; · iexact C0
    iexact C1
  isplitl [G0 G1]
  · isplitl [G0]; · iexact G0
    iexact G1
  isplitl [V0 V1]
  · isplitl [V0]; · iexact V0
    iexact V1
  isplitl [W0]; · iexact W0
  iexact W1

/-! ## A tile's own semaphores and buffers -/

/-- The semaphores that a tile's program names. -/
def semFam : Fin 2 ⊕ (Fin 2 ⊕ Fin 20) → SemLoc sig
  | .inl s => .dma (cSem s).sem
  | .inr (.inl s) => .dma (gSem s).sem
  | .inr (.inr j) => .dma (oSem j).sem

theorem semFam_inj : Function.Injective semFam := by
  intro a b; revert a b; decide +kernel

theorem semFam_scoped : ∀ a, (semFam a).isScoped .scVector = true := by decide +kernel

/-- The cells of the semaphores that a tile's program names. -/
def semCell : (Fin 2 ⊕ (Fin 2 ⊕ Fin 20)) ↪ GSem nD τ sig := ⟨fun a => (thr d L, semFam a), fun _ _ h => semFam_inj (congrArg Prod.snd h)⟩

theorem semCell_sub : (Finset.univ.map (semCell d L)) ⊆ ownCells (thr d L) := by
  intro g hg
  obtain ⟨a, -, rfl⟩ := Finset.mem_map.mp hg
  exact mem_ownCells.mpr ⟨rfl, semFam_scoped a⟩

/-- A tile's semaphores at zero: the slots', the copies out's, and the rest. -/
theorem ownSems0_V : (ownSems0 (thr d L) : sProp 𝕄)
    = iprop((slotSems d L ∗ bigSep Finset.univ fun j : Fin 20 => semVal (sig := sig) (thr d L, .dma (oSem j).sem) (0 : Nat))
        ∗ bigSep (ownCells (thr d L) \ Finset.univ.map (semCell d L)) fun g => semVal g 0) := by
  unfold SparseCore.Cfg.ownSems0 slotSems
  rw [bigSep_sdiff_split (semCell_sub d L), bigSep_map, bigSep_univ_sum, bigSep_univ_sum]
  rw [show (bigSep Finset.univ fun a : Fin 2 => (semVal (semCell d L (.inl a)) 0 : sProp 𝕄)) = _ from bigSep_fin_two _,
    show (bigSep Finset.univ fun a : Fin 2 => (semVal (semCell d L (.inr (.inl a))) 0 : sProp 𝕄)) = _ from bigSep_fin_two _]
  refine congrArg (fun x : sProp 𝕄 => iprop(x ∗ _)) ?_
  exact (sep_assoc_eq _ _ _).symm

abbrev dR (b : Ref sig .scVector) : DevRef τ sig := (Proc.scVector (cV L) (jV L)).devRef b

/-- A tile's buffers, each at some contents: its four scratches and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (dR L cc0_scratch0)).erase (dR L cc0_scratch1)).erase (dR L cc0_scratch2)).erase (dR L cc0_scratch3))
              fun b => iprop(∃ f, ((d, b) : Loc nD τ sig) ↦{fullShare} f)) := by
  have h0 : dR L cc0_scratch0 ∈ ownRefs (τ := τ) (.scVector (cV L) (jV L)) := SparseCore.Cfg.mem_ownRefs_of_owner rfl
  have h1 : dR L cc0_scratch1 ∈ ownRefs (τ := τ) (.scVector (cV L) (jV L)) := SparseCore.Cfg.mem_ownRefs_of_owner rfl
  have h2 : dR L cc0_scratch2 ∈ ownRefs (τ := τ) (.scVector (cV L) (jV L)) := SparseCore.Cfg.mem_ownRefs_of_owner rfl
  have h3 : dR L cc0_scratch3 ∈ ownRefs (τ := τ) (.scVector (cV L) (jV L)) := SparseCore.Cfg.mem_ownRefs_of_owner rfl
  have n10 : dR L cc0_scratch1 ≠ dR L cc0_scratch0 := fun e => absurd (Proc.devRef_injective _ e) (show (cc0_scratch1 : Ref sig .scVector) ≠ cc0_scratch0 by decide)
  have n20 : dR L cc0_scratch2 ≠ dR L cc0_scratch0 := fun e => absurd (Proc.devRef_injective _ e) (show (cc0_scratch2 : Ref sig .scVector) ≠ cc0_scratch0 by decide)
  have n21 : dR L cc0_scratch2 ≠ dR L cc0_scratch1 := fun e => absurd (Proc.devRef_injective _ e) (show (cc0_scratch2 : Ref sig .scVector) ≠ cc0_scratch1 by decide)
  have n30 : dR L cc0_scratch3 ≠ dR L cc0_scratch0 := fun e => absurd (Proc.devRef_injective _ e) (show (cc0_scratch3 : Ref sig .scVector) ≠ cc0_scratch0 by decide)
  have n31 : dR L cc0_scratch3 ≠ dR L cc0_scratch1 := fun e => absurd (Proc.devRef_injective _ e) (show (cc0_scratch3 : Ref sig .scVector) ≠ cc0_scratch1 by decide)
  have n32 : dR L cc0_scratch3 ≠ dR L cc0_scratch2 := fun e => absurd (Proc.devRef_injective _ e) (show (cc0_scratch3 : Ref sig .scVector) ≠ cc0_scratch2 by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

end Slots

end Cert.Proof.HistIdeal
-- ==== Proof.HistParts.lean ====
/-
  The printed kernel is the short program: the printed text's parts are steps of the short program put in sequence.
-/
module

public import proofs.«01_k».proof.Proof.HistProg

@[expose] public section

noncomputable section

namespace Cert.Proof.HistIdeal

open Cert.HistIdeal Cert.HistIdeal.Gen
open Idealize.ShloMosaic Idealize.SL.Sem

variable {F : FTy → Type} [FloatOps F]

theorem seq_congr.{v} {E : Type → Type v} {α β : Type} {p q : Prog E α} {f g : α → Prog E β} (h : p = q) (h' : ∀ x, f x = g x) :
    p >>= f = q >>= g := by
  rw [h, funext h']

theorem part8_eq (i : grid0.Coords) (v28 v171 : BitVec 32) (ln : IVec S16 32) (t : Fin k0_t2_loop.trips) : (k0_part8 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 v28 ln t v171) = (do
    waitG i 0 2 (k0_off7 i t 2#32) (k0_off7_inb i t 2)
    scLoop0 i v28 ln
    if h : k0_cond1 t = 1#1 then do
      issue i 0 (k0_off10 i t) (k0_off10_inb i t h) (fun p => k0_off11 i t (BitVec.ofNat 32 p.val)) (fun p => k0_off11_inb i t h p)
      pure ⟨⟩
    else
      pure ⟨⟩
    waitC i 1 (k0_off4 i t) (k0_off4_inb i t)
    pure ⟨⟩ : Prog (PT F i) _) := by
  unfold k0_part8
  refine seq_congr rfl fun _ => ?_
  refine seq_congr ?_ fun _ => ?_
  · refine congrArg (Scf.Loop.for k0_t3_loop k0_t3_ok (⟨⟩ : PUnit)) (funext fun k => funext fun _ => ?_)
    unfold k0_part1 k0_part2 scTrip
    refine congrArg (Prog.op _) (funext fun c => ?_)
    refine congrArg (Prog.op _) (funext fun w0 => ?_)
    refine congrArg (Prog.op _) (funext fun w1 => ?_)
    refine congrArg (Prog.op _) (funext fun w2 => ?_)
    unfold scM
    simp only [bind_assoc]
    refine congrArg (Prog.op _) (funext fun hw => ?_)
    rfl
  · by_cases h : k0_cond1 t = 1#1
    · simp only [dif_pos h]; rfl
    · simp only [dif_neg h]; rfl

theorem chunk_eq (i : grid0.Coords) (v28 : BitVec 32) (ln : IVec S16 32) (t : Fin k0_t2_loop.trips) : (do
    let v171 : BitVec 32 ← k0_part6 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 v28 0#32 1#32 t
    k0_part7 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 v28 t v171
    k0_part8 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 v28 ln t v171
    waitG (F := F) i 1 0 (k0_off5 i t 0#32) (k0_off5_inb i t 0)
    waitG (F := F) i 1 1 (k0_off5 i t 1#32) (k0_off5_inb i t 1)
    waitG (F := F) i 1 2 (k0_off5 i t 2#32) (k0_off5_inb i t 2)
    scLoop1 i v28 ln
    pure ⟨⟩) = chunkTrip (F := F) i v28 ln t := by
  simp only [part8_eq]
  by_cases h : k0_cond1 t = 1#1
  · simp only [dif_pos h, chunkTrip]
    simp only [k0_part6, k0_part7, issue, drain, bind_assoc, pure_bind, bind_pure_unit]
    rfl
  · simp only [dif_neg h, chunkTrip]
    simp only [k0_part6, k0_part7, issue, drain, bind_assoc, pure_bind, bind_pure_unit]
    rfl

/-- The program up to the main loop. -/
theorem part89_eq (i : grid0.Coords) : (k0_part89 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19) = (do zeroLoop (F := F) i; pure ⟨quad i, half i, lanes⟩) := rfl

theorem part90_eq (i : grid0.Coords) (v : BitVec 32) : (k0_part90 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 v) =
    issue (F := F) i 0 (k0_off2 i) (k0_off2_inb i) (fun p => k0_off3 i (BitVec.ofNat 32 p.val)) (fun p => k0_off3_inb i p) := rfl

theorem part91_eq (i : grid0.Coords) (q h : BitVec 32) (ln : IVec S16 32) : (k0_part91 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    Scf.Loop.for k0_t2_loop k0_t2_ok ⟨⟩ fun t _ => chunkTrip i h ln t
    redLoop i (hB 0) (Memref.whole cc0_scratch3) ln
    enqO i 0
    waitO i 0
    redLoop i (hB 1) (Memref.whole cc0_scratch3) ln
    enqO i 1
    pure ⟨⟩ : Prog (PT F i) _) := by
  unfold k0_part91
  refine seq_congr ?_ fun _ => ?_
  · refine congrArg (Scf.Loop.for k0_t2_loop k0_t2_ok (⟨⟩ : PUnit)) (funext fun k => funext fun _ => ?_)
    refine Eq.trans ?_ (chunk_eq i h ln k)
    refine seq_congr rfl fun v => ?_
    refine seq_congr rfl fun _ => ?_
    refine seq_congr rfl fun _ => ?_
    refine seq_congr rfl fun _ => ?_
    refine seq_congr rfl fun _ => ?_
    refine seq_congr rfl fun _ => ?_
    refine seq_congr ?_ fun _ => rfl
    refine congrArg (Scf.Loop.for k0_t4_loop k0_t4_ok (⟨⟩ : PUnit)) (funext fun k => funext fun _ => ?_)
    unfold k0_part4 k0_part5 scTrip
    refine congrArg (Prog.op _) (funext fun c => ?_)
    refine congrArg (Prog.op _) (funext fun w0 => ?_)
    refine congrArg (Prog.op _) (funext fun w1 => ?_)
    refine congrArg (Prog.op _) (funext fun w2 => ?_)
    unfold scM
    simp only [bind_assoc]
    refine congrArg (Prog.op _) (funext fun hw => ?_)
    rfl
  · refine seq_congr rfl fun _ => ?_
    refine seq_congr rfl fun _ => ?_
    refine seq_congr rfl fun _ => ?_
    refine seq_congr rfl fun _ => ?_
    rfl

theorem part92_eq (i : grid0.Coords) (q h : BitVec 32) (ln : IVec S16 32) : (k0_part92 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    waitO i 1
    redLoop i (hB 2) (Memref.whole cc0_scratch3) ln
    enqO i 2
    waitO i 2
    redLoop i (hB 3) (Memref.whole cc0_scratch3) ln
    enqO i 3
    waitO i 3
    pure (⟨0#32, 16#32⟩ : Σ' (_ : BitVec 32), BitVec 32) : Prog (PT F i) _) := rfl

theorem part93_eq (i : grid0.Coords) (q h : BitVec 32) (ln : IVec S16 32) : (k0_part93 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln 0#32 16#32) = (do
    redLoop i (hB 4) (Memref.whole cc0_scratch3) ln
    enqO i 4
    waitO i 4
    redLoop i (hB 5) (Memref.whole cc0_scratch3) ln
    enqO i 5
    waitO i 5
    redLoop i (hB 6) (Memref.whole cc0_scratch3) ln
    pure ⟨⟩ : Prog (PT F i) _) := rfl

theorem part94_eq (i : grid0.Coords) (q h : BitVec 32) (ln : IVec S16 32) : (k0_part94 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    enqO i 6
    waitO i 6
    redLoop i (hB 7) (Memref.whole cc0_scratch3) ln
    enqO i 7
    waitO i 7
    redLoop i (hB 8) (Memref.whole cc0_scratch3) ln
    pure ⟨⟩ : Prog (PT F i) _) := rfl

theorem part95_eq (i : grid0.Coords) (q h : BitVec 32) (ln : IVec S16 32) : (k0_part95 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    enqO i 8
    waitO i 8
    redLoop i (hB 9) (Memref.whole cc0_scratch3) ln
    enqO i 9
    waitO i 9
    redLoop i (hB 10) (Memref.whole cc0_scratch3) ln
    pure ⟨⟩ : Prog (PT F i) _) := rfl

theorem part96_eq (i : grid0.Coords) (q h : BitVec 32) (ln : IVec S16 32) : (k0_part96 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    enqO i 10
    waitO i 10
    redLoop i (hB 11) (Memref.whole cc0_scratch3) ln
    enqO i 11
    waitO i 11
    redLoop i (hB 12) (Memref.whole cc0_scratch3) ln
    pure ⟨⟩ : Prog (PT F i) _) := rfl

theorem part97_eq (i : grid0.Coords) (q h : BitVec 32) (ln : IVec S16 32) : (k0_part97 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    enqO i 12
    waitO i 12
    redLoop i (hB 13) (Memref.whole cc0_scratch3) ln
    enqO i 13
    waitO i 13
    redLoop i (hB 14) (Memref.whole cc0_scratch3) ln
    enqO i 14
    pure ⟨⟩ : Prog (PT F i) _) := rfl

theorem part98_eq (i : grid0.Coords) (q h : BitVec 32) (ln : IVec S16 32) : (k0_part98 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    waitO i 14
    redLoop i (hB 15) (Memref.whole cc0_scratch3) ln
    enqO i 15
    waitO i 15
    redLoop i (hB 16) (Memref.whole cc0_scratch3) ln
    enqO i 16
    pure ⟨⟩ : Prog (PT F i) _) := rfl

theorem part99_eq (i : grid0.Coords) (q h : BitVec 32) (ln : IVec S16 32) : (k0_part99 i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 q h ln) = (do
    waitO i 16
    redLoop i (hB 17) (Memref.whole cc0_scratch3) ln
    enqO i 17
    waitO i 17
    redLoop i (hB 18) (Memref.whole cc0_scratch3) ln
    enqO i 18
    waitO i 18
    pure (⟨0#32, 16#32⟩ : Σ' (_ : BitVec 32), BitVec 32) : Prog (PT F i) _) := rfl

/-- The printed kernel is `tile`. -/
theorem kernel_eq (i : grid0.Coords) : cc0__sc_hist_kernel i (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 = tile (F := F) i := by
  unfold cc0__sc_hist_kernel
  simp only [part89_eq, part90_eq, part91_eq, part92_eq, part93_eq, part94_eq, part95_eq, part96_eq, part97_eq, part98_eq, part99_eq, bind_assoc, pure_bind]
  refine Eq.trans (b := (do
    let _ ← zeroLoop (F := F) i
    let _ ← issue (F := F) i 0 (k0_off2 i) (k0_off2_inb i) (fun p => k0_off3 i (BitVec.ofNat 32 p.val)) (fun p => k0_off3_inb i p)
    Scf.Loop.for k0_t2_loop k0_t2_ok ⟨⟩ fun t _ => chunkTrip i (half i) lanes t
    redLoop i (hB 0) (Memref.whole cc0_scratch3) lanes
    enqO i 0
    waitO i 0
    redLoop i (hB 1) (Memref.whole cc0_scratch3) lanes
    enqO i 1
    waitO i 1
    redLoop i (hB 2) (Memref.whole cc0_scratch3) lanes
    enqO i 2
    waitO i 2
    redLoop i (hB 3) (Memref.whole cc0_scratch3) lanes
    enqO i 3
    waitO i 3
    redLoop i (hB 4) (Memref.whole cc0_scratch3) lanes
    enqO i 4
    waitO i 4
    redLoop i (hB 5) (Memref.whole cc0_scratch3) lanes
    enqO i 5
    waitO i 5
    redLoop i (hB 6) (Memref.whole cc0_scratch3) lanes
    enqO i 6
    waitO i 6
    redLoop i (hB 7) (Memref.whole cc0_scratch3) lanes
    enqO i 7
    waitO i 7
    redLoop i (hB 8) (Memref.whole cc0_scratch3) lanes
    enqO i 8
    waitO i 8
    redLoop i (hB 9) (Memref.whole cc0_scratch3) lanes
    enqO i 9
    waitO i 9
    redLoop i (hB 10) (Memref.whole cc0_scratch3) lanes
    enqO i 10
    waitO i 10
    redLoop i (hB 11) (Memref.whole cc0_scratch3) lanes
    enqO i 11
    waitO i 11
    redLoop i (hB 12) (Memref.whole cc0_scratch3) lanes
    enqO i 12
    waitO i 12
    redLoop i (hB 13) (Memref.whole cc0_scratch3) lanes
    enqO i 13
    waitO i 13
    redLoop i (hB 14) (Memref.whole cc0_scratch3) lanes
    enqO i 14
    waitO i 14
    redLoop i (hB 15) (Memref.whole cc0_scratch3) lanes
    enqO i 15
    waitO i 15
    redLoop i (hB 16) (Memref.whole cc0_scratch3) lanes
    enqO i 16
    waitO i 16
    redLoop i (hB 17) (Memref.whole cc0_scratch3) lanes
    enqO i 17
    waitO i 17
    redLoop i (hB 18) (Memref.whole cc0_scratch3) lanes
    enqO i 18
    waitO i 18
    redLoop i (hB 19) (Memref.whole cc0_scratch3) lanes
    enqO i 19
    waitO i 19
    pure ⟨⟩)) rfl ?_
  simp only [tile, outRows, outRow, chunkLoop, bind_assoc, pure_bind, bind_pure_unit]
  rfl

end Cert.Proof.HistIdeal
-- ==== Proof.HistLaunch.lean ====
/-
  The histogram kernel as it is launched: the host packs the codes and the gradients, hands every tile a share of both and the
  rows of the result that are its own, and the tiles' rows together are the whole result.
-/
module

public import proofs.«01_k».proof.Proof.HistScratch
public import proofs.«01_k».proof.Proof.HistParts
public import Idealize.ShloMosaic.Lib.ShareLeaves

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Idealize.ShloMosaic.StableHlo (held held_sub_split)

variable {F : FTy → Type} [FloatOps F]

local notation "𝕄" => MT nD τ sig (HIx 1) (Elt F) ℕ UU ℕ

/-! ## The program as it is launched -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH (MT nD τ sig (HIx 1) (Elt F) ℕ UU ℕ) := embL

/-! ## The host's part -/

abbrev op0 : HloOp τ sig (Elt F) := StableHlo.unary main_arg0 main_v0 ((transpose S64x2097152 [1, 0] · transposes_S2097152x64_S64x2097152_1_0) : (⟨S2097152x64, .i8⟩ : BufTy).Contents (Elt F) → (⟨S64x2097152, .i8⟩ : BufTy).Contents (Elt F))
abbrev op1 : HloOp τ sig (Elt F) := StableHlo.reshape main_v0 main_v1 (rfl : (.i8 : EltTy) = .i8) shapeCasts_S64x2097152_S16x4x2097152
abbrev op2 : HloOp τ sig (Elt F) := StableHlo.unary main_v1 main_v2 ((transpose S16x2097152x4 [0, 2, 1] · transposes_S16x4x2097152_S16x2097152x4_0_2_1) : (⟨S16x4x2097152, .i8⟩ : BufTy).Contents (Elt F) → (⟨S16x2097152x4, .i8⟩ : BufTy).Contents (Elt F))
abbrev op3 : HloOp τ sig (Elt F) := StableHlo.unary main_v2 main_v3 ((fun x => Host.bitcastConvertWiden S16x2097152 32 x splits_S16x2097152_w32_S16x2097152x4_w8) : (⟨S16x2097152x4, .i8⟩ : BufTy).Contents (Elt F) → (⟨S16x2097152, .i32⟩ : BufTy).Contents (Elt F))
abbrev op4 : HloOp τ sig (Elt F) := StableHlo.reshape main_arg1 main_v4 (rfl : (.i16 : EltTy) = .i16) shapeCasts_S10x2097152_S5x2x2097152
abbrev op5 : HloOp τ sig (Elt F) := StableHlo.unary main_v4 main_v5 ((transpose S5x2097152x2 [0, 2, 1] · transposes_S5x2x2097152_S5x2097152x2_0_2_1) : (⟨S5x2x2097152, .i16⟩ : BufTy).Contents (Elt F) → (⟨S5x2097152x2, .i16⟩ : BufTy).Contents (Elt F))
abbrev op6 : HloOp τ sig (Elt F) := StableHlo.unary main_v5 main_v6 ((fun x => Host.bitcastConvertWiden S5x2097152 32 x splits_S5x2097152_w32_S5x2097152x2_w16) : (⟨S5x2097152x2, .i16⟩ : BufTy).Contents (Elt F) → (⟨S5x2097152, .i32⟩ : BufTy).Contents (Elt F))

/-- The host's operations before the call. -/
abbrev ops : List (HloOp τ sig (Elt F)) := [op0, op1, op2, op3, op4, op5, op6]

theorem main_eq (d : Dev nD) : main (F := F) d = StableHlo.seq ops >>= fun _ => (sc (F := F)).run d 0 >>= fun _ => pure ⟨⟩ := rfl

variable (m : (ℓ : Loc nD τ sig) → Buf (Elt F) ℓ) (ρ : Dev nD → PrngReg)

/-- The contents at launch, and after the host's operations. -/
def V0 (d : Dev nD) : Valuation τ sig (Elt F) := fun b => m (d, b)
@[inherit_doc V0] def VH (d : Dev nD) : Valuation τ sig (Elt F) := StableHlo.after ops (V0 m d)

abbrev rf (b : Ref sig .tc) : DevRef τ sig := Proc.devRef .tc b

/-- The packed codes and the packed gradients. -/
abbrev fC (d : Dev nD) : Vec F S16x2097152 .i32 := VH m d (rf main_v3)
@[inherit_doc fC] abbrev fG (d : Dev nD) : Vec F S5x2097152 .i32 := VH m d (rf main_v6)

/-! ## The result -/

/-- What the kernel leaves in the result, from the packed codes and gradients: element `(b, m, k)` is the `k`th sum of the block that
    the tile owning it makes. -/
def GO (C : Vec F S16x2097152 .i32) (G : Vec F S5x2097152 .i32) : Vec F S10x64x256 .f32 :=
  fun x => redRow (HH C G (oOf x).1 (oOf x).2.1 512 (oOf x).2.2) (Shape.ofLane (d := ![256]) (x 2))

section Tile

variable (d : Dev nD) (L : grid0.Coords)

theorem coordsV_eta : coordsV (L 0) (L 1) = L := by
  funext a
  match a with
  | 0 => rfl
  | 1 => rfl

theorem reshape_row (h : (⟨1, ![256]⟩ : Shape).numel = (⟨3, ![1, 1, 256]⟩ : Shape).numel) (y : (⟨1, ![256]⟩ : Shape).Idx) :
    Shape.reshapeEquiv h y = (Fin.cons ⟨0, Nat.one_pos⟩ (Fin.cons ⟨0, Nat.one_pos⟩ y) : (⟨3, ![1, 1, 256]⟩ : Shape).Idx) :=
  Shape.reshapeEquiv_eq_of_rowMajor h (by
    show ((Shape.rowMajorPi (Matrix.vecCons 1 (Matrix.vecCons 1 ![256])) (Fin.cons ⟨0, Nat.one_pos⟩ (Fin.cons ⟨0, Nat.one_pos⟩ y)) : Fin _) : Nat) = (Shape.rowMajorPi ![256] y : Nat)
    rw [Shape.rowMajorPi_succ_val]
    show 0 * _ + ((Shape.rowMajorPi (Matrix.vecCons 1 ![256]) (Fin.cons ⟨0, Nat.one_pos⟩ y) : Fin _) : Nat) = _
    rw [Nat.zero_mul, Nat.zero_add, Shape.rowMajorPi_succ_val]
    show 0 * _ + (Shape.rowMajorPi ![256] y : Nat) = _
    rw [Nat.zero_mul, Nat.zero_add])

/-- The element of the result that word `y` of row `j` is. -/
abbrev oEmb (j : Fin 20) (y : S256.Idx) : S10x64x256.Idx := (oRow L j).view.emb y

theorem oEmb2 (j : Fin 20) (y : S256.Idx) : oEmb L j y 2 = y 0 := by
  apply Fin.ext
  have e2 : oEmb L j y = (Rect.unit (s := S10x64x256) (k0_off15 L (BitVec.ofNat 32 (jb j).val) (BitVec.ofNat 32 (jm j).val)) S1x1x256.size
    (k0_off15_inb L (jb j) (jm j))).emb (Shape.reshapeEquiv (s := S1x1x256) (s' := S256) rfl y) := rfl
  rw [e2, show Shape.reshapeEquiv (s := S1x1x256) (s' := S256) rfl y = _ from reshape_row _ y]
  show 0 + 1 * (y 0).val = (y 0).val
  omega

/-- A row that is done holds the result's elements. -/
theorem done_row (C : Vec F S16x2097152 .i32) (G : Vec F S5x2097152 .i32) (j : Fin 20) :
    Done d L (redRow (HH C G (co L) (su L) 512 j)) j
      ⊢ (iprop((oLoc d L ↦[(oRow L j).view.set]{fullShare} (GO C G : Buf (Elt F) (oLoc d L))) ∗ semVal (sig := sig) (thr d L, .dma (oSem j).sem) (0 : Nat)) : sProp 𝕄) := by
  unfold Done
  iintro ⟨⟨%f, %hf, H⟩, Hv⟩
  isplitl [H]
  · iapply (Entails.of_eq (pointsTo_congr (ℓ := oLoc d L) (I := (oRow L j).view.set) (q := fullShare) (f := f) (g := (GO C G : Buf (Elt F) (oLoc d L))) fun i hi => by
      obtain ⟨y, -, rfl⟩ := Finset.mem_map.mp hi
      have e : oOf (oEmb L j y) = (L 0, L 1, j) := by
        refine (mem_oSet (L 0, L 1, j) _).mp ?_
        show _ ∈ (oRow (coordsV (L 0) (L 1)) j).view.set
        rw [coordsV_eta]
        exact hi
      have h1 : f (oEmb L j y) = redRow (HH C G (co L) (su L) 512 j) y := congrFun hf y
      refine h1.trans ?_
      show _ = redRow (HH C G (oOf (oEmb L j y)).1 (oOf (oEmb L j y)).2.1 512 (oOf (oEmb L j y)).2.2) (Shape.ofLane (d := ![256]) (oEmb L j y 2))
      rw [e, oEmb2]
      exact congrArg _ (idx1_ext rfl))) $$ H
  iexact Hv

/-! ## What a tile is handed and what it hands back -/

/-- The share of the sources that the tile at core `c` and subcore `s` reads. -/
def tileShare : Fin 2 × Fin 16 ≃ Fin (2 ^ 5) := finProdFinEquiv.trans (finCongr (by decide))
@[inherit_doc tileShare] def qT : PosShare TreeShare := ShareLeaves.leaf 5 fullShare (tileShare (L 0, L 1))

/-- A tile's share of the packed codes and gradients, and its rows of the result at any contents. -/
def tileIn : sProp 𝕄 :=
  iprop((cLoc d L ↦{qT L} (fC m d : Buf (Elt F) (cLoc d L))) ∗ (gLoc d L ↦{qT L} (fG m d : Buf (Elt F) (gLoc d L)))
    ∗ bigSep Finset.univ fun j : Fin 20 => iprop(∃ f : Buf (Elt F) (oLoc d L), oLoc d L ↦[(oRow L j).view.set]{fullShare} f))

/-- A tile's rows of the result, done. -/
def tileOut : sProp 𝕄 :=
  bigSep Finset.univ fun j : Fin 20 => oLoc d L ↦[(oRow L j).view.set]{fullShare} (GO (fC m d) (fG m d) : Buf (Elt F) (oLoc d L))

instance storable_bigSep {A : Type} (s : Finset A) (Φ : A → sProp 𝕄) [h : ∀ i, BI.Storable (upEmb : UEmb _ 𝕄) (Φ i)] : BI.Storable (upEmb : UEmb _ 𝕄) (bigSep s Φ) := by
  classical
  induction s using Finset.induction_on with
  | empty => exact (inferInstance : BI.Storable (upEmb : UEmb _ 𝕄) (iprop(emp)))
  | insert i t hi ih =>
    rw [SparseCore.bigSep_insert' hi]
    exact (inferInstance : BI.Storable (upEmb : UEmb _ 𝕄) iprop(Φ i ∗ bigSep t Φ))

theorem part_storable (I : Finset (Idx (oLoc d L))) (f : Buf (Elt F) (oLoc d L)) : BI.Storable (upEmb : UEmb _ 𝕄) (oLoc d L ↦[I]{fullShare} f) := by infer_instance
theorem part_storable' (I : Finset (Idx (oLoc d L))) :
    BI.Storable (upEmb : UEmb _ 𝕄) (iprop(∃ f : Buf (Elt F) (oLoc d L), oLoc d L ↦[I]{fullShare} f)) := by infer_instance

instance tileIn_storable : BI.Storable (upEmb : UEmb _ 𝕄) (tileIn m d L) := by
  unfold tileIn
  haveI := storable_bigSep (F := F) Finset.univ (fun j : Fin 20 => iprop(∃ f : Buf (Elt F) (oLoc d L), oLoc d L ↦[(oRow L j).view.set]{fullShare} f)) (h := fun j => part_storable' d L _)
  infer_instance
instance tileOut_storable : BI.Storable (upEmb : UEmb _ 𝕄) (tileOut m d L) := by
  unfold tileOut
  exact storable_bigSep _ _ (h := fun j => part_storable d L _ _)

theorem tile_body (hF : (K (F := F)).Facts) (O : CellTallies nD τ sig (HIx 1)) (W : Waits sig (HIx 1)) (hO : ∀ g, O g none = 0) :
    iprop(levAts (K (F := F)).L (K (F := F)).lev ∗ emp ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_kernel L (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19)
          fun _ => iprop(tileOut m d L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [kernel_eq, (K (F := F)).scopedBufs_V hF d (cV L) (jV L), SparseCore.Cfg.scopedSems0_V (Val := Elt F) d (cV L) (jV L), ownSems0_V, ownBufs_V]
  unfold tileIn
  iintro ⟨#Hlv, -, ⟨Hc, Hg, Ho⟩, ⟨B0, B1, B2, B3, Hbufs⟩, ⟨⟨Hss, Hos⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hidle := (slots_in d L (qT L) (fC m d) (fG m d)) $$ [B0 B1 Hc Hg Hss]
  · unfold slotsWhole
    isplitl [B0]; · iexact B0
    isplitl [B1]; · iexact B1
    isplitl [Hc]; · iexact Hc
    isplitl [Hg]; · iexact Hg
    iexact Hss
  iapply (wp_last d L (tile_spec d L (fC m d) (fG m d) (qS (qT L)) (qG (qT L)) O)) $$ [B2 B3 Hidle Ho Hos HO Hmw]
  · isplitl [B2]; · iexact B2
    isplitl [B3]; · unfold RowAny; iexact B3
    isplitl [Hidle]; · iexact Hidle
    isplitl [Ho Hos]
    · unfold Todo
      rw [bigSep_sep']
      isplitl [Ho]; · iexact Ho
      iexact Hos
    unfold OW
    isplitl [Hmw]; · iexact Hmw
    iexists W; iexact HO
  iintro ⟨B2, B3, Hidle, Hd, HOW⟩
  ihave Hw := (slots_out d L (qT L) (fC m d) (fG m d)) $$ Hidle
  unfold slotsWhole
  icases Hw with ⟨B0, B1, -, -, Hss⟩
  ihave Hd' := (show (bigSep Finset.univ fun j : Fin 20 => Done d L (redRow (HT' d L (fC m d) (fG m d) 512 j)) j)
      ⊢ iprop((bigSep Finset.univ fun j : Fin 20 => oLoc d L ↦[(oRow L j).view.set]{fullShare} (GO (fC m d) (fG m d) : Buf (Elt F) (oLoc d L)))
        ∗ (bigSep Finset.univ fun j : Fin 20 => semVal (sig := sig) (thr d L, .dma (oSem j).sem) (0 : Nat))) from by
    rw [← bigSep_sep']
    exact bigSep_mono fun j _ => done_row d L (fC m d) (fG m d) j) $$ Hd
  icases Hd' with ⟨Ho, Hos⟩
  unfold tileOut OW RowAny
  icases HOW with ⟨-, ⟨%W', HO⟩⟩
  isplitl [Ho]; · iexact Ho
  isplitl [B0 B1 B2 B3 Hbufs]
  · isplitl [B0]; · iexact B0
    isplitl [B1]; · iexact B1
    isplitl [B2]; · iexact B2
    isplitl [B3]; · iexact B3
    iexact Hbufs
  isplitl [Hss Hos Hsems]
  · isplitl [Hss Hos]
    · isplitl [Hss]; · iexact Hss
      iexact Hos
    iexact Hsems
  iexists W'; isplitr
  swap; · iexact HO
  ipureintro; intro p _
  rcases p.2 with _ | q
  · exact .inr (.inl rfl)
  · exact .inr (.inr (congrArg some (Subsingleton.elim q 0)))

theorem defs₀_vector (c : Fin τ.nSC) (s : Fin τ.nSub) :
    defs₀ (F := F) (.scVector c s) 0 ()
      = SparseCore.onTile hcore0 hsub0 (fun c s => cc0__sc_hist_kernel (coordsV c s) (Memref.whole main_v3_scv) (Memref.isWhole_whole _) (Memref.whole main_v6_scv) (Memref.isWhole_whole _) (Memref.whole main_v7_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19) ⟨⟩ c s := rfl

end Tile

/-! ## The call -/

theorem nCore_zero : (K (F := F)).nCore 0 = 2 := rfl
theorem nSub_zero : (K (F := F)).nSub 0 = 16 := rfl

/-- The tile that runs task `i` of core `c` of the call. -/
def tL (c : Fin ((K (F := F)).nCore 0)) (i : Fin ((K (F := F)).nSub 0)) : grid0.Coords := coordsV (Fin.cast nCore_zero c) (Fin.cast nSub_zero i)

/-- What one core's tiles are handed, and what they hand back. -/
def coreIn (d : Dev nD) (c : Fin ((K (F := F)).nCore 0)) : sProp 𝕄 := bigSep Finset.univ fun i => tileIn m d (tL c i)
@[inherit_doc coreIn] def coreOut (d : Dev nD) (c : Fin ((K (F := F)).nCore 0)) : sProp 𝕄 := bigSep Finset.univ fun i => tileOut m d (tL c i)

theorem coreIn_storable (d : Dev nD) (c : Fin ((K (F := F)).nCore 0)) : BI.Storable (upEmb : UEmb _ 𝕄) (coreIn m d c) := by
  unfold coreIn
  exact storable_bigSep _ _ (h := fun i => tileIn_storable m d (tL c i))
theorem coreOut_storable (d : Dev nD) (c : Fin ((K (F := F)).nCore 0)) : BI.Storable (upEmb : UEmb _ 𝕄) (coreOut m d c) := by
  unfold coreOut
  exact storable_bigSep _ _ (h := fun i => tileOut_storable m d (tL c i))

/-- What the call hands over: every tile its shares and its rows; back come the rows, done. -/
def P : (K (F := F)).Pay (nD := nD) (Val := Elt F) (Name := ℕ) (U := UU) where
  st := fun q d c => match q with | 0 => coreIn m d c
  dn := fun q d c => match q with | 0 => coreOut m d c
  go := fun q d c i => match q with | 0 => tileIn m d (tL c i)
  td := fun q d c i => match q with | 0 => tileOut m d (tL c i)
  x := fun _ _ => iprop(emp)

instance P_storable : (P (F := F) m).IsStorable where
  st q d c := match q with | 0 => coreIn_storable m d c
  dn q d c := match q with | 0 => coreOut_storable m d c
  go q d c i := match q with | 0 => tileIn_storable m d (tL c i)
  td q d c i := match q with | 0 => tileOut_storable m d (tL c i)

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (tL c i) hF O W hO

theorem vecSplit : (K (F := F)).VecSplit' (P m) 0 := by
  intro d c
  show coreIn m d c ⊢ |={Set.univ}=> iprop(coreIn m d c ∗ (coreOut m d c -∗ coreOut m d c))
  iintro H; imodintro
  isplitl [H]; · iexact H
  iintro H
  iexact H

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.HistIdeal
-- ==== Proof.HistMain.lean ====
/-
  The run of the histogram program: every execution ends with the packed sums of the tiles in the result and the arguments as
  they were.
-/
module

public import proofs.«01_k».proof.Proof.HistLaunch

@[expose] public section

noncomputable section

namespace Cert.Proof.HistIdeal

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Idealize.ShloMosaic.StableHlo (held held_sub_split)

variable {F : FTy → Type} [FloatOps F]

local notation "𝕄" => MT nD τ sig (HIx 1) (Elt F) ℕ UU ℕ

variable (m : (ℓ : Loc nD τ sig) → Buf (Elt F) ℓ) (ρ : Dev nD → PrngReg) (d : Dev nD)

/-! ## The arrays in the tiles' pieces -/

/-- The device's arrays. -/
abbrev SA : Finset (DevRef τ sig) := {rf main_arg0, rf main_arg1, rf main_v0, rf main_v1, rf main_v2, rf main_v3, rf main_v4, rf main_v5, rf main_v6, rf main_v7}
/-- The ones that the call reads and writes. -/
abbrev SC : Finset (DevRef τ sig) := {rf main_v3, rf main_v6, rf main_v7}
/-- The arguments. -/
abbrev SR : Finset (DevRef τ sig) := {rf main_arg0, rf main_arg1}

theorem held_three (W : Valuation τ sig (Elt F)) :
    (held (SparseCore.T d) SC W : sProp 𝕄) = iprop(((SparseCore.T d).loc main_v3 ↦{fullShare} W (rf main_v3)) ∗ ((SparseCore.T d).loc main_v6 ↦{fullShare} W (rf main_v6)) ∗ ((SparseCore.T d).loc main_v7 ↦{fullShare} W (rf main_v7))) := by
  unfold held SC
  rw [SparseCore.bigSep_insert' (by decide), SparseCore.bigSep_insert' (by decide), bigSep_singleton]

theorem held_two (W : Valuation τ sig (Elt F)) :
    (held (SparseCore.T d) SR W : sProp 𝕄) = iprop(((SparseCore.T d).loc main_arg0 ↦{fullShare} W (rf main_arg0)) ∗ ((SparseCore.T d).loc main_arg1 ↦{fullShare} W (rf main_arg1))) := by
  unfold held SR
  rw [SparseCore.bigSep_insert' (by decide), bigSep_singleton]

theorem unscoped_held : (unscopedBufs d (fun b => m ((SparseCore.T d).loc b)) : sProp 𝕄) = held (SparseCore.T d) SA (V0 m d) := by
  unfold unscopedBufs held SA
  rw [show (Finset.univ.filter fun b : Ref sig .tc => ¬ b.isScoped) = {main_arg0, main_arg1, main_v0, main_v1, main_v2, main_v3, main_v4, main_v5, main_v6, main_v7} by decide]
  simp only [SparseCore.bigSep_insert' (show main_arg0 ∉ ({main_arg1, main_v0, main_v1, main_v2, main_v3, main_v4, main_v5, main_v6, main_v7} : Finset (Ref sig .tc)) by decide)]
  repeat rw [SparseCore.bigSep_insert' (by decide)]
  rw [bigSep_singleton, bigSep_singleton]
  rfl

/-- The cores and subcores of the call, as pairs of numbers. -/
theorem cores_eq (Φ : grid0.Coords → sProp 𝕄) :
    (bigSep Finset.univ fun c : Fin ((K (F := F)).nCore 0) => bigSep Finset.univ fun i : Fin ((K (F := F)).nSub 0) => Φ (tL (F := F) c i))
      = bigSep Finset.univ fun k : Fin 2 × Fin 16 => Φ (coordsV k.1 k.2) := by
  rw [bigSep_univ_prod]
  rfl

/-- A whole array at the tiles' shares. -/
theorem shares (ℓ : Loc nD τ sig) (f : Buf (Elt F) ℓ) :
    (ℓ ↦{fullShare} f : sProp 𝕄) = bigSep Finset.univ fun k : Fin 2 × Fin 16 => ℓ ↦{qT (coordsV k.1 k.2)} f := by
  rw [ShareLeaves.pointsTo_leaves Finset.univ f 5 fullShare, bigSep_univ_equiv tileShare]
  rfl

/-- The result in the tiles' rows. -/
theorem rows (f : Buf (Elt F) ((SparseCore.T d).loc main_v7)) :
    ((SparseCore.T d).loc main_v7 ↦{fullShare} f : sProp 𝕄)
      = bigSep Finset.univ fun k : Fin 2 × Fin 16 => bigSep Finset.univ fun j : Fin 20 => oLoc d (coordsV k.1 k.2) ↦[(oRow (coordsV k.1 k.2) j).view.set]{fullShare} f := by
  rw [fibres_split (ℓ := (SparseCore.T d).loc main_v7) (fun k : (Fin 2 × Fin 16) × Fin 20 => oSet (k.1.1, k.1.2, k.2)) (fun x => ((( oOf x).1, (oOf x).2.1), (oOf x).2.2))
    (fun k x => by
      rw [mem_oSet]
      constructor
      · intro h; rw [h]
      · intro h; rw [← h]) f, bigSep_univ_prod]

theorem st_intro (f : Buf (Elt F) ((SparseCore.T d).loc main_v7)) :
    iprop(((SparseCore.T d).loc main_v3 ↦{fullShare} (fC m d : Buf (Elt F) ((SparseCore.T d).loc main_v3))) ∗ ((SparseCore.T d).loc main_v6 ↦{fullShare} (fG m d : Buf (Elt F) ((SparseCore.T d).loc main_v6))) ∗ ((SparseCore.T d).loc main_v7 ↦{fullShare} f))
      ⊢ (bigSep Finset.univ fun c : Fin ((K (F := F)).nCore 0) => (P m).st 0 d c : sProp 𝕄) := by
  show _ ⊢ (bigSep Finset.univ fun c : Fin ((K (F := F)).nCore 0) => bigSep Finset.univ fun i : Fin ((K (F := F)).nSub 0) => tileIn m d (tL (F := F) c i))
  rw [cores_eq, shares ((SparseCore.T d).loc main_v3), shares ((SparseCore.T d).loc main_v6), rows, ← bigSep_sep', ← bigSep_sep']
  refine bigSep_mono fun k _ => ?_
  unfold tileIn
  refine sep_mono ?_ (sep_mono ?_ ?_)
  · show iprop(cLoc d (coordsV k.1 k.2) ↦{qT (coordsV k.1 k.2)} (fC m d : Buf (Elt F) (cLoc d (coordsV k.1 k.2)))) ⊢ iprop(cLoc d (coordsV k.1 k.2) ↦{qT (coordsV k.1 k.2)} (fC m d : Buf (Elt F) (cLoc d (coordsV k.1 k.2))))
    exact BIBase.Entails.refl
  · show iprop(gLoc d (coordsV k.1 k.2) ↦{qT (coordsV k.1 k.2)} (fG m d : Buf (Elt F) (gLoc d (coordsV k.1 k.2)))) ⊢ iprop(gLoc d (coordsV k.1 k.2) ↦{qT (coordsV k.1 k.2)} (fG m d : Buf (Elt F) (gLoc d (coordsV k.1 k.2))))
    exact BIBase.Entails.refl
  refine bigSep_mono fun j _ => ?_
  show (oLoc d (coordsV k.1 k.2) ↦[(oRow (coordsV k.1 k.2) j).view.set]{fullShare} f) ⊢ iprop(∃ f : Buf (Elt F) (oLoc d (coordsV k.1 k.2)), oLoc d (coordsV k.1 k.2) ↦[(oRow (coordsV k.1 k.2) j).view.set]{fullShare} f)
  iintro H
  iexists f
  iexact H

theorem dn_elim : (bigSep Finset.univ fun c : Fin ((K (F := F)).nCore 0) => (P m).dn 0 d c : sProp 𝕄)
    ⊢ ((SparseCore.T d).loc main_v7 ↦{fullShare} (GO (fC m d) (fG m d) : Buf (Elt F) ((SparseCore.T d).loc main_v7))) := by
  show (bigSep Finset.univ fun c : Fin ((K (F := F)).nCore 0) => bigSep Finset.univ fun i : Fin ((K (F := F)).nSub 0) => tileOut m d (tL (F := F) c i)) ⊢ _
  rw [cores_eq, rows]
  exact BIBase.Entails.refl

/-! ## The program on the TensorCore -/

/-- What it leaves the claim: the arguments, and the result. -/
abbrev FIN (d : Dev nD) : sProp 𝕄 :=
  iprop(held (SparseCore.T d) SR (VH m d) ∗ ((SparseCore.T d).loc main_v7 ↦{fullShare} (GO (fC m d) (fG m d) : Buf (Elt F) ((SparseCore.T d).loc main_v7))))

theorem two_sub {a b : DevRef τ sig} (ha : a ∈ SA) (hb : b ∈ SA) : ({a, b} : Finset (DevRef τ sig)) ⊆ SA :=
  Finset.insert_subset ha (Finset.singleton_subset_iff.mpr hb)

theorem hops : ∀ op ∈ (ops (F := F)), op.bufs ⊆ SA := by
  intro op h
  simp only [List.mem_cons, List.not_mem_nil, or_false] at h
  rcases h with rfl | rfl | rfl | rfl | rfl | rfl | rfl <;> exact two_sub (by decide) (by decide)

theorem hfresh : ∀ op ∈ (ops (F := F)), op.fresh = ∅ := by
  intro op h
  simp only [List.mem_cons, List.not_mem_nil, or_false] at h
  rcases h with rfl | rfl | rfl | rfl | rfl | rfl | rfl <;> rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq (defs := (K (F := F)).defs (D (F := F))) 𝒱 none Set.univ d SA _ ops hops hfresh (V0 m d)) $$ [Hb Hheld]
  · isplitl [Hb]; · iexact Hb
    iexact Hheld
  iintro ⟨Hb, Hheld⟩
  ihave H1 := (Entails.of_eq (held_sub_split (SparseCore.T d) (show SC ⊆ SA by decide) (VH m d))) $$ [Hheld]
  · iexact Hheld
  icases H1 with ⟨Hc, Hr⟩
  ihave H2 := (Entails.of_eq (held_sub_split (SparseCore.T d) (show SR ⊆ SA \ SC by decide) (VH m d))) $$ Hr
  icases H2 with ⟨Ha, -⟩
  ihave H3 := (Entails.of_eq (held_three d (VH m d))) $$ Hc
  simp only [wp_bind, wp_pure]
  iapply ((K (F := F)).wp_run (D (F := F)) 𝒱 (EH := EH) (P := P m) κ d 0) $$ [Hst H3 Ha Hb Hts]
  isplitr; · iexact Hctx
  isplitl [Hst]; · iexact Hst
  isplitl [H3]
  · iapply (st_intro m d (VH m d (rf main_v7)))
    iexact H3
  iintro ⟨Hst, Hdn⟩
  ihave Hdn' := (dn_elim m d) $$ Hdn
  imodintro
  isplitl [Hst]; · iexact Hst
  isplitr [Hb Hts]
  · isplitl [Ha]; · iexact Ha
    iexact Hdn'
  isplitl [Hb] <;> iassumption

/-! ## The run -/

/-- The arguments unchanged and the result the tiles' sums. -/
def fq (d : Dev nD) (s' : Phys nD τ sig (Elt F)) : Prop :=
  (s'.mem.mem ((SparseCore.T d).loc main_arg0) = VH m d (rf main_arg0) ∧ s'.mem.mem ((SparseCore.T d).loc main_arg1) = VH m d (rf main_arg1))
    ∧ s'.mem.mem ((SparseCore.T d).loc main_v7) = (GO (fC m d) (fG m d) : Buf (Elt F) ((SparseCore.T d).loc main_v7))

theorem agree (ℓ : Loc nD τ sig) (f : Buf (Elt F) ℓ) (s' : Phys nD τ sig (Elt F)) : iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  unfold FIN
  rw [held_two]
  iintro ⟨⟨⟨H0, H1⟩, H7⟩, HSI⟩
  ihave X := (agree ((SparseCore.T d).loc main_arg0) _ s') $$ [H0 HSI]
  · isplitl [H0] <;> iassumption
  icases X with ⟨%h0, HSI⟩
  ihave X := (agree ((SparseCore.T d).loc main_arg1) _ s') $$ [H1 HSI]
  · isplitl [H1] <;> iassumption
  icases X with ⟨%h1, HSI⟩
  ihave X := (agree ((SparseCore.T d).loc main_v7) _ s') $$ [H7 HSI]
  · isplitl [H7] <;> iassumption
  icases X with ⟨%h7, HSI⟩
  ipureintro
  exact ⟨⟨h0, h1⟩, h7⟩

def QC : PUnit × MemSt nD τ sig (Elt F) → Prop := fun r =>
  (∀ c : Dev nD, (r.2.mem ((SparseCore.T c).loc main_arg0) = VH m c (rf main_arg0) ∧ r.2.mem ((SparseCore.T c).loc main_arg1) = VH m c (rf main_arg1))
    ∧ r.2.mem ((SparseCore.T c).loc main_v7) = (GO (fC m c) (fG m c) : Buf (Elt F) ((SparseCore.T c).loc main_v7))) ∧ r.2.sem = fun _ => 0

theorem run_main [∀ e, Nonempty (Elt F e)] : θ_run (Cert.HistIdeal.defs (F := F)) (Cert.HistIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The host's operations leave the arguments. -/
theorem VH_arg0 : VH m d (rf main_arg0) = m (d, rf main_arg0) := by
  unfold VH ops
  after_results
  rfl
theorem VH_arg1 : VH m d (rf main_arg1) = m (d, rf main_arg1) := by
  unfold VH ops
  after_results
  rfl

end Cert.Proof.HistIdeal
-- ==== Proof.HistFrame.lean ====
/-
  The histogram program runs, ends with its arguments unchanged and with every semaphore at zero, at every instance of the
  floats. The program as it is printed and its idealization are one text under two names, so one run serves both.
-/
module

public import proofs.«01_k».proof.Proof.HistMain
public import proofs.«01_k».proof.Proof.Gen.Hist
public import Idealize.ShloMosaic.Init

@[expose] public section

noncomputable section

namespace Cert.Proof.HistIdeal

open Idealize.ShloMosaic Idealize.SL.Sem

variable {F : FTy → Type} [FloatOps F] [∀ e, Nonempty (Elt F e)]

/-- The arguments end unchanged and every semaphore ends at zero. -/
abbrev FrameQ (m : (ℓ : Loc Cert.HistIdeal.nD Cert.HistIdeal.τ Cert.HistIdeal.sig) → Buf (Elt F) ℓ)
    (r : PUnit × MemSt Cert.HistIdeal.nD Cert.HistIdeal.τ Cert.HistIdeal.sig (Elt F)) : Prop :=
  (∀ c : Dev Cert.HistIdeal.nD,
      r.2.mem ((c.tc : Thread Cert.HistIdeal.nD Cert.HistIdeal.τ).loc Cert.HistIdeal.main_arg0) = m ((c.tc : Thread Cert.HistIdeal.nD Cert.HistIdeal.τ).loc Cert.HistIdeal.main_arg0)
      ∧ r.2.mem ((c.tc : Thread Cert.HistIdeal.nD Cert.HistIdeal.τ).loc Cert.HistIdeal.main_arg1) = m ((c.tc : Thread Cert.HistIdeal.nD Cert.HistIdeal.τ).loc Cert.HistIdeal.main_arg1))
    ∧ r.2.sem = fun _ => 0

theorem frame (m : (ℓ : Loc Cert.HistIdeal.nD Cert.HistIdeal.τ Cert.HistIdeal.sig) → Buf (Elt F) ℓ) (ρ : Dev Cert.HistIdeal.nD → PrngReg) :
    θ_run (Cert.HistIdeal.defs (F := F)) (Cert.HistIdeal.threads (F := F)) ⟨m, fun _ => 0, ρ⟩ (FrameQ m) :=
  (θ_run (Cert.HistIdeal.defs (F := F)) _ _).mono (fun _ h => ⟨fun c => ⟨(h.1 c).1.1.trans (VH_arg0 m c), (h.1 c).1.2.trans (VH_arg1 m c)⟩, h.2⟩) (run_main m ρ)

theorem defs_eq : @Cert.Hist.defs F _ _ = @Cert.HistIdeal.defs F _ _ := rfl

theorem frame_printed (m : (ℓ : Loc Cert.Hist.nD Cert.Hist.τ Cert.Hist.sig) → Buf (Elt F) ℓ) (ρ : Dev Cert.Hist.nD → PrngReg) :
    θ_run (Cert.Hist.defs (F := F)) (Cert.Hist.threads (F := F)) ⟨m, fun _ => 0, ρ⟩ (FrameQ m) := by
  rw [defs_eq]
  exact frame m ρ

end Cert.Proof.HistIdeal
-- ==== Proof.HistSum.lean ====
/-
  The histogram kernel's sums over the extended reals: what one block holds after all chunks, and the row of 256 sums it becomes,
  as one sum over all the columns.
-/
module

public import proofs.«01_k».proof.Proof.HistLaunch
public import Idealize.ShloMosaic.PureOps.Ideal

@[expose] public section

noncomputable section

namespace Cert.Proof.HistIdeal

open Cert.HistIdeal Cert.HistIdeal.Gen

open Idealize.ShloMosaic
open scoped BigOperators

/-! ## Words -/

theorem and_4080 (n : Nat) : n &&& 4080 = 16 * (n / 16 % 256) := by
  apply Nat.eq_of_testBit_eq
  intro i
  rw [show (4080 : Nat) = (2 ^ 8 - 1) <<< 4 by decide, Nat.testBit_and, Nat.testBit_shiftLeft, Nat.testBit_two_pow_sub_one,
    show 16 * (n / 16 % 256) = 2 ^ 4 * (n / 2 ^ 4 % 2 ^ 8) by rfl, Nat.testBit_two_pow_mul, Nat.testBit_mod_two_pow, Nat.testBit_div_two_pow]
  by_cases h : 4 ≤ i
  · have e : i - 4 + 4 = i := by omega
    simp [h, e, Bool.and_comm]
  · simp [h]

/-- The code of subspace `m` in a packed word: its byte `m`. -/
def codeOf (m : Fin 4) (w : BitVec 32) : Nat := w.toNat / 2 ^ (8 * m.val) % 256

theorem cIdx_toNat (x : IVec S16 32) (y : S16.Idx) : (cIdx x lanes y).toNat = 16 * ((x y).toNat / 16 % 256) + (y 0).val := by
  show ((x y &&& 4080#32) ||| lanes y).toNat = _
  rw [BitVec.toNat_or, BitVec.toNat_and, lanes_toNat]
  show ((x y).toNat &&& 4080) ||| (y 0).val = _
  rw [and_4080]
  exact (Nat.two_pow_add_eq_or_of_lt (i := 4) (show (y 0).val < 2 ^ 4 from (y 0).isLt) _).symm

theorem sh_code (m : Fin 4) (c : IVec S16 32) (y : S16.Idx) : (sh m c y).toNat / 16 % 256 = codeOf m (c y) := by
  have hc : (c y).toNat < 2 ^ 32 := (c y).isLt
  unfold codeOf
  match m with
  | 0 =>
    show (c y <<< 4).toNat / 16 % 256 = _
    rw [BitVec.toNat_shiftLeft, Nat.shiftLeft_eq]
    show _ = (c y).toNat / 1 % 256
    omega
  | 1 =>
    show (c y >>> 4).toNat / 16 % 256 = _
    rw [BitVec.toNat_ushiftRight, Nat.shiftRight_eq_div_pow, Nat.div_div_eq_div_mul]
    rfl
  | 2 =>
    show (c y >>> 12).toNat / 16 % 256 = _
    rw [BitVec.toNat_ushiftRight, Nat.shiftRight_eq_div_pow, Nat.div_div_eq_div_mul]
    rfl
  | 3 =>
    show (c y >>> 20).toNat / 16 % 256 = _
    rw [BitVec.toNat_ushiftRight, Nat.shiftRight_eq_div_pow, Nat.div_div_eq_div_mul]
    rfl

/-! ## One store -/

theorem foldl_add_if {n : Nat} (P : Fin n → Prop) [DecidablePred P] (g : Fin n → EReal) (a : EReal) :
    (List.finRange n).foldl (fun r k => if P k then r + g k else r) a = a + ∑ k, if P k then g k else 0 := by
  have h : ∀ (l : List (Fin n)) (a : EReal), l.foldl (fun r k => if P k then r + g k else r) a = a + (l.map fun k => if P k then g k else 0).sum := by
    intro l
    induction l with
    | nil => intro a; simp
    | cons k l ih =>
      intro a
      rw [List.foldl_cons, ih, List.map_cons, List.sum_cons]
      by_cases hk : P k
      · rw [if_pos hk, if_pos hk, add_assoc]
      · rw [if_neg hk, if_neg hk, zero_add]
  rw [h, Fin.sum_univ_def]

/-- The lane that word `y` of a block belongs to. -/
abbrev lnOf (y : S4096.Idx) : S16.Idx := Shape.ofLane (d := ![16]) ⟨(y 0).val % 16, Nat.mod_lt _ (by decide)⟩

/-- A store adds to a word the value of the word's own lane, when the lane's code is the word's. -/
theorem addB_apply (h : Vec Ideal S4096 .f32) (x : IVec S16 32) (g : FVec Ideal S16 .f32) (y : S4096.Idx) :
    addB h x g y = (h y + if (x (lnOf y)).toNat / 16 % 256 = (y 0).val / 16 then g (lnOf y) else 0 : EReal) := by
  have e : addB h x g y = (List.finRange 16).foldl (fun (r : EReal) (k : Fin 16) =>
      if (y 0).val = (cIdx x lanes (Shape.ofLane (d := ![16]) k)).toNat then r + g (Shape.ofLane (d := ![16]) k) else r) (h y) := by
    unfold addB storeIdx
    refine (List.foldl_hom (fun r : Vec Ideal S4096 .f32 => (r y : EReal)) fun r k => ?_).symm
    rw [if_pos (show ((fun _ => 1#1 : IVec S16 1) (Shape.ofLane (d := ![16]) k)) = 1 from rfl)]
    by_cases hk : (y 0).val = (cIdx x lanes (Shape.ofLane (d := ![16]) k)).toNat
    · rw [if_pos hk]
      have hk' : ∀ a, (y a).val = (idxAt (s := S4096) ![cIdx x lanes] (cIdx_lt x) (Shape.ofLane (d := ![16]) k) a).val := by
        intro a; obtain rfl : a = 0 := Subsingleton.elim _ _; exact hk
      have hy : y = idxAt (s := S4096) ![cIdx x lanes] (cIdx_lt x) (Shape.ofLane (d := ![16]) k) := funext fun a => Fin.ext (hk' a)
      refine Eq.trans ?_ (if_pos hk').symm
      rw [← hy]
      rfl
    · rw [if_neg hk]
      exact (if_neg fun hk' => hk (hk' 0)).symm
  rw [e, foldl_add_if]
  refine congrArg (fun z : EReal => h y + z) ?_
  rw [Finset.sum_eq_single (⟨(y 0).val % 16, Nat.mod_lt _ (by decide)⟩ : Fin 16)]
  · refine if_congr ?_ rfl rfl
    rw [cIdx_toNat]
    have hy : (y 0).val < 4096 := (y 0).isLt
    show (y 0).val = 16 * ((x (lnOf y)).toNat / 16 % 256) + (y 0).val % 16 ↔ _
    omega
  · intro k _ hk
    refine if_neg fun hy => hk (Fin.ext ?_)
    rw [cIdx_toNat] at hy
    have hk' := k.isLt
    have : (Shape.ofLane (d := ![16]) k (0 : Fin 1)).val = k.val := rfl
    show k.val = (y 0).val % 16
    omega
  · intro h; exact absurd (Finset.mem_univ _) h

/-! ## A block after all chunks -/

theorem tripsH_apply (v28 : BitVec 32) (C : Vec Ideal S4096 .i32) (G : Fin 3 → Vec Ideal S4096 .i32) (H : HT Ideal) (n : Nat) (j : Fin 20) (y : S4096.Idx) :
    tripsH v28 C G H n j y = (H j y + ∑ t ∈ Finset.range n, if codeOf (jm j) (sl16 C t (lnOf y)) = (y 0).val / 16
      then gVals (F := Ideal) v28 (sl16 (G 0) t) (sl16 (G 1) t) (sl16 (G 2) t) (jb j) (lnOf y) else 0 : EReal) := by
  induction n with
  | zero => rw [Finset.range_zero, Finset.sum_empty, add_zero]; rfl
  | succ n ih =>
    show addB (tripsH v28 C G H n j) (sh (jm j) (sl16 C n)) (gVals v28 (sl16 (G 0) n) (sl16 (G 1) n) (sl16 (G 2) n) (jb j)) y = _
    rw [addB_apply, ih, Finset.sum_range_succ, sh_code, add_assoc]

/-- The half `p` of a word, as the bits of a 32-bit float whose lower half is zero. -/
def hBits (p : Nat) (w : BitVec 32) : BitVec 32 := if p = 0 then w <<< 16 else w &&& 4294901760#32

/-- The word row and the half of core `c`'s batch row `i`. -/
abbrev pOf (c : Fin 2) (i : Fin 5) : Fin 3 := ⟨(c.val + i.val) / 2, by omega⟩
@[inherit_doc pOf] abbrev hOf (c : Fin 2) (i : Fin 5) : Nat := (c.val + i.val) % 2

theorem gVals_apply (c : Fin 2) (w : Fin 3 → IVec S16 32) (i : Fin 5) (y : S16.Idx) :
    gVals (F := Ideal) (BitVec.ofNat 32 c.val) (w 0) (w 1) (w 2) i y = Ideal.ofBits .f32 (hBits (hOf c i) (w (pOf c i) y)) := by
  fin_cases c <;> fin_cases i <;> rfl

/-- Column `N`. -/
def colN (N : Nat) : Fin 2097152 := ⟨N % 2097152, Nat.mod_lt _ (by decide)⟩

/-- What column `N` adds to the sum of centroid `k` in block `j` of the tile at `c` and `s`. -/
def term (C : Vec Ideal S16x2097152 .i32) (G : Vec Ideal S5x2097152 .i32) (c : Fin 2) (s : Fin 16) (j : Fin 20) (k N : Nat) : EReal :=
  if codeOf (jm j) (C (ix2 s (colN N))) = k then Ideal.ofBits .f32 (hBits (hOf c (jb j)) (G (ix2 (gRow c (pOf c (jb j))) (colN N)))) else 0

theorem ofBits_zero : (Scalar.ofBits (F := Ideal) .f32 0x00000000#32 : EReal) = 0 := by
  show Ideal.ofBits .f32 0x00000000#32 = 0
  simp [Ideal.ofBits, Ideal.ieee]

theorem col_lane (n t : Nat) (ht : t < 256) (y : S4096.Idx) :
    col n (Shape.ofLane (d := ![4096]) ⟨(16 * t + (lnOf y 0).val) % 4096, Nat.mod_lt _ (by decide)⟩) = colN (4096 * n + (16 * t + (y 0).val % 16)) := by
  refine Fin.ext ?_
  show (4096 * n + (16 * t + (y 0).val % 16) % 4096) % 2097152 = (4096 * n + (16 * t + (y 0).val % 16)) % 2097152
  have h : (16 * t + (y 0).val % 16) % 4096 = 16 * t + (y 0).val % 16 := Nat.mod_eq_of_lt (by omega)
  rw [h]

theorem HH_apply (C : Vec Ideal S16x2097152 .i32) (G : Vec Ideal S5x2097152 .i32) (c : Fin 2) (s : Fin 16) (n : Nat) (j : Fin 20) (y : S4096.Idx) :
    HH C G c s n j y = (∑ i ∈ Finset.range n, ∑ t ∈ Finset.range 256, term C G c s j ((y 0).val / 16) (4096 * i + (16 * t + (y 0).val % 16)) : EReal) := by
  induction n with
  | zero => rw [Finset.range_zero, Finset.sum_empty]; exact ofBits_zero
  | succ n ih =>
    show tripsH (BitVec.ofNat 32 c.val) (cWord C s n) (gWord G c n) (HH C G c s n) 256 j y = _
    rw [tripsH_apply, ih, Finset.sum_range_succ _ n]
    refine congrArg₂ (fun a b : EReal => a + b) rfl (Finset.sum_congr rfl fun t ht => ?_)
    rw [gVals_apply c (fun p => sl16 (gWord G c n p) t)]
    unfold term
    have e := col_lane n t (Finset.mem_range.mp ht) y
    have e1 : sl16 (cWord C s n) t (lnOf y) = C (ix2 s (colN (4096 * n + (16 * t + (y 0).val % 16)))) := congrArg (fun z => C (ix2 s z)) e
    have e2 : ∀ p, sl16 (gWord G c n p) t (lnOf y) = G (ix2 (gRow c p) (colN (4096 * n + (16 * t + (y 0).val % 16)))) := fun p => congrArg (fun z => G (ix2 (gRow c p) z)) e
    rw [e1, e2]

/-! ## A row of sums -/

/-- Word `a` of a block. -/
def wAt (h : Vec Ideal S4096 .f32) (a : Nat) : EReal := h (Shape.ofLane (d := ![4096]) ⟨a % 4096, Nat.mod_lt _ (by decide)⟩)

theorem redAcc_apply (h : Vec Ideal S4096 .f32) (k : Fin 16) (n : Nat) (y : S16.Idx) :
    redAcc h k n y = (∑ l ∈ Finset.range n, wAt h (16 * (16 * k.val + (y 0).val) + ((y 0).val + l) % 16) : EReal) := by
  induction n with
  | zero => rw [Finset.range_zero, Finset.sum_empty]; exact ofBits_zero
  | succ n ih =>
    show (redAcc h k n y + loadIdx h ![gIx k (Fin.ofNat 16 n)] (k0_idx41_inb _ (chk9 k (Fin.ofNat 16 n))) y : EReal) = _
    rw [ih, Finset.sum_range_succ]
    refine congrArg₂ (fun a b : EReal => a + b) rfl (congrArg h (idx1_ext ?_))
    show (gIx k (Fin.ofNat 16 n) y).toNat = (16 * (16 * k.val + (y 0).val) + ((y 0).val + n) % 16) % 4096
    rw [gIx_toNat]
    have hk := k.isLt
    have hy : (y 0).val < 16 := (y 0).isLt
    have hn : (Fin.ofNat 16 n).val = n % 16 := rfl
    rw [hn]
    omega

theorem redRow_apply (h : Vec Ideal S4096 .f32) (y : S256.Idx) : redRow h y = (∑ l ∈ Finset.range 16, wAt h (16 * (y 0).val + l) : EReal) := by
  unfold redRow
  rw [redAcc_apply]
  have hy : (y 0).val < 256 := (y 0).isLt
  show (∑ l ∈ Finset.range 16, wAt h (16 * (16 * ((y 0).val / 16) + (y 0).val % 16) + ((y 0).val % 16 + l) % 16) : EReal) = _
  refine Finset.sum_nbij' (fun l => ((y 0).val % 16 + l) % 16) (fun l => (l + 16 - (y 0).val % 16) % 16) ?_ ?_ ?_ ?_ ?_
  · intro l _; exact Finset.mem_range.mpr (Nat.mod_lt _ (by decide))
  · intro l _; exact Finset.mem_range.mpr (Nat.mod_lt _ (by decide))
  · intro l hl; have := Finset.mem_range.mp hl; show (((y 0).val % 16 + l) % 16 + 16 - (y 0).val % 16) % 16 = l; omega
  · intro l hl; have := Finset.mem_range.mp hl; show ((y 0).val % 16 + (l + 16 - (y 0).val % 16) % 16) % 16 = l; omega
  · intro l _
    rw [Nat.div_add_mod]

theorem sum_range_mul (a b : Nat) (f : Nat → EReal) : (∑ N ∈ Finset.range (a * b), f N) = ∑ i ∈ Finset.range a, ∑ t ∈ Finset.range b, f (b * i + t) := by
  induction a with
  | zero => simp
  | succ a ih => rw [Nat.succ_mul, Finset.sum_range_add, Finset.sum_range_succ, ih, Nat.mul_comm a b]

/-- An element of the result is one sum over the columns. -/
theorem GO_apply (C : Vec Ideal S16x2097152 .i32) (G : Vec Ideal S5x2097152 .i32) (x : S10x64x256.Idx) :
    GO C G x = (∑ N ∈ Finset.range 2097152, term C G (oOf x).1 (oOf x).2.1 (oOf x).2.2 (x 2).val N : EReal) := by
  unfold GO
  rw [redRow_apply]
  have hx : (x 2).val < 256 := (x 2).isLt
  show (∑ l ∈ Finset.range 16, wAt (HH C G (oOf x).1 (oOf x).2.1 512 (oOf x).2.2) (16 * (x 2).val + l) : EReal) = _
  rw [show (2097152 : Nat) = 512 * 4096 by decide, sum_range_mul 512 4096]
  have e : ∀ l ∈ Finset.range 16, (wAt (HH C G (oOf x).1 (oOf x).2.1 512 (oOf x).2.2) (16 * (x 2).val + l) : EReal)
      = ∑ i ∈ Finset.range 512, ∑ t ∈ Finset.range 256, term C G (oOf x).1 (oOf x).2.1 (oOf x).2.2 (x 2).val (4096 * i + (16 * t + l)) := by
    intro l hl
    have hl' := Finset.mem_range.mp hl
    unfold wAt
    rw [HH_apply]
    show (∑ i ∈ Finset.range 512, ∑ t ∈ Finset.range 256, term C G _ _ _ ((16 * (x 2).val + l) % 4096 / 16) (4096 * i + (16 * t + (16 * (x 2).val + l) % 4096 % 16)) : EReal) = _
    have h1 : (16 * (x 2).val + l) % 4096 / 16 = (x 2).val := by omega
    have h2 : (16 * (x 2).val + l) % 4096 % 16 = l := by omega
    rw [h1, h2]
  rw [Finset.sum_congr rfl e, Finset.sum_comm]
  refine Finset.sum_congr rfl fun i _ => ?_
  rw [Finset.sum_comm, show (4096 : Nat) = 256 * 16 by decide, sum_range_mul 256 16 (fun N => term C G (oOf x).1 (oOf x).2.1 (oOf x).2.2 (x 2).val (256 * 16 * i + N))]

end Cert.Proof.HistIdeal
-- ==== Proof.HistPack.lean ====
/-
  The packed arrays that the histogram kernel reads, in terms of the arguments: byte `m` of word `(s, N)` of the packed codes is the
  code of column `N` and subspace `4 s + m`; half `p` of word `(r, N)` of the packed gradients is the gradient of batch row
  `2 r + p` and column `N`.
-/
module

public import proofs.«01_k».proof.Proof.HistSum
public import Idealize.ShloMosaic.Lib.BitcastConvert
public import Idealize.ShloMosaic.Lib.ValueLayout

@[expose] public section

noncomputable section

namespace Cert.Proof.HistIdeal

open Cert.HistIdeal Cert.HistIdeal.Gen

open Idealize.ShloMosaic
open Idealize.ShloMosaic.Tactic

/-- An index of a rank-three shape. -/
def ix3 {a b c : Nat} (p : Fin a) (q : Fin b) (r : Fin c) : (⟨3, ![a, b, c]⟩ : Shape).Idx := fun | ⟨0, _⟩ => p | ⟨1, _⟩ => q | ⟨2, _⟩ => r

theorem ix3_ext {a b c : Nat} {x y : (⟨3, ![a, b, c]⟩ : Shape).Idx} (h0 : (x 0).val = (y 0).val) (h1 : (x 1).val = (y 1).val) (h2 : (x 2).val = (y 2).val) :
    x = y := by
  funext z
  match z with
  | ⟨0, _⟩ => exact Fin.ext h0
  | ⟨1, _⟩ => exact Fin.ext h1
  | ⟨2, _⟩ => exact Fin.ext h2

/-! ## The codes -/

/-- The codes as the kernel reads them. -/
def packC (A : IVec S2097152x64 8) : IVec S16x2097152 32 :=
  Host.bitcastConvertWiden S16x2097152 32 (transpose S16x2097152x4 [0, 2, 1] (shapeCast S16x4x2097152 (transpose S64x2097152 [1, 0] A
    transposes_S2097152x64_S64x2097152_1_0) shapeCasts_S64x2097152_S16x4x2097152) transposes_S16x4x2097152_S16x2097152x4_0_2_1)
    splits_S16x2097152_w32_S16x2097152x4_w8

/-- The gradients as the kernel reads them. -/
def packG (A : IVec S10x2097152 16) : IVec S5x2097152 32 :=
  Host.bitcastConvertWiden S5x2097152 32 (transpose S5x2097152x2 [0, 2, 1] (shapeCast S5x2x2097152 A shapeCasts_S10x2097152_S5x2x2097152)
    transposes_S5x2x2097152_S5x2097152x2_0_2_1) splits_S5x2097152_w32_S5x2097152x2_w16

/-- Byte `q` of word `(s, N)`. -/
theorem packC_part (A : IVec S2097152x64 8) (s : Fin 16) (N : Fin 2097152) (q : Fin 4) :
    transpose S16x2097152x4 [0, 2, 1] (shapeCast S16x4x2097152 (transpose S64x2097152 [1, 0] A
      transposes_S2097152x64_S64x2097152_1_0) shapeCasts_S64x2097152_S16x4x2097152) transposes_S16x4x2097152_S16x2097152x4_0_2_1 (ix3 s N q)
      = A (ix2 N (⟨4 * s.val + q.val, by omega⟩ : Fin 64)) := by
  rw [transpose_apply _ _ _ _ (ix3 s q N) (fun c => match c with | ⟨0, _⟩ => rfl | ⟨1, _⟩ => rfl | ⟨2, _⟩ => rfl)]
  rw [shapeCast_apply _ _ _ (ix2 (⟨4 * s.val + q.val, by omega⟩ : Fin 64) N) (by
    rw [Shape.rowMajor_val_three, Shape.rowMajor_val_two]
    show (4 * s.val + q.val) * 2097152 + N.val = (s.val * 4 + q.val) * 2097152 + N.val
    omega)]
  rw [transpose_apply _ _ _ _ (ix2 N (⟨4 * s.val + q.val, by omega⟩ : Fin 64)) (fun c => match c with | ⟨0, _⟩ => rfl | ⟨1, _⟩ => rfl)]

theorem packG_part (A : IVec S10x2097152 16) (r : Fin 5) (N : Fin 2097152) (p : Fin 2) :
    transpose S5x2097152x2 [0, 2, 1] (shapeCast S5x2x2097152 A shapeCasts_S10x2097152_S5x2x2097152)
      transposes_S5x2x2097152_S5x2097152x2_0_2_1 (ix3 r N p)
      = A (ix2 (⟨2 * r.val + p.val, by omega⟩ : Fin 10) N) := by
  rw [transpose_apply _ _ _ _ (ix3 r p N) (fun c => match c with | ⟨0, _⟩ => rfl | ⟨1, _⟩ => rfl | ⟨2, _⟩ => rfl)]
  rw [shapeCast_apply _ _ _ (ix2 (⟨2 * r.val + p.val, by omega⟩ : Fin 10) N) (by
    rw [Shape.rowMajor_val_three, Shape.rowMajor_val_two]
    show (2 * r.val + p.val) * 2097152 + N.val = (r.val * 2 + p.val) * 2097152 + N.val
    omega)]

theorem codeOf_eq (m : Fin 4) (w : BitVec 32) : codeOf m w = (w.extractLsb' (8 * m.val) 8).toNat := by
  rw [BitVec.extractLsb'_toNat, Nat.shiftRight_eq_div_pow]
  rfl

theorem packC_code (A : IVec S2097152x64 8) (s : Fin 16) (N : Fin 2097152) (q : Fin 4) :
    codeOf q (packC A (ix2 s N)) = (A (ix2 N (⟨4 * s.val + q.val, by omega⟩ : Fin 64))).toNat := by
  rw [codeOf_eq]
  refine congrArg BitVec.toNat (BitVec.eq_of_getLsbD_eq fun i hi => ?_)
  have hq := q.isLt
  rw [BitVec.getLsbD_extractLsb', decide_eq_true hi, Bool.true_and]
  unfold packC
  rw [Host.bitcastConvertWiden_getLsbD _ _ _ _ _ _ (by omega), ← packC_part A s N q]
  have e1 : (8 * q.val + i) / 8 = q.val := by omega
  have e2 : (8 * q.val + i) % 8 = i := by omega
  rw [e2]
  refine congrArg (fun z => BitVec.getLsbD (transpose S16x2097152x4 [0, 2, 1] (shapeCast S16x4x2097152 (transpose S64x2097152 [1, 0] A
      transposes_S2097152x64_S64x2097152_1_0) shapeCasts_S64x2097152_S16x4x2097152) transposes_S16x4x2097152_S16x2097152x4_0_2_1 z) i) ?_
  refine ix3_ext rfl rfl ?_
  exact e1

theorem packG_half (A : IVec S10x2097152 16) (r : Fin 5) (N : Fin 2097152) (p : Fin 2) :
    hBits p.val (packG A (ix2 r N)) = A (ix2 (⟨2 * r.val + p.val, by omega⟩ : Fin 10) N) ++ 0#16 := by
  rw [← packG_part A r N p]
  have e : packG A (ix2 r N) = transpose S5x2097152x2 [0, 2, 1] (shapeCast S5x2x2097152 A shapeCasts_S10x2097152_S5x2x2097152)
      transposes_S5x2x2097152_S5x2097152x2_0_2_1 (ix3 r N 1) ++ transpose S5x2097152x2 [0, 2, 1] (shapeCast S5x2x2097152 A shapeCasts_S10x2097152_S5x2x2097152)
      transposes_S5x2x2097152_S5x2097152x2_0_2_1 (ix3 r N 0) := by
    unfold packG
    rw [Host.bitcastConvertWiden_apply_16_32]
    refine congrArg₂ (fun y z => transpose S5x2097152x2 [0, 2, 1] (shapeCast S5x2x2097152 A shapeCasts_S10x2097152_S5x2x2097152)
      transposes_S5x2x2097152_S5x2097152x2_0_2_1 y ++ transpose S5x2097152x2 [0, 2, 1] (shapeCast S5x2x2097152 A shapeCasts_S10x2097152_S5x2x2097152)
      transposes_S5x2x2097152_S5x2097152x2_0_2_1 z) (ix3_ext rfl rfl rfl) (ix3_ext rfl rfl rfl)
  rw [e]
  generalize transpose S5x2097152x2 [0, 2, 1] (shapeCast S5x2x2097152 A shapeCasts_S10x2097152_S5x2x2097152)
      transposes_S5x2x2097152_S5x2097152x2_0_2_1 = T
  unfold hBits
  match p with
  | 0 =>
    rw [if_pos (show (0 : Fin 2).val = 0 from rfl)]
    apply BitVec.eq_of_getLsbD_eq
    intro i hi
    rw [BitVec.getLsbD_shiftLeft, BitVec.getLsbD_append, BitVec.getLsbD_append]
    by_cases h : i < 16
    · simp [h]
    · have h1 : i - 16 < 16 := by omega
      simp [h, h1, hi]
  | 1 =>
    rw [if_neg (show ¬ (1 : Fin 2).val = 0 by decide)]
    apply BitVec.eq_of_getLsbD_eq
    intro i hi
    rw [BitVec.getLsbD_and, BitVec.getLsbD_append, BitVec.getLsbD_append]
    have hm : (4294901760#32).getLsbD i = decide (16 ≤ i) := by
      have : ∀ i : Fin 32, (4294901760#32).getLsbD i.val = decide (16 ≤ i.val) := by decide
      exact this ⟨i, hi⟩
    rw [hm]
    by_cases h : i < 16
    · simp [h]
    · have h1 : 16 ≤ i := by omega
      simp [h, h1]

/-! ## A half of a word as a float -/

/-- The bits of a 16-bit float on top of sixteen zeros denote the same number. -/
theorem ofBits_widen (b : BitVec 16) : Ideal.ofBits .f32 (b ++ 0#16) = Ideal.ofBits .bf16 b := by
  have hs : (b ++ 0#16).extractLsb' 31 1 = b.extractLsb' 15 1 := by
    apply BitVec.eq_of_getLsbD_eq; intro i hi
    have h0 : i = 0 := by omega
    subst h0
    rw [BitVec.getLsbD_extractLsb', BitVec.getLsbD_extractLsb', BitVec.getLsbD_append]
    simp
  have he : (b ++ 0#16).extractLsb' 23 8 = b.extractLsb' 7 8 := by
    apply BitVec.eq_of_getLsbD_eq; intro i hi
    have h1 : ¬ (23 + i < 16) := by omega
    have h2 : 23 + i - 16 = 7 + i := by omega
    rw [BitVec.getLsbD_extractLsb', BitVec.getLsbD_extractLsb', BitVec.getLsbD_append]
    simp [hi, h1, h2]
  have hf : ((b ++ 0#16).extractLsb' 0 23).toNat = 65536 * (b.extractLsb' 0 7).toNat := by
    rw [BitVec.extractLsb'_toNat, BitVec.extractLsb'_toNat, BitVec.toNat_append]
    simp [Nat.shiftLeft_eq]
    omega
  show Ideal.ieee 8 23 (b ++ 0#16) = Ideal.ieee 8 7 b
  unfold Ideal.ieee
  simp only [show 8 + 23 = 31 by rfl, show 8 + 7 = 15 by rfl]
  rw [hs, he, hf]
  generalize (b.extractLsb' 7 8).toNat = E
  generalize (b.extractLsb' 0 7).toNat = n
  generalize (b.extractLsb' 15 1 == 1#1) = sgn
  have hz : (65536 * n = 0) = (n = 0) := by simp
  have hp : ∀ k : Int, (2 : ℝ) ^ (k - 7) = 65536 * (2 : ℝ) ^ (k - 23) := fun k => by
    rw [show k - 7 = 16 + (k - 23) by ring, zpow_add₀ (by norm_num)]
    norm_num
  have hp1 : (2 : ℝ) ^ (1 - (2 ^ (8 - 1) - 1) - (7 : ℕ) : Int) = 65536 * (2 : ℝ) ^ (1 - (2 ^ (8 - 1) - 1) - (23 : ℕ) : Int) := hp _
  have hp2 : (2 : ℝ) ^ ((E : Int) - (2 ^ (8 - 1) - 1) - (7 : ℕ)) = 65536 * (2 : ℝ) ^ ((E : Int) - (2 ^ (8 - 1) - 1) - (23 : ℕ)) := hp _
  simp only [hz]
  rw [hp1, hp2]
  refine if_congr Iff.rfl rfl (if_congr Iff.rfl (congrArg _ ?_) (congrArg _ ?_))
  · push_cast
    ring
  · push_cast
    ring

/-! ## What the kernel reads, of the program's arguments -/

section

variable {F : FTy → Type} [FloatOps F]

theorem fC_eq (m : (ℓ : Loc nD τ sig) → Buf (Elt F) ℓ) (d : Dev nD) : fC m d = packC (m (d, rf main_arg0)) := by
  unfold fC VH ops
  after_results
  rfl

theorem fG_eq (m : (ℓ : Loc nD τ sig) → Buf (Elt F) ℓ) (d : Dev nD) : fG m d = packG (m (d, rf main_arg1)) := by
  unfold fG VH ops
  after_results
  rfl

end

end Cert.Proof.HistIdeal
-- ==== Proof.HistRef.lean ====
/-
  The reference's histogram at an index: the scatter-add's updates that land at `(b, m, k)` are those of the columns whose code in
  subspace `m` is `k`, so the entry is the sum of batch row `b`'s gradients over those columns.
-/
module

public import proofs.«01_k».proof.Proof.Gen.HistRefIdeal
public import proofs.«01_k».proof.Proof.Gen.HistRefIdeal.Run
public import Idealize.ShloMosaic.Lib.Routing.OpsPair
public import Idealize.ShloMosaic.Lib.ValueLayout
public import Idealize.ShloMosaic.PureOps.Ideal

@[expose] public section

noncomputable section

namespace Cert.Proof.HistRef

open Cert.HistRefIdeal Cert.HistRefIdeal.Gen
open Idealize.ShloMosaic
open Idealize.ShloMosaic.ValueIdx (ix2 ix3 ix4 eq_ix3)
open Idealize.ShloMosaic.Routing (resultIdx?_eq_some wrap_of_lt)

/-! ## Where an update lands -/

/-- Update `(a, b, c)` of a scatter of scalars into a rank-three array, three index words each, lands at `i` exactly when its words, read
    signed, are `i`'s coordinates. -/
theorem scatter_lands3 {P Q R A B C w : Nat} (d : ScatterDims ⟨3, ![P, Q, R]⟩ ⟨4, ![A, B, C, 3]⟩ ⟨3, ![A, B, C]⟩)
    (huw : d.updateWindowDims = []) (hiw : d.insertedWindowDims = [0, 1, 2])
    (hsd : d.scatterDimsToOperandDims = [0, 1, 2]) (hivd : d.indexVectorDim = 3) (idx : IVec ⟨4, ![A, B, C, 3]⟩ w)
    (a : Fin A) (b : Fin B) (c : Fin C) (i : (⟨3, ![P, Q, R]⟩ : Shape).Idx) :
    d.resultIdx? (ix3 a b c) idx = some i ↔ (idx (ix4 a b c 0)).toInt = (i 0).val ∧ (idx (ix4 a b c 1)).toInt = (i 1).val
      ∧ (idx (ix4 a b c 2)).toInt = (i 2).val := by
  have hm : ∀ q : Fin 3, q ∈ d.scatterDimsToOperandDims := fun q => by rw [hsd]; fin_cases q <;> simp
  have hwin : ∀ q : Fin 3, d.window (ix3 a b c) q = 0 := fun q => by
    unfold ScatterDims.window
    rw [dif_neg fun h => (of_decide_eq_true (List.mem_filter.1 h).2) (by rw [hiw]; fin_cases q <;> simp)]
  have hk : d.siKept = [0, 1, 2] := by
    show (List.finRange 4).filter (fun x => decide (x.val ≠ d.indexVectorDim)) = _
    rw [hivd]
    rfl
  have hu : d.uScatter = [0, 1, 2] := by
    show (⟨3, ![A, B, C]⟩ : Shape).kept d.updateWindowDims = _
    rw [huw]
    rfl
  have e : ∀ (l : List (Fin 3)) (n : ℕ) (h : n < l.length) (m : Fin 3), l = [0, 1, 2] → n = m.val → l[n]'h = m := by
    intro l n h m hl hn
    subst hl
    subst hn
    fin_cases m <;> rfl
  have hsi : ∀ q : Fin 3, d.siIdx (ix3 a b c) ⟨d.scatterDimsToOperandDims.idxOf q, List.idxOf_lt_length_iff.2 (hm q)⟩ = ix4 a b c q := fun q => by
    funext b'
    apply Fin.ext
    match b' with
    | ⟨0, _⟩ =>
      unfold ScatterDims.siIdx
      rw [dif_neg (by rw [hivd]; exact (by decide : (0 : ℕ) ≠ 3))]
      unfold ScatterDims.siCoord
      simp only [Fin.val_cast]
      rw [e _ _ _ 0 hu (by rw [hk]; rfl)]
    | ⟨1, _⟩ =>
      unfold ScatterDims.siIdx
      rw [dif_neg (by rw [hivd]; exact (by decide : (1 : ℕ) ≠ 3))]
      unfold ScatterDims.siCoord
      simp only [Fin.val_cast]
      rw [e _ _ _ 1 hu (by rw [hk]; rfl)]
    | ⟨2, _⟩ =>
      unfold ScatterDims.siIdx
      rw [dif_neg (by rw [hivd]; exact (by decide : (2 : ℕ) ≠ 3))]
      unfold ScatterDims.siCoord
      simp only [Fin.val_cast]
      rw [e _ _ _ 2 hu (by rw [hk]; rfl)]
    | ⟨3, _⟩ =>
      unfold ScatterDims.siIdx
      rw [dif_pos (by rw [hivd])]
      show List.idxOf q d.scatterDimsToOperandDims = q.val
      rw [hsd]
      fin_cases q <;> rfl
  have hstart : ∀ q : Fin 3, d.start (ix3 a b c) idx q = (idx (ix4 a b c q)).toInt := fun q => by
    unfold ScatterDims.start
    rw [dif_pos (hm q), hsi]
  rw [resultIdx?_eq_some]
  constructor
  · intro h
    have h0 := h 0
    have h1 := h 1
    have h2 := h 2
    rw [hstart, hwin] at h0 h1 h2
    refine ⟨?_, ?_, ?_⟩ <;> omega
  · rintro ⟨h0, h1, h2⟩ q
    rw [hwin]
    match q with
    | ⟨0, _⟩ => exact (congrArg (· + (0 : Int)) ((hstart 0).trans h0)).trans (Int.add_zero _)
    | ⟨1, _⟩ => exact (congrArg (· + (0 : Int)) ((hstart 1).trans h1)).trans (Int.add_zero _)
    | ⟨2, _⟩ => exact (congrArg (· + (0 : Int)) ((hstart 2).trans h2)).trans (Int.add_zero _)

/-! ## The index words and the updates -/

/-- An index under the wrap `where(i < 0, i + n, i)`. -/
def wrap {s : Shape} (n : BitVec 32) (h : S_.BroadcastsInDim s (![] : Fin 0 → Fin s.rank)) (x : IVec s 32) : IVec s 32 :=
  select (cmpi .slt x (broadcastInDim s ![] h (constantI S_ 32 0#32))) (addi x (broadcastInDim s ![] h (constantI S_ 32 n))) x

theorem wrap_apply {s : Shape} (n : BitVec 32) (h : S_.BroadcastsInDim s (![] : Fin 0 → Fin s.rank)) (x : IVec s 32) (i : s.Idx)
    (hx : (x i).toNat < 2 ^ 31) : wrap n h x i = x i :=
  wrap_of_lt (x i) _ hx

/-- The batch rows, the subspaces and the codes, as index words. -/
def wordB : IVec S10x1x1 32 := wrap 10#32 bcast_S_S10x1x1 (broadcastInDim S10x1x1 ![0] bcast_S10_S10x1x1_0 (iotaInDim S10 32 0))
@[inherit_doc wordB] def wordM : IVec S1x1x64 32 := wrap 64#32 bcast_S_S1x1x64 (broadcastInDim S1x1x64 ![2] bcast_S64_S1x1x64_2 (iotaInDim S64 32 0))
@[inherit_doc wordB] def wordC (A : IVec S2097152x64 8) : IVec S1x2097152x64 32 :=
  wrap 256#32 bcast_S_S1x2097152x64 (broadcastInDim S1x2097152x64 ![1, 2] bcast_S2097152x64_S1x2097152x64_1_2 (extui 32 A natLt_8_32))

/-- One column of the scatter's index words. -/
def unit (x : IVec S10x2097152x64 32) : IVec S10x2097152x64x1 32 :=
  broadcastInDim S10x2097152x64x1 ![0, 1, 2] bcast_S10x2097152x64_S10x2097152x64x1_0_1_2 x

/-- The three columns. -/
def cols (A : IVec S2097152x64 8) : List ((s : Shape) × (s.Idx → BitVec 32)) :=
  [⟨S10x2097152x64x1, unit (broadcastInDim S10x2097152x64 ![0, 1, 2] bcast_S10x1x1_S10x2097152x64_0_1_2 wordB)⟩,
   ⟨S10x2097152x64x1, unit (broadcastInDim S10x2097152x64 ![0, 1, 2] bcast_S1x1x64_S10x2097152x64_0_1_2 wordM)⟩,
   ⟨S10x2097152x64x1, unit (broadcastInDim S10x2097152x64 ![0, 1, 2] bcast_S1x2097152x64_S10x2097152x64_0_1_2 (wordC A))⟩]

/-- The scatter's index words. -/
def idxR (A : IVec S2097152x64 8) : IVec S10x2097152x64x3 32 :=
  concatenate S10x2097152x64x3 3 (cols A) concatenates_S10x2097152x64x1_S10x2097152x64x1_S10x2097152x64x1_S10x2097152x64x3_d3

/-- The scatter's updates. -/
def updR (B : IVec S10x2097152 16) : FVec Ideal S10x2097152x64 .f32 :=
  broadcastInDim S10x2097152x64 ![0, 1, 2] bcast_S10x2097152x1_S10x2097152x64_0_1_2 (broadcastInDim S10x2097152x1 ![0, 1]
    bcast_S10x2097152_S10x2097152x1_0_1 (extf .f32 (bitcastToFloat (F := Ideal) .bf16 B) bitsLt_bf16_f32))

theorem unit_apply (x : IVec S10x2097152x64 32) (b : Fin 10) (N : Fin 2097152) (m : Fin 64) : unit x (ix4 b N m 0) = x (ix3 b N m) :=
  broadcastInDim_apply _ _ _ _ _ (fun a => match a with | ⟨0, _⟩ => rfl | ⟨1, _⟩ => rfl | ⟨2, _⟩ => rfl)

/-- Component `q` of update `(b, N, m)`'s words is read from column `q`. -/
theorem idxR_piece (A : IVec S2097152x64 8) (b : Fin 10) (N : Fin 2097152) (m : Fin 64) (q : Fin 3) (x : IVec S10x2097152x64 32)
    (hx : (cols A)[q.val]'(q.isLt) = ⟨S10x2097152x64x1, unit x⟩) :
    idxR A (ix4 b N m q) = x (ix3 b N m) := by
  rw [← unit_apply x b N m]
  refine concatenate_apply_piece (t := S10x2097152x64x3) 3 (cols A) _ _ q.val q.isLt _ _ hx rfl q.val ?_ _ (fun a ha => ?_) (Nat.add_zero _)
  · match q with
    | ⟨0, _⟩ => rfl
    | ⟨1, _⟩ => rfl
    | ⟨2, _⟩ => rfl
  · match a, ha with
    | ⟨0, _⟩, _ => rfl
    | ⟨1, _⟩, _ => rfl
    | ⟨2, _⟩, _ => rfl
    | ⟨3, _⟩, ha => exact absurd rfl ha

theorem ofNat_small (n : Nat) (h : n < 2 ^ 31) : (BitVec.ofNat 32 n).toNat = n := by
  rw [BitVec.toNat_ofNat]
  exact Nat.mod_eq_of_lt (by omega)

theorem toInt_small (x : BitVec 32) (h : x.toNat < 2 ^ 31) : x.toInt = (x.toNat : Int) := by
  rw [BitVec.toInt_eq_toNat_of_lt]
  omega

theorem idxR_b (A : IVec S2097152x64 8) (b : Fin 10) (N : Fin 2097152) (m : Fin 64) : (idxR A (ix4 b N m 0)).toInt = (b.val : Int) := by
  have hb := b.isLt
  have e : broadcastInDim S10x1x1 ![0] bcast_S10_S10x1x1_0 (iotaInDim S10 32 0) (ix3 b 0 0) = BitVec.ofNat 32 b.val := rfl
  rw [idxR_piece A b N m 0 _ rfl, broadcastInDim_apply _ _ _ _ (ix3 b 0 0) (fun a => match a with | ⟨0, _⟩ => rfl | ⟨1, _⟩ => rfl | ⟨2, _⟩ => rfl)]
  unfold wordB
  rw [wrap_apply _ _ _ _ (by rw [e, ofNat_small _ (by omega)]; omega), e, toInt_small _ (by rw [ofNat_small _ (by omega)]; omega), ofNat_small _ (by omega)]

theorem idxR_m (A : IVec S2097152x64 8) (b : Fin 10) (N : Fin 2097152) (m : Fin 64) : (idxR A (ix4 b N m 1)).toInt = (m.val : Int) := by
  have hb := m.isLt
  have e : broadcastInDim S1x1x64 ![2] bcast_S64_S1x1x64_2 (iotaInDim S64 32 0) (ix3 0 0 m) = BitVec.ofNat 32 m.val := rfl
  rw [idxR_piece A b N m 1 _ rfl, broadcastInDim_apply _ _ _ _ (ix3 0 0 m) (fun a => match a with | ⟨0, _⟩ => rfl | ⟨1, _⟩ => rfl | ⟨2, _⟩ => rfl)]
  unfold wordM
  rw [wrap_apply _ _ _ _ (by rw [e, ofNat_small _ (by omega)]; omega), e, toInt_small _ (by rw [ofNat_small _ (by omega)]; omega), ofNat_small _ (by omega)]

theorem idxR_c (A : IVec S2097152x64 8) (b : Fin 10) (N : Fin 2097152) (m : Fin 64) :
    (idxR A (ix4 b N m 2)).toInt = ((A (ix2 N m)).toNat : Int) := by
  have hb := (A (ix2 N m)).isLt
  have e : broadcastInDim S1x2097152x64 ![1, 2] bcast_S2097152x64_S1x2097152x64_1_2 (extui 32 A natLt_8_32) (ix3 0 N m) = (A (ix2 N m)).setWidth 32 :=
    broadcastInDim_apply _ _ _ _ (ix2 N m) (fun a => match a with | ⟨0, _⟩ => rfl | ⟨1, _⟩ => rfl)
  have en : ((A (ix2 N m)).setWidth 32).toNat = (A (ix2 N m)).toNat := by
    rw [BitVec.toNat_setWidth]
    exact Nat.mod_eq_of_lt (by omega)
  rw [idxR_piece A b N m 2 _ rfl, broadcastInDim_apply _ _ _ _ (ix3 0 N m) (fun a => match a with | ⟨0, _⟩ => rfl | ⟨1, _⟩ => rfl | ⟨2, _⟩ => rfl)]
  unfold wordC
  rw [wrap_apply _ _ _ _ (by rw [e, en]; omega), e, toInt_small _ (by rw [en]; omega), en]

theorem updR_apply (B : IVec S10x2097152 16) (b : Fin 10) (N : Fin 2097152) (m : Fin 64) :
    updR B (ix3 b N m) = Ideal.ofBits .bf16 (B (ix2 b N)) := by
  unfold updR
  rw [broadcastInDim_apply _ _ _ _ (ix3 b N 0) (fun a => match a with | ⟨0, _⟩ => rfl | ⟨1, _⟩ => rfl | ⟨2, _⟩ => rfl),
    broadcastInDim_apply _ _ _ _ (ix2 b N) (fun a => match a with | ⟨0, _⟩ => rfl | ⟨1, _⟩ => rfl)]
  rfl

/-! ## The sum -/

/-- The reference's histogram. -/
def hist (A : IVec S2097152x64 8) (B : IVec S10x2097152 16) : FVec Ideal S10x64x256 .f32 :=
  Host.scatterAdd scatter_S10x64x256_S10x2097152x64x3_S10x2097152x64_n_012_012_3
    (broadcastInDim S10x64x256 ![] bcast_S_S10x64x256 (constant S_ .f32 0x00000000#32)) (idxR A) (updR B)

theorem lands (A : IVec S2097152x64 8) (b : Fin 10) (N : Fin 2097152) (m : Fin 64) (x : S10x64x256.Idx) :
    scatter_S10x64x256_S10x2097152x64x3_S10x2097152x64_n_012_012_3.resultIdx? (ix3 b N m) (idxR A) = some x
      ↔ b = x 0 ∧ m = x 1 ∧ (A (ix2 N m)).toNat = (x 2).val := by
  refine (scatter_lands3 _ rfl rfl rfl rfl (idxR A) b N m x).trans ?_
  rw [idxR_b, idxR_m, idxR_c]
  refine and_congr (Nat.cast_inj.trans Fin.ext_iff.symm) (and_congr (Nat.cast_inj.trans Fin.ext_iff.symm) Nat.cast_inj)

/-- A scatter-add at an index, over the extended reals. -/
theorem scatterAdd_apply {s si u : Shape} {w : Nat} (d : ScatterDims s si u) (x : FVec Ideal s .f32) (idx : IVec si w) (upd : FVec Ideal u .f32) (i : s.Idx) :
    (Host.scatterAdd d x idx upd i : EReal) = x i + ∑ j ∈ Finset.univ.filter (fun j => d.resultIdx? j idx = some i), upd j := rfl

/-- A sum over the places that satisfy `P` is one over the numbers that satisfy `Q`, `f` matching the two. -/
theorem sum_match {n : Nat} {T : Type} [Fintype T] (P : T → Prop) [DecidablePred P] (Q : Fin n → Prop) [DecidablePred Q] (u : T → EReal) (v : Fin n → EReal)
    (f : Fin n → T) (hinj : Function.Injective f) (hf : ∀ N, Q N → P (f N)) (hs : ∀ j, P j → ∃ N, Q N ∧ f N = j) (hv : ∀ N, v N = u (f N)) :
    ∑ j ∈ Finset.univ.filter P, u j = ∑ N, if Q N then v N else 0 := by
  rw [← Finset.sum_filter]
  symm
  refine Finset.sum_bij (fun N _ => f N) (fun N hN => ?_) (fun N _ N' _ h => hinj h) (fun j hj => ?_) (fun N _ => hv N)
  · exact Finset.mem_filter.2 ⟨Finset.mem_univ _, hf N (Finset.mem_filter.1 hN).2⟩
  · obtain ⟨N, hQ, e⟩ := hs j (Finset.mem_filter.1 hj).2
    exact ⟨N, Finset.mem_filter.2 ⟨Finset.mem_univ _, hQ⟩, e⟩

theorem zeros_apply (x : S10x64x256.Idx) :
    (broadcastInDim S10x64x256 ![] bcast_S_S10x64x256 (constant (F := Ideal) S_ .f32 0x00000000#32) x : EReal) = 0 := by
  show Ideal.ieee 8 23 (0x00000000#32 : BitVec 32) = 0
  simp [Ideal.ieee]

theorem hist_apply (A : IVec S2097152x64 8) (B : IVec S10x2097152 16) (x : S10x64x256.Idx) :
    (hist A B x : EReal) = ∑ N : Fin 2097152, if (A (ix2 N (x 1 : Fin 64))).toNat = (x 2).val then Ideal.ofBits .bf16 (B (ix2 (x 0 : Fin 10) N)) else 0 := by
  unfold hist
  rw [scatterAdd_apply, zeros_apply, zero_add]
  refine sum_match _ _ _ _ (fun N : Fin 2097152 => (ix3 (x 0 : Fin 10) N (x 1 : Fin 64) : S10x2097152x64.Idx)) (fun N N' h => congrFun h 1)
    (fun N h => (lands A _ N _ x).2 ⟨rfl, rfl, h⟩) (fun j hj => ?_) (fun N => (updR_apply B _ N _).symm)
  rw [eq_ix3 j] at hj
  obtain ⟨e0, e1, e2⟩ := (lands A (j 0) (j 1) (j 2) x).1 hj
  refine ⟨j 1, by rw [← e1]; exact e2, ?_⟩
  rw [← e0, ← e1]
  exact (eq_ix3 j).symm

end Cert.Proof.HistRef
-- ==== Proof.HistEq.lean ====
/-
  The histogram program and the plain scatter-add leave the same result over the extended reals: entry `(b, m, k)` of both is the sum
  of batch row `b`'s gradients over the columns whose code in subspace `m` is `k`.
-/
module

public import proofs.«01_k».proof.Defs
public import proofs.«01_k».proof.Proof.HistFrame
public import proofs.«01_k».proof.Proof.HistPack
public import proofs.«01_k».proof.Proof.HistRef

@[expose] public section

noncomputable section

open Idealize.ShloMosaic Idealize.ShloMosaic.TcCoe Idealize.SL.Sem Idealize.ShloMosaic.StableHlo

namespace Cert.Proof.HistEq

open Cert.Proof.HistIdeal (GO GO_apply term oOf jm jb gRow pOf hOf colN codeOf packC packG packC_code packG_half ofBits_widen)

theorem ix2_eq {a b : Nat} (r : Fin a) (c : Fin b) : HistIdeal.ix2 r c = ValueIdx.ix2 r c := HistIdeal.ix2_ext rfl rfl

/-- One column's part of one entry of the kernel's result. -/
theorem term_eq (A : IVec Cert.HistIdeal.S2097152x64 8) (B : IVec Cert.HistIdeal.S10x2097152 16) (x : Cert.HistIdeal.S10x64x256.Idx) (N : Fin 2097152) :
    term (packC A) (packG B) (oOf x).1 (oOf x).2.1 (oOf x).2.2 (x 2).val N.val
      = if (A (ValueIdx.ix2 N (x 1 : Fin 64))).toNat = (x 2).val then Ideal.ofBits .bf16 (B (ValueIdx.ix2 (x 0 : Fin 10) N)) else 0 := by
  have h0 : (x 0).val < 10 := (x 0).isLt
  have h1 : (x 1).val < 64 := (x 1).isLt
  have hN : colN N.val = N := Fin.ext (Nat.mod_eq_of_lt N.isLt)
  have ec : codeOf (jm (oOf x).2.2) (packC A (HistIdeal.ix2 (oOf x).2.1 N)) = (A (ValueIdx.ix2 N (x 1 : Fin 64))).toNat := by
    rw [packC_code, ix2_eq]
    refine congrArg (fun z => (A (ValueIdx.ix2 N z)).toNat) (Fin.ext ?_)
    show 4 * ((x 1).val / 4) + (5 * ((x 1).val % 4) + (x 0).val % 5) / 5 = (x 1).val
    omega
  have eg : HistIdeal.hBits (hOf (oOf x).1 (jb (oOf x).2.2)) (packG B (HistIdeal.ix2 (gRow (oOf x).1 (pOf (oOf x).1 (jb (oOf x).2.2))) N))
      = B (ValueIdx.ix2 (x 0 : Fin 10) N) ++ 0#16 := by
    have hp : hOf (oOf x).1 (jb (oOf x).2.2) < 2 := Nat.mod_lt _ (by decide)
    refine (packG_half B _ N ⟨_, hp⟩).trans ?_
    rw [ix2_eq]
    refine congrArg (fun z => B (ValueIdx.ix2 z N) ++ 0#16) (Fin.ext ?_)
    show 2 * (2 * ((x 0).val / 5) + ((x 0).val / 5 + (5 * ((x 1).val % 4) + (x 0).val % 5) % 5) / 2)
      + ((x 0).val / 5 + (5 * ((x 1).val % 4) + (x 0).val % 5) % 5) % 2 = (x 0).val
    omega
  unfold term
  rw [hN, ec, eg, ofBits_widen]

/-- The kernel's result is the reference's histogram. -/
theorem GO_eq (A : IVec Cert.HistIdeal.S2097152x64 8) (B : IVec Cert.HistIdeal.S10x2097152 16) : GO (F := Ideal) (packC A) (packG B) = HistRef.hist A B := by
  funext x
  refine (GO_apply (packC A) (packG B) x).trans ((Finset.sum_range _).trans ?_)
  exact (Finset.sum_congr rfl fun N _ => term_eq A B x N).trans (HistRef.hist_apply A B x).symm

/-- Both programs compute the same function of the codes and the gradient. -/
theorem algebraic : Cert.algebraic_HistIdeal_HistRefIdeal := by
  intro m g m' g' _ hag
  refine ⟨fun c => GO (HistIdeal.fC m c) (HistIdeal.fG m c), ?_, ?_⟩
  · refine (θ_run (Cert.HistIdeal.defs (F := Ideal)) _ _).mono (fun r h c => ?_) (HistIdeal.run_main m g)
    exact ⟨(h.1 c).2, (h.1 c).1.1.trans (HistIdeal.VH_arg0 m c), (h.1 c).1.2.trans (HistIdeal.VH_arg1 m c)⟩
  · refine (θ_run Cert.HistRefIdeal.defs _ _).mono (fun r h c => ?_) (Cert.HistRefIdeal.Value.run m' g')
    obtain ⟨h33, hargs⟩ := h c
    obtain ⟨e0, e1⟩ := hag c
    refine ⟨(h33.trans (congrArg₂ HistRef.hist e0 e1)).trans ?_, hargs⟩
    show HistRef.hist _ _ = GO (HistIdeal.fC m c) (HistIdeal.fG m c)
    rw [HistIdeal.fC_eq, HistIdeal.fG_eq]
    exact (GO_eq _ _).symm

end Cert.Proof.HistEq
-- ==== Proof.lean ====
module

public import proofs.«01_k».proof.Defs
public import proofs.«01_k».proof.Proof.Gen.Hist
public import proofs.«01_k».proof.Proof.Gen.Hist.Skeleton
public import proofs.«01_k».proof.Proof.Gen.HistIdeal
public import proofs.«01_k».proof.Proof.Gen.HistIdeal.Skeleton
public import proofs.«01_k».proof.Proof.Gen.HistRefIdeal
public import proofs.«01_k».proof.Proof.Gen.HistRefIdeal.Run
public import proofs.«01_k».proof.Proof.Gen.Grads
public import proofs.«01_k».proof.Proof.Gen.Grads.Skeleton
public import proofs.«01_k».proof.Proof.Gen.Grads.Launch
public import proofs.«01_k».proof.Proof.Gen.Grads.Points
public import proofs.«01_k».proof.Proof.Gen.Grads.Frame
public import proofs.«01_k».proof.Proof.Gen.GradsIdeal
public import proofs.«01_k».proof.Proof.Gen.GradsIdeal.Skeleton
public import proofs.«01_k».proof.Proof.Gen.GradsIdeal.Launch
public import proofs.«01_k».proof.Proof.Gen.GradsIdeal.Points
public import proofs.«01_k».proof.Proof.Gen.GradsIdeal.Frame
public import proofs.«01_k».proof.Proof.Gen.GradsRefIdeal
public import proofs.«01_k».proof.Proof.Gen.GradsRefIdeal.Run
public import proofs.«01_k».proof.Proof.GradsEq
public import proofs.«01_k».proof.Proof.HistFrame
public import proofs.«01_k».proof.Proof.HistEq
public import Idealize.ShloMosaic.Lib.Claim
public import Idealize.ShloMosaic.Adequacy
public import Idealize.ShloMosaic.Init

@[expose] public section

noncomputable section

namespace Cert.Proof

open Idealize.ShloMosaic Idealize.SL.Sem Cert.Grads

theorem claim : Cert.Claim := ⟨Cert.Hist.Gen.facts, Cert.HistIdeal.Gen.facts, Cert.HistRefIdeal.Gen.facts,
  Cert.Grads.Gen.facts, Cert.GradsIdeal.Gen.facts, Cert.GradsRefIdeal.Gen.facts,
  fun m ρ _ => HistIdeal.frame_printed m ρ,
  fun m ρ _ => HistIdeal.frame m ρ,
  fun m ρ _ => (θ_run Cert.HistRefIdeal.defs _ _).mono
    (fun r h => ⟨fun c => (h c).2, Idealize.ShloMosaic.sem_eq_zero_of_no_sems (by decide) r.2⟩) (Cert.HistRefIdeal.Value.run m ρ),
  fun m ρ _ => Cert.Grads.Gen.frame m ρ,
  fun m ρ _ => Cert.GradsIdeal.Gen.frame m ρ,
  fun m ρ _ => (θ_run Cert.GradsRefIdeal.defs _ _).mono
    (fun r h => ⟨fun c => (h c).2.2, Idealize.ShloMosaic.sem_eq_zero_of_no_sems (by decide) r.2⟩) (Cert.GradsRefIdeal.Value.run m ρ),
  trivial,
  HistEq.algebraic,
  trivial,
  GradsEq.algebraic⟩

end Cert.Proof

end
